-- ==== Defs.lean ====
def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)) (v3 : (c : Dev Cert.Kernel4Ideal.nD) → Buf (Elt Ideal) ((c.tc : Thread Cert.Kernel4Ideal.nD Cert.Kernel4Ideal.τ).loc Cert.Kernel4Ideal.main_v21_3)) (v4 : (c : Dev Cert.Kernel4Ideal.nD) → Buf (Elt Ideal) ((c.tc : Thread Cert.Kernel4Ideal.nD Cert.Kernel4Ideal.τ).loc Cert.Kernel4Ideal.main_v21_4)) (v5 : (c : Dev Cert.Kernel4Ideal.nD) → Buf (Elt Ideal) ((c.tc : Thread Cert.Kernel4Ideal.nD Cert.Kernel4Ideal.τ).loc Cert.Kernel4Ideal.main_v21_5)) (v6 : (c : Dev Cert.Kernel4Ideal.nD) → Buf (Elt Ideal) ((c.tc : Thread Cert.Kernel4Ideal.nD Cert.Kernel4Ideal.τ).loc Cert.Kernel4Ideal.main_v21_6)) (v7 : (c : Dev Cert.Kernel4Ideal.nD) → Buf (Elt Ideal) ((c.tc : Thread Cert.Kernel4Ideal.nD Cert.Kernel4Ideal.τ).loc Cert.Kernel4Ideal.main_v21_7)) (v8 : (c : Dev Cert.Kernel4Ideal.nD) → Buf (Elt Ideal) ((c.tc : Thread Cert.Kernel4Ideal.nD Cert.Kernel4Ideal.τ).loc Cert.Kernel4Ideal.main_v21_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_v21_3) = v3 c
          ∧ r.2.mem ((c.tc : Thread Cert.Kernel4Ideal.nD Cert.Kernel4Ideal.τ).loc Cert.Kernel4Ideal.main_v21_4) = v4 c
          ∧ r.2.mem ((c.tc : Thread Cert.Kernel4Ideal.nD Cert.Kernel4Ideal.τ).loc Cert.Kernel4Ideal.main_v21_5) = v5 c
          ∧ r.2.mem ((c.tc : Thread Cert.Kernel4Ideal.nD Cert.Kernel4Ideal.τ).loc Cert.Kernel4Ideal.main_v21_6) = v6 c
          ∧ r.2.mem ((c.tc : Thread Cert.Kernel4Ideal.nD Cert.Kernel4Ideal.τ).loc Cert.Kernel4Ideal.main_v21_7) = v7 c
          ∧ r.2.mem ((c.tc : Thread Cert.Kernel4Ideal.nD Cert.Kernel4Ideal.τ).loc Cert.Kernel4Ideal.main_v21_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_v75) = v2 c
          ∧ r.2.mem ((c.tc : Thread Cert.Reference4Ideal.nD Cert.Reference4Ideal.τ).loc Cert.Reference4Ideal.main_v76) = v3 c
          ∧ r.2.mem ((c.tc : Thread Cert.Reference4Ideal.nD Cert.Reference4Ideal.τ).loc Cert.Reference4Ideal.main_v78) = v4 c
          ∧ r.2.mem ((c.tc : Thread Cert.Reference4Ideal.nD Cert.Reference4Ideal.τ).loc Cert.Reference4Ideal.main_v80) = v5 c
          ∧ r.2.mem ((c.tc : Thread Cert.Reference4Ideal.nD Cert.Reference4Ideal.τ).loc Cert.Reference4Ideal.main_v81) = v6 c
          ∧ r.2.mem ((c.tc : Thread Cert.Reference4Ideal.nD Cert.Reference4Ideal.τ).loc Cert.Reference4Ideal.main_v82) = v7 c
          ∧ r.2.mem ((c.tc : Thread Cert.Reference4Ideal.nD Cert.Reference4Ideal.τ).loc Cert.Reference4Ideal.main_v83) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel_KernelIdeal : Prop :=
  IdealRules.named_const.Statement Cert.KernelIdeal.κ "qscale" .f32 0x3E38AA3B#32 (((Real.log 256)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)) (v3 : (c : Dev Cert.Kernel5Ideal.nD) → Buf (Elt Ideal) ((c.tc : Thread Cert.Kernel5Ideal.nD Cert.Kernel5Ideal.τ).loc Cert.Kernel5Ideal.main_v15_3)) (v4 : (c : Dev Cert.Kernel5Ideal.nD) → Buf (Elt Ideal) ((c.tc : Thread Cert.Kernel5Ideal.nD Cert.Kernel5Ideal.τ).loc Cert.Kernel5Ideal.main_v15_4)) (v5 : (c : Dev Cert.Kernel5Ideal.nD) → Buf (Elt Ideal) ((c.tc : Thread Cert.Kernel5Ideal.nD Cert.Kernel5Ideal.τ).loc Cert.Kernel5Ideal.main_v15_5)) (v6 : (c : Dev Cert.Kernel5Ideal.nD) → Buf (Elt Ideal) ((c.tc : Thread Cert.Kernel5Ideal.nD Cert.Kernel5Ideal.τ).loc Cert.Kernel5Ideal.main_v15_6)) (v7 : (c : Dev Cert.Kernel5Ideal.nD) → Buf (Elt Ideal) ((c.tc : Thread Cert.Kernel5Ideal.nD Cert.Kernel5Ideal.τ).loc Cert.Kernel5Ideal.main_v15_7)) (v8 : (c : Dev Cert.Kernel5Ideal.nD) → Buf (Elt Ideal) ((c.tc : Thread Cert.Kernel5Ideal.nD Cert.Kernel5Ideal.τ).loc Cert.Kernel5Ideal.main_v15_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_v15_3) = v3 c
          ∧ r.2.mem ((c.tc : Thread Cert.Kernel5Ideal.nD Cert.Kernel5Ideal.τ).loc Cert.Kernel5Ideal.main_v15_4) = v4 c
          ∧ r.2.mem ((c.tc : Thread Cert.Kernel5Ideal.nD Cert.Kernel5Ideal.τ).loc Cert.Kernel5Ideal.main_v15_5) = v5 c
          ∧ r.2.mem ((c.tc : Thread Cert.Kernel5Ideal.nD Cert.Kernel5Ideal.τ).loc Cert.Kernel5Ideal.main_v15_6) = v6 c
          ∧ r.2.mem ((c.tc : Thread Cert.Kernel5Ideal.nD Cert.Kernel5Ideal.τ).loc Cert.Kernel5Ideal.main_v15_7) = v7 c
          ∧ r.2.mem ((c.tc : Thread Cert.Kernel5Ideal.nD Cert.Kernel5Ideal.τ).loc Cert.Kernel5Ideal.main_v15_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_v43) = v3 c
          ∧ r.2.mem ((c.tc : Thread Cert.Reference5Ideal.nD Cert.Reference5Ideal.τ).loc Cert.Reference5Ideal.main_v45) = v4 c
          ∧ r.2.mem ((c.tc : Thread Cert.Reference5Ideal.nD Cert.Reference5Ideal.τ).loc Cert.Reference5Ideal.main_v47) = v5 c
          ∧ r.2.mem ((c.tc : Thread Cert.Reference5Ideal.nD Cert.Reference5Ideal.τ).loc Cert.Reference5Ideal.main_v48) = v6 c
          ∧ r.2.mem ((c.tc : Thread Cert.Reference5Ideal.nD Cert.Reference5Ideal.τ).loc Cert.Reference5Ideal.main_v49) = v7 c
          ∧ r.2.mem ((c.tc : Thread Cert.Reference5Ideal.nD Cert.Reference5Ideal.τ).loc Cert.Reference5Ideal.main_v50) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v29)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v73) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def Claim : Prop :=
  ∃ (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel : Cert.Kernel.Facts) (hKernelIdeal : Cert.KernelIdeal.Facts) (hReferenceIdeal : Cert.ReferenceIdeal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x8192x8x64 : Shape := ⟨4, ![4, 8192, 8, 64]⟩
abbrev S4x8192x2x64 : Shape := ⟨4, ![4, 8192, 2, 64]⟩
abbrev S4x256x2x64 : Shape := ⟨4, ![4, 256, 2, 64]⟩
abbrev S8 : Shape := ⟨1, ![8]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x2x64 : S_.BroadcastsInDim S4x8192x2x64 (![] : Fin 0 → Fin S4x8192x2x64.rank)
  reducesTo_S4x8192x2x64_S_d0_1_2_3 : S4x8192x2x64.ReducesTo [0, 1, 2, 3] S_
  bcast_S_S4x256x2x64 : S_.BroadcastsInDim S4x256x2x64 (![] : Fin 0 → Fin S4x256x2x64.rank)
  reducesTo_S4x256x2x64_S_d0_1_2_3 : S4x256x2x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S4x8192x8x64 .f32) (main_arg1 : FVec F S4x8192x2x64 .f32) (main_arg2 : FVec F S4x8192x2x64 .f32) (main_arg3 : FVec F S4x256x2x64 .f32) (main_arg4 : FVec F S4x256x2x64 .f32) (main_arg5 : FVec F S8 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x2x64 .f32 := Host.absf main_arg1
  let main_cst_0 : FVec F S_ .f32 := constant S_ .f32 0x7F800000#32
  let main_v5 : FVec F S4x8192x2x64 .f32 := broadcastInDim S4x8192x2x64 ![] bcast_S_S4x8192x2x64 main_cst_0
  let main_v6 : IVec S4x8192x2x64 1 := cmpf .olt main_v4 main_v5
  let main_c_1 : IVec S_ 1 := constantI S_ 1 1#1
  let main_v7 : IVec S_ 1 := (fun x v => Host.reduce IntOp.andi x v reducesTo_S4x8192x2x64_S_d0_1_2_3 h_S_) main_v6 main_c_1
  let main_v8 : IVec S_ 1 := andi main_v3 main_v7
  let main_v9 : FVec F S4x256x2x64 .f32 := Host.absf main_arg3
  let main_cst_2 : FVec F S_ .f32 := constant S_ .f32 0x7F800000#32
  let main_v10 : FVec F S4x256x2x64 .f32 := broadcastInDim S4x256x2x64 ![] bcast_S_S4x256x2x64 main_cst_2
  let main_v11 : IVec S4x256x2x64 1 := cmpf .olt main_v9 main_v10
  let main_c_3 : IVec S_ 1 := constantI S_ 1 1#1
  let main_v12 : IVec S_ 1 := (fun x v => Host.reduce IntOp.andi x v reducesTo_S4x256x2x64_S_d0_1_2_3 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel3.lean ====
abbrev S4x8192x1024 : Shape := ⟨3, ![4, 8192, 1024]⟩
abbrev S4x8192x512 : Shape := ⟨3, ![4, 8192, 512]⟩
abbrev S4x8192x3072 : Shape := ⟨3, ![4, 8192, 3072]⟩
abbrev S4x1x1024 : Shape := ⟨3, ![4, 1, 1024]⟩
abbrev S4x1024 : Shape := ⟨2, ![4, 1024]⟩
abbrev S4x1536x1024 : Shape := ⟨3, ![4, 1536, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S_ : Shape := ⟨0, ![]⟩
abbrev S8x1x1024 : Shape := ⟨3, ![8, 1, 1024]⟩
abbrev S32768x1024 : Shape := ⟨2, ![32768, 1024]⟩
abbrev S32768x512 : Shape := ⟨2, ![32768, 512]⟩
abbrev S512x32768 : Shape := ⟨2, ![512, 32768]⟩
abbrev S32768x3072 : Shape := ⟨2, ![32768, 3072]⟩
abbrev S1x1024 : Shape := ⟨2, ![1, 1024]⟩
abbrev S1024 : Shape := ⟨1, ![1024]⟩
abbrev S512x1024 : Shape := ⟨2, ![512, 1024]⟩
abbrev S512x512 : Shape := ⟨2, ![512, 512]⟩
abbrev S512x3072 : Shape := ⟨2, ![512, 3072]⟩
abbrev S1x1x1024 : Shape := ⟨3, ![1, 1, 1024]⟩
abbrev S1x1536x1024 : Shape := ⟨3, ![1, 1536, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 44
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x3072, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1024, .f32⟩
  | .hbm, ⟨10, _⟩ => ⟨S4x1536x1024, .f32⟩
  | .hbm, ⟨11, _⟩ => ⟨S4x1024x1024, .f32⟩
  | .hbm, ⟨12, _⟩ => ⟨S4x1024x4096, .f32⟩
  | .hbm, ⟨13, _⟩ => ⟨S4x4096x1024, .f32⟩
  | .hbm, ⟨14, _⟩ => ⟨S_, .f32⟩
  | .hbm, ⟨15, _⟩ => ⟨S4x1x1024, .f32⟩
  | .hbm, ⟨16, _⟩ => ⟨S8x1x1024, .f32⟩
  | .hbm, ⟨17, _⟩ => ⟨S_, .f32⟩
  | .hbm, ⟨18, _⟩ => ⟨S4x1x1024, .f32⟩
  | .hbm, ⟨19, _⟩ => ⟨S8x1x1024, .f32⟩
  | .hbm, ⟨20, _⟩ => ⟨S_, .f32⟩
  | .hbm, ⟨21, _⟩ => ⟨S4x1x1024, .f32⟩
  | .hbm, ⟨22, _⟩ => ⟨S8x1x1024, .f32⟩
  | .hbm, ⟨23, _⟩ => ⟨S_, .f32⟩
  | .hbm, ⟨24, _⟩ => ⟨S4x1x1024, .f32⟩
  | .hbm, ⟨25, _⟩ => ⟨S8x1x1024, .f32⟩
  | .hbm, ⟨26, _⟩ => ⟨S4x1536x1024, .bf16⟩
  | .hbm, ⟨27, _⟩ => ⟨S4x1024x1024, .bf16⟩
  | .hbm, ⟨28, _⟩ => ⟨S4x1024x4096, .bf16⟩
  | .hbm, ⟨29, _⟩ => ⟨S4x4096x1024, .bf16⟩
  | .hbm, ⟨30, _⟩ => ⟨S32768x1024, .f32⟩
  | .hbm, ⟨31, _⟩ => ⟨S32768x512, .f32⟩
  | .hbm, ⟨32, _⟩ => ⟨S32768x512, .bf16⟩
  | .hbm, ⟨33, _⟩ => ⟨S512x32768, .bf16⟩
  | .hbm, ⟨34, _⟩ => ⟨S32768x512, .f32⟩
  | .hbm, ⟨35, _⟩ => ⟨S32768x512, .bf16⟩
  | .hbm, ⟨36, _⟩ => ⟨S32768x512, .f32⟩
  | .hbm, ⟨37, _⟩ => ⟨S32768x512, .bf16⟩
  | .hbm, ⟨38, _⟩ => ⟨S512x32768, .bf16⟩
  | .hbm, ⟨39, _⟩ => ⟨S32768x3072, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .f32⟩
  | .local _ .vmem, ⟨9, _⟩ => ⟨S512x3072, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1536x1024, .bf16⟩
  | .local _ .vmem, ⟨20, _⟩ => ⟨S1x1024x1024, .bf16⟩
  | .local _ .vmem, ⟨21, _⟩ => ⟨S1x1024x4096, .bf16⟩
  | .local _ .vmem, ⟨22, _⟩ => ⟨S1x4096x1024, .bf16⟩
  | .local _ .vmem, ⟨23, _⟩ => ⟨S512x1024, .f32⟩
  | .local _ .vmem, ⟨24, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1536x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S4x8192x1024 : Shape := ⟨3, ![4, 8192, 1024]⟩
abbrev S4x8192x512 : Shape := ⟨3, ![4, 8192, 512]⟩
abbrev S4x8192x3072 : Shape := ⟨3, ![4, 8192, 3072]⟩
abbrev S4x1x1024 : Shape := ⟨3, ![4, 1, 1024]⟩
abbrev S4x1024 : Shape := ⟨2, ![4, 1024]⟩
abbrev S4x1536x1024 : Shape := ⟨3, ![4, 1536, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1x512x1024 : Shape := ⟨3, ![1, 512, 1024]⟩
abbrev S512x1024 : Shape := ⟨2, ![512, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x8192x4096 : Shape := ⟨3, ![4, 8192, 4096]⟩
abbrev S1x4096x1024 : Shape := ⟨3, ![1, 4096, 1024]⟩
abbrev S4096x1024 : Shape := ⟨2, ![4096, 1024]⟩
abbrev S32768x1024 : Shape := ⟨2, ![32768, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x3072, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1024, .f32⟩
  | .hbm, ⟨10, _⟩ => ⟨S4x1536x1024, .f32⟩
  | .hbm, ⟨11, _⟩ => ⟨S4x1024x1024, .f32⟩
  | .hbm, ⟨12, _⟩ => ⟨S4x1024x4096, .f32⟩
  | .hbm, ⟨13, _⟩ => ⟨S4x4096x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S1x512x1024, .f32⟩
  | .hbm, ⟨18, _⟩ => ⟨S512x1024, .f32⟩
  | .hbm, ⟨19, _⟩ => ⟨S1x512x1024, .f32⟩
  | .hbm, ⟨20, _⟩ => ⟨S512x1024, .f32⟩
  | .hbm, ⟨21, _⟩ => ⟨S1x512x1024, .f32⟩
  | .hbm, ⟨22, _⟩ => ⟨S512x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192x1024, .f32⟩
  | .hbm, ⟨48, _⟩ => ⟨S4x8192x1024, .f32⟩
  | .hbm, ⟨49, _⟩ => ⟨S_, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S1x1024x1024, .f32⟩
  | .hbm, ⟨56, _⟩ => ⟨S1024x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S1x1024, .f32⟩
  | .hbm, ⟨62, _⟩ => ⟨S1024, .f32⟩
  | .hbm, ⟨63, _⟩ => ⟨S4x8192x1024, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S_, .f32⟩
  | .hbm, ⟨68, _⟩ => ⟨S4x8192x1, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S4x8192x1, .f32⟩
  | .hbm, ⟨74, _⟩ => ⟨S4x8192x1024, .f32⟩
  | .hbm, ⟨75, _⟩ => ⟨S4x8192x1024, .f32⟩
  | .hbm, ⟨76, _⟩ => ⟨S1x1x1024, .f32⟩
  | .hbm, ⟨77, _⟩ => ⟨S4x8192x1024, .f32⟩
  | .hbm, ⟨78, _⟩ => ⟨S4x8192x1024, .f32⟩
  | .hbm, ⟨79, _⟩ => ⟨S_, .f32⟩
  | .hbm, ⟨80, _⟩ => ⟨S4x1x1024, .f32⟩
  | .hbm, ⟨81, _⟩ => ⟨S4x1x1024, .f32⟩
  | .hbm, ⟨82, _⟩ => ⟨S4x8192x1024, .f32⟩
  | .hbm, ⟨83, _⟩ => ⟨S4x8192x1024, .f32⟩
  | .hbm, ⟨84, _⟩ => ⟨S4x8192x1024, .f32⟩
  | .hbm, ⟨85, _⟩ => ⟨S4x8192x1024, .f32⟩
  | .hbm, ⟨86, _⟩ => ⟨S1x1024x4096, .f32⟩
  | .hbm, ⟨87, _⟩ => ⟨S1024x4096, .f32⟩
  | .hbm, ⟨88, _⟩ => ⟨S4x8192x4096, .f32⟩
  | .hbm, ⟨89, _⟩ => ⟨S_, .f32⟩
  | .hbm, ⟨90, _⟩ => ⟨S4x8192x4096, .f32⟩
  | .hbm, ⟨91, _⟩ => ⟨S4x8192x4096, .f32⟩
  | .hbm, ⟨92, _⟩ => ⟨S4x8192x4096, .f32⟩
  | .hbm, ⟨93, _⟩ => ⟨S1x4096x1024, .f32⟩
  | .hbm, ⟨94, _⟩ => ⟨S4096x1024, .f32⟩
  | .hbm, ⟨95, _⟩ => ⟨S4x8192x1024, .f32⟩
  | .hbm, ⟨96, _⟩ => ⟨S4x8192x1024, .f32⟩
  | .hbm, ⟨97, _⟩ => ⟨S4x8192x1024, .f32⟩
  | .hbm, ⟨98, _⟩ => ⟨S4x8192x1024, .f32⟩
  | .hbm, ⟨99, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call0_cst : Ref sig .tc := ⟨.hbm, 89, rfl⟩
abbrev main_call0_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1x1024 : Shape := ⟨3, ![4, 1, 1024]⟩
abbrev S8192x32 : Shape := ⟨2, ![8192, 32]⟩
abbrev S4x1024 : Shape := ⟨2, ![4, 1024]⟩
abbrev S4x1024x6400 : Shape := ⟨3, ![4, 1024, 6400]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S4x1024x128 : Shape := ⟨3, ![4, 1024, 128]⟩
abbrev S4x1024x2x1x64 : Shape := ⟨5, ![4, 1024, 2, 1, 64]⟩
abbrev S4x1024x2x2x64 : Shape := ⟨5, ![4, 1024, 2, 2, 64]⟩
abbrev S4x1024x256 : Shape := ⟨3, ![4, 1024, 256]⟩
abbrev S32768x1024 : Shape := ⟨2, ![32768, 1024]⟩
abbrev S_ : Shape := ⟨0, ![]⟩
abbrev S8x1x1024 : Shape := ⟨3, ![8, 1, 1024]⟩
abbrev S1x1024 : Shape := ⟨2, ![1, 1024]⟩
abbrev S1024 : Shape := ⟨1, ![1024]⟩
abbrev S32768x512 : Shape := ⟨2, ![32768, 512]⟩
abbrev S32768x256 : Shape := ⟨2, ![32768, 256]⟩
abbrev S32768x3072 : Shape := ⟨2, ![32768, 3072]⟩
abbrev S128x512x256 : Shape := ⟨3, ![128, 512, 256]⟩
abbrev S256x128x128 : Shape := ⟨3, ![256, 128, 128]⟩
abbrev S512x1024 : Shape := ⟨2, ![512, 1024]⟩
abbrev S1x1x1024 : Shape := ⟨3, ![1, 1, 1024]⟩
abbrev S512x128 : Shape := ⟨2, ![512, 128]⟩
abbrev S1x1024x6400 : Shape := ⟨3, ![1, 1024, 6400]⟩
abbrev S1x1024x256 : Shape := ⟨3, ![1, 1024, 256]⟩
abbrev S512x512 : Shape := ⟨2, ![512, 512]⟩
abbrev S512x256 : Shape := ⟨2, ![512, 256]⟩
abbrev S512x3072 : Shape := ⟨2, ![512, 3072]⟩
abbrev S2x512x256 : Shape := ⟨3, ![2, 512, 256]⟩
abbrev S4x128x128 : Shape := ⟨3, ![4, 128, 128]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩
abbrev S256x1024 : Shape := ⟨2, ![256, 1024]⟩
abbrev S1x512x256 : Shape := ⟨3, ![1, 512, 256]⟩
abbrev S1x1024x128 : Shape := ⟨3, ![1, 1024, 128]⟩
abbrev S1024x128 : Shape := ⟨2, ![1024, 128]⟩
abbrev S128x1024 : Shape := ⟨2, ![128, 1024]⟩
abbrev S128x128 : Shape := ⟨2, ![128, 128]⟩
abbrev S1x128x128 : Shape := ⟨3, ![1, 128, 128]⟩

abbrev nBuf : Space → Nat
  | .hbm => 39
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S8192x32, .f32⟩
  | .hbm, ⟨4, _⟩ => ⟨S8192x32, .f32⟩
  | .hbm, ⟨5, _⟩ => ⟨S4x1024, .f32⟩
  | .hbm, ⟨6, _⟩ => ⟨S4x1024x6400, .f32⟩
  | .hbm, ⟨7, _⟩ => ⟨S1x8192x1x32, .f32⟩
  | .hbm, ⟨8, _⟩ => ⟨S1x8192x4x32, .f32⟩
  | .hbm, ⟨9, _⟩ => ⟨S8192x128, .f32⟩
  | .hbm, ⟨10, _⟩ => ⟨S8192x32, .f32⟩
  | .hbm, ⟨11, _⟩ => ⟨S8192x64, .f32⟩
  | .hbm, ⟨12, _⟩ => ⟨S1x8192x1x64, .f32⟩
  | .hbm, ⟨13, _⟩ => ⟨S1x8192x2x64, .f32⟩
  | .hbm, ⟨14, _⟩ => ⟨S8192x128, .f32⟩
  | .hbm, ⟨15, _⟩ => ⟨S4x1024x6400, .bf16⟩
  | .hbm, ⟨16, _⟩ => ⟨S4x1024x128, .bf16⟩
  | .hbm, ⟨17, _⟩ => ⟨S4x1024x2x1x64, .bf16⟩
  | .hbm, ⟨18, _⟩ => ⟨S4x1024x2x2x64, .bf16⟩
  | .hbm, ⟨19, _⟩ => ⟨S4x1024x256, .bf16⟩
  | .hbm, ⟨20, _⟩ => ⟨S32768x1024, .f32⟩
  | .hbm, ⟨21, _⟩ => ⟨S_, .f32⟩
  | .hbm, ⟨22, _⟩ => ⟨S4x1x1024, .f32⟩
  | .hbm, ⟨23, _⟩ => ⟨S8x1x1024, .f32⟩
  | .hbm, ⟨24, _⟩ => ⟨S_, .f32⟩
  | .hbm, ⟨25, _⟩ => ⟨S4x1x1024, .f32⟩
  | .hbm, ⟨26, _⟩ => ⟨S8x1x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S32768x512, .bf16⟩
  | .hbm, ⟨31, _⟩ => ⟨S32768x512, .bf16⟩
  | .hbm, ⟨32, _⟩ => ⟨S32768x512, .f32⟩
  | .hbm, ⟨33, _⟩ => ⟨S32768x512, .f32⟩
  | .hbm, ⟨34, _⟩ => ⟨S32768x512, .bf16⟩
  | .hbm, ⟨35, _⟩ => ⟨S32768x256, .bf16⟩
  | .hbm, ⟨36, _⟩ => ⟨S32768x3072, .f32⟩
  | .hbm, ⟨37, _⟩ => ⟨S128x512x256, .bf16⟩
  | .hbm, ⟨38, _⟩ => ⟨S256x128x128, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x1024x6400, .bf16⟩
  | .local _ .vmem, ⟨12, _⟩ => ⟨S1x1024x256, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S512x256, .bf16⟩
  | .local _ .vmem, ⟨24, _⟩ => ⟨S512x256, .bf16⟩
  | .local _ .vmem, ⟨25, _⟩ => ⟨S512x3072, .f32⟩
  | .local _ .vmem, ⟨26, _⟩ => ⟨S512x3072, .f32⟩
  | .local _ .vmem, ⟨27, _⟩ => ⟨S2x512x256, .bf16⟩
  | .local _ .vmem, ⟨28, _⟩ => ⟨S2x512x256, .bf16⟩
  | .local _ .vmem, ⟨29, _⟩ => ⟨S4x128x128, .bf16⟩
  | .local _ .vmem, ⟨30, _⟩ => ⟨S4x128x128, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev main_v21_6 : Ref sig .tc := ⟨.hbm, 36, rfl⟩
abbrev main_v21_7 : Ref sig .tc := ⟨.hbm, 37, rfl⟩
abbrev main_v21_8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x6400 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S4x8192x1024 : Shape := ⟨3, ![4, 8192, 1024]⟩
abbrev S4x1x1024 : Shape := ⟨3, ![4, 1, 1024]⟩
abbrev S8192x32 : Shape := ⟨2, ![8192, 32]⟩
abbrev S4x1024 : Shape := ⟨2, ![4, 1024]⟩
abbrev S4x1024x6400 : Shape := ⟨3, ![4, 1024, 6400]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x6400 : Shape := ⟨3, ![1, 1024, 6400]⟩
abbrev S1024x6400 : Shape := ⟨2, ![1024, 6400]⟩
abbrev S4x8192x6400 : Shape := ⟨3, ![4, 8192, 6400]⟩
abbrev S4x8192x512 : Shape := ⟨3, ![4, 8192, 512]⟩
abbrev S4x8192x128 : Shape := ⟨3, ![4, 8192, 128]⟩
abbrev S4x8192x3072 : Shape := ⟨3, ![4, 8192, 3072]⟩
abbrev S4x8192x8x64 : Shape := ⟨4, ![4, 8192, 8, 64]⟩
abbrev S4x8192x8x32 : Shape := ⟨4, ![4, 8192, 8, 32]⟩
abbrev S1x8192x1x32 : Shape := ⟨4, ![1, 8192, 1, 32]⟩
abbrev S4x8192x2x64 : Shape := ⟨4, ![4, 8192, 2, 64]⟩
abbrev S4x8192x2x32 : Shape := ⟨4, ![4, 8192, 2, 32]⟩
abbrev S4x8192x2x1x64 : Shape := ⟨5, ![4, 8192, 2, 1, 64]⟩
abbrev S4x8192x2x2x64 : Shape := ⟨5, ![4, 8192, 2, 2, 64]⟩
abbrev S128x256x512 : Shape := ⟨3, ![128, 256, 512]⟩
abbrev S128x512x256 : Shape := ⟨3, ![128, 512, 256]⟩
abbrev S256x128x128 : Shape := ⟨3, ![256, 128, 128]⟩
abbrev S32768x512 : Shape := ⟨2, ![32768, 512]⟩
abbrev S32768x256 : Shape := ⟨2, ![32768, 256]⟩
abbrev S32768x3072 : Shape := ⟨2, ![32768, 3072]⟩

abbrev nBuf : Space → Nat
  | .hbm => 95
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S8192x32, .f32⟩
  | .hbm, ⟨4, _⟩ => ⟨S8192x32, .f32⟩
  | .hbm, ⟨5, _⟩ => ⟨S4x1024, .f32⟩
  | .hbm, ⟨6, _⟩ => ⟨S4x1024x6400, .f32⟩
  | .hbm, ⟨7, _⟩ => ⟨S1x1024, .f32⟩
  | .hbm, ⟨8, _⟩ => ⟨S1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S1x1024x6400, .f32⟩
  | .hbm, ⟨33, _⟩ => ⟨S1024x6400, .f32⟩
  | .hbm, ⟨34, _⟩ => ⟨S4x8192x6400, .f32⟩
  | .hbm, ⟨35, _⟩ => ⟨S4x8192x512, .f32⟩
  | .hbm, ⟨36, _⟩ => ⟨S4x8192x512, .f32⟩
  | .hbm, ⟨37, _⟩ => ⟨S4x8192x512, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S4x8192x128, .f32⟩
  | .hbm, ⟨42, _⟩ => ⟨S4x8192x128, .f32⟩
  | .hbm, ⟨43, _⟩ => ⟨S4x8192x3072, .f32⟩
  | .hbm, ⟨44, _⟩ => ⟨S4x8192x8x64, .f32⟩
  | .hbm, ⟨45, _⟩ => ⟨S4x8192x8x32, .f32⟩
  | .hbm, ⟨46, _⟩ => ⟨S4x8192x8x32, .f32⟩
  | .hbm, ⟨47, _⟩ => ⟨S1x8192x1x32, .f32⟩
  | .hbm, ⟨48, _⟩ => ⟨S1x8192x1x32, .f32⟩
  | .hbm, ⟨49, _⟩ => ⟨S4x8192x8x32, .f32⟩
  | .hbm, ⟨50, _⟩ => ⟨S4x8192x8x32, .f32⟩
  | .hbm, ⟨51, _⟩ => ⟨S4x8192x8x32, .f32⟩
  | .hbm, ⟨52, _⟩ => ⟨S4x8192x8x32, .f32⟩
  | .hbm, ⟨53, _⟩ => ⟨S4x8192x8x32, .f32⟩
  | .hbm, ⟨54, _⟩ => ⟨S4x8192x8x32, .f32⟩
  | .hbm, ⟨55, _⟩ => ⟨S4x8192x8x32, .f32⟩
  | .hbm, ⟨56, _⟩ => ⟨S4x8192x8x32, .f32⟩
  | .hbm, ⟨57, _⟩ => ⟨S4x8192x8x32, .f32⟩
  | .hbm, ⟨58, _⟩ => ⟨S4x8192x8x32, .f32⟩
  | .hbm, ⟨59, _⟩ => ⟨S4x8192x8x64, .f32⟩
  | .hbm, ⟨60, _⟩ => ⟨S4x8192x2x64, .f32⟩
  | .hbm, ⟨61, _⟩ => ⟨S4x8192x2x32, .f32⟩
  | .hbm, ⟨62, _⟩ => ⟨S4x8192x2x32, .f32⟩
  | .hbm, ⟨63, _⟩ => ⟨S1x8192x1x32, .f32⟩
  | .hbm, ⟨64, _⟩ => ⟨S1x8192x1x32, .f32⟩
  | .hbm, ⟨65, _⟩ => ⟨S4x8192x2x32, .f32⟩
  | .hbm, ⟨66, _⟩ => ⟨S4x8192x2x32, .f32⟩
  | .hbm, ⟨67, _⟩ => ⟨S4x8192x2x32, .f32⟩
  | .hbm, ⟨68, _⟩ => ⟨S4x8192x2x32, .f32⟩
  | .hbm, ⟨69, _⟩ => ⟨S4x8192x2x32, .f32⟩
  | .hbm, ⟨70, _⟩ => ⟨S4x8192x2x32, .f32⟩
  | .hbm, ⟨71, _⟩ => ⟨S4x8192x2x32, .f32⟩
  | .hbm, ⟨72, _⟩ => ⟨S4x8192x2x32, .f32⟩
  | .hbm, ⟨73, _⟩ => ⟨S4x8192x2x32, .f32⟩
  | .hbm, ⟨74, _⟩ => ⟨S4x8192x2x32, .f32⟩
  | .hbm, ⟨75, _⟩ => ⟨S4x8192x2x64, .f32⟩
  | .hbm, ⟨76, _⟩ => ⟨S4x8192x2x1x64, .f32⟩
  | .hbm, ⟨77, _⟩ => ⟨S4x8192x2x2x64, .f32⟩
  | .hbm, ⟨78, _⟩ => ⟨S128x256x512, .f32⟩
  | .hbm, ⟨79, _⟩ => ⟨S128x512x256, .f32⟩
  | .hbm, ⟨80, _⟩ => ⟨S256x128x128, .f32⟩
  | .hbm, ⟨81, _⟩ => ⟨S256x128x128, .f32⟩
  | .hbm, ⟨82, _⟩ => ⟨S32768x512, .f32⟩
  | .hbm, ⟨83, _⟩ => ⟨S32768x512, .bf16⟩
  | .hbm, ⟨84, _⟩ => ⟨S32768x512, .f32⟩
  | .hbm, ⟨85, _⟩ => ⟨S32768x512, .bf16⟩
  | .hbm, ⟨86, _⟩ => ⟨S32768x512, .f32⟩
  | .hbm, ⟨87, _⟩ => ⟨S32768x512, .f32⟩
  | .hbm, ⟨88, _⟩ => ⟨S32768x512, .f32⟩
  | .hbm, ⟨89, _⟩ => ⟨S32768x512, .bf16⟩
  | .hbm, ⟨90, _⟩ => ⟨S32768x256, .f32⟩
  | .hbm, ⟨91, _⟩ => ⟨S32768x256, .bf16⟩
  | .hbm, ⟨92, _⟩ => ⟨S32768x3072, .f32⟩
  | .hbm, ⟨93, _⟩ => ⟨S128x512x256, .bf16⟩
  | .hbm, ⟨94, _⟩ => ⟨S256x128x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S4x8192x3072 : Shape := ⟨3, ![4, 8192, 3072]⟩
abbrev S4x1x1024 : Shape := ⟨3, ![4, 1, 1024]⟩
abbrev S4x1024 : Shape := ⟨2, ![4, 1024]⟩
abbrev S4x1536x1024 : Shape := ⟨3, ![4, 1536, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1024 : Shape := ⟨1, ![1024]⟩
abbrev S_ : Shape := ⟨0, ![]⟩
abbrev S8x1x1024 : Shape := ⟨3, ![8, 1, 1024]⟩
abbrev S32768x1024 : Shape := ⟨2, ![32768, 1024]⟩
abbrev S32768x512 : Shape := ⟨2, ![32768, 512]⟩
abbrev S512x32768 : Shape := ⟨2, ![512, 32768]⟩
abbrev S32768x3072 : Shape := ⟨2, ![32768, 3072]⟩
abbrev S1x1024 : Shape := ⟨2, ![1, 1024]⟩
abbrev S512x1024 : Shape := ⟨2, ![512, 1024]⟩
abbrev S512x512 : Shape := ⟨2, ![512, 512]⟩
abbrev S512x3072 : Shape := ⟨2, ![512, 3072]⟩
abbrev S1x1x1024 : Shape := ⟨3, ![1, 1, 1024]⟩
abbrev S1x1536x1024 : Shape := ⟨3, ![1, 1536, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 46
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x3072, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1024, .f32⟩
  | .hbm, ⟨10, _⟩ => ⟨S4x1536x1024, .f32⟩
  | .hbm, ⟨11, _⟩ => ⟨S4x1024x1024, .f32⟩
  | .hbm, ⟨12, _⟩ => ⟨S4x1024x4096, .f32⟩
  | .hbm, ⟨13, _⟩ => ⟨S4x4096x1024, .f32⟩
  | .hbm, ⟨14, _⟩ => ⟨S1024, .f32⟩
  | .hbm, ⟨15, _⟩ => ⟨S_, .f32⟩
  | .hbm, ⟨16, _⟩ => ⟨S4x1x1024, .f32⟩
  | .hbm, ⟨17, _⟩ => ⟨S8x1x1024, .f32⟩
  | .hbm, ⟨18, _⟩ => ⟨S_, .f32⟩
  | .hbm, ⟨19, _⟩ => ⟨S4x1x1024, .f32⟩
  | .hbm, ⟨20, _⟩ => ⟨S8x1x1024, .f32⟩
  | .hbm, ⟨21, _⟩ => ⟨S_, .f32⟩
  | .hbm, ⟨22, _⟩ => ⟨S4x1x1024, .f32⟩
  | .hbm, ⟨23, _⟩ => ⟨S8x1x1024, .f32⟩
  | .hbm, ⟨24, _⟩ => ⟨S_, .f32⟩
  | .hbm, ⟨25, _⟩ => ⟨S4x1x1024, .f32⟩
  | .hbm, ⟨26, _⟩ => ⟨S8x1x1024, .f32⟩
  | .hbm, ⟨27, _⟩ => ⟨S4x1536x1024, .bf16⟩
  | .hbm, ⟨28, _⟩ => ⟨S4x1024x1024, .bf16⟩
  | .hbm, ⟨29, _⟩ => ⟨S4x1024x4096, .bf16⟩
  | .hbm, ⟨30, _⟩ => ⟨S4x4096x1024, .bf16⟩
  | .hbm, ⟨31, _⟩ => ⟨S32768x1024, .f32⟩
  | .hbm, ⟨32, _⟩ => ⟨S32768x512, .f32⟩
  | .hbm, ⟨33, _⟩ => ⟨S32768x512, .bf16⟩
  | .hbm, ⟨34, _⟩ => ⟨S512x32768, .bf16⟩
  | .hbm, ⟨35, _⟩ => ⟨S32768x512, .f32⟩
  | .hbm, ⟨36, _⟩ => ⟨S32768x512, .bf16⟩
  | .hbm, ⟨37, _⟩ => ⟨S32768x512, .f32⟩
  | .hbm, ⟨38, _⟩ => ⟨S32768x512, .bf16⟩
  | .hbm, ⟨39, _⟩ => ⟨S512x32768, .bf16⟩
  | .hbm, ⟨40, _⟩ => ⟨S32768x3072, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S1x1024, .f32⟩
  | .hbm, ⟨45, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .f32⟩
  | .local _ .vmem, ⟨9, _⟩ => ⟨S512x3072, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1536x1024, .bf16⟩
  | .local _ .vmem, ⟨20, _⟩ => ⟨S1x1024x1024, .bf16⟩
  | .local _ .vmem, ⟨21, _⟩ => ⟨S1x1024x4096, .bf16⟩
  | .local _ .vmem, ⟨22, _⟩ => ⟨S1x4096x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1536x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S4x8192x1024 : Shape := ⟨3, ![4, 8192, 1024]⟩
abbrev S4x8192x512 : Shape := ⟨3, ![4, 8192, 512]⟩
abbrev S4x8192x3072 : Shape := ⟨3, ![4, 8192, 3072]⟩
abbrev S4x1x1024 : Shape := ⟨3, ![4, 1, 1024]⟩
abbrev S4x1024 : Shape := ⟨2, ![4, 1024]⟩
abbrev S4x1536x1024 : Shape := ⟨3, ![4, 1536, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1024 : Shape := ⟨1, ![1024]⟩
abbrev S1x512x1024 : Shape := ⟨3, ![1, 512, 1024]⟩
abbrev S512x1024 : Shape := ⟨2, ![512, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x8192x4096 : Shape := ⟨3, ![4, 8192, 4096]⟩
abbrev S1x4096x1024 : Shape := ⟨3, ![1, 4096, 1024]⟩
abbrev S4096x1024 : Shape := ⟨2, ![4096, 1024]⟩
abbrev S32768x1024 : Shape := ⟨2, ![32768, 1024]⟩

abbrev nBuf : Space → Nat
  | .hbm => 117
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x3072, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1024, .f32⟩
  | .hbm, ⟨10, _⟩ => ⟨S4x1536x1024, .f32⟩
  | .hbm, ⟨11, _⟩ => ⟨S4x1024x1024, .f32⟩
  | .hbm, ⟨12, _⟩ => ⟨S4x1024x4096, .f32⟩
  | .hbm, ⟨13, _⟩ => ⟨S4x4096x1024, .f32⟩
  | .hbm, ⟨14, _⟩ => ⟨S1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S1x512x1024, .f32⟩
  | .hbm, ⟨19, _⟩ => ⟨S512x1024, .f32⟩
  | .hbm, ⟨20, _⟩ => ⟨S1x512x1024, .f32⟩
  | .hbm, ⟨21, _⟩ => ⟨S512x1024, .f32⟩
  | .hbm, ⟨22, _⟩ => ⟨S1x512x1024, .f32⟩
  | .hbm, ⟨23, _⟩ => ⟨S512x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S_, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S1x1024x1024, .f32⟩
  | .hbm, ⟨57, _⟩ => ⟨S1024x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S1x1024, .f32⟩
  | .hbm, ⟨63, _⟩ => ⟨S1024, .f32⟩
  | .hbm, ⟨64, _⟩ => ⟨S4x8192x1024, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S_, .f32⟩
  | .hbm, ⟨69, _⟩ => ⟨S4x8192x1, .f32⟩
  | .hbm, ⟨70, _⟩ => ⟨S4x8192x1, .f32⟩
  | .hbm, ⟨71, _⟩ => ⟨S_, .f32⟩
  | .hbm, ⟨72, _⟩ => ⟨S4x8192x1, .f32⟩
  | .hbm, ⟨73, _⟩ => ⟨S4x8192x1, .f32⟩
  | .hbm, ⟨74, _⟩ => ⟨S4x8192x1, .f32⟩
  | .hbm, ⟨75, _⟩ => ⟨S4x8192x1024, .f32⟩
  | .hbm, ⟨76, _⟩ => ⟨S4x8192x1024, .f32⟩
  | .hbm, ⟨77, _⟩ => ⟨S1x1x1024, .f32⟩
  | .hbm, ⟨78, _⟩ => ⟨S4x8192x1024, .f32⟩
  | .hbm, ⟨79, _⟩ => ⟨S4x8192x1024, .f32⟩
  | .hbm, ⟨80, _⟩ => ⟨S_, .f32⟩
  | .hbm, ⟨81, _⟩ => ⟨S4x1x1024, .f32⟩
  | .hbm, ⟨82, _⟩ => ⟨S4x1x1024, .f32⟩
  | .hbm, ⟨83, _⟩ => ⟨S4x8192x1024, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | .hbm, ⟨87, _⟩ => ⟨S1x1024x4096, .f32⟩
  | .hbm, ⟨88, _⟩ => ⟨S1024x4096, .f32⟩
  | .hbm, ⟨89, _⟩ => ⟨S4x8192x4096, .f32⟩
  | .hbm, ⟨90, _⟩ => ⟨S_, .f32⟩
  | .hbm, ⟨91, _⟩ => ⟨S4x8192x4096, .f32⟩
  | .hbm, ⟨92, _⟩ => ⟨S4x8192x4096, .f32⟩
  | .hbm, ⟨93, _⟩ => ⟨S4x8192x4096, .f32⟩
  | .hbm, ⟨94, _⟩ => ⟨S1x4096x1024, .f32⟩
  | .hbm, ⟨95, _⟩ => ⟨S4096x1024, .f32⟩
  | .hbm, ⟨96, _⟩ => ⟨S4x8192x1024, .f32⟩
  | .hbm, ⟨97, _⟩ => ⟨S4x8192x1024, .f32⟩
  | .hbm, ⟨98, _⟩ => ⟨S4x8192x1024, .f32⟩
  | .hbm, ⟨99, _⟩ => ⟨S4x8192x1024, .f32⟩
  | .hbm, ⟨100, _⟩ => ⟨S4x8192x1024, .f32⟩
  | .hbm, ⟨101, _⟩ => ⟨S_, .f32⟩
  | .hbm, ⟨102, _⟩ => ⟨S4x8192, .f32⟩
  | .hbm, ⟨103, _⟩ => ⟨S4x8192x1, .f32⟩
  | .hbm, ⟨104, _⟩ => ⟨S_, .f32⟩
  | .hbm, ⟨105, _⟩ => ⟨S4x8192x1, .f32⟩
  | .hbm, ⟨106, _⟩ => ⟨S4x8192x1, .f32⟩
  | .hbm, ⟨107, _⟩ => ⟨S_, .f32⟩
  | .hbm, ⟨108, _⟩ => ⟨S4x8192x1, .f32⟩
  | .hbm, ⟨109, _⟩ => ⟨S4x8192x1, .f32⟩
  | .hbm, ⟨110, _⟩ => ⟨S4x8192x1, .f32⟩
  | .hbm, ⟨111, _⟩ => ⟨S4x8192x1024, .f32⟩
  | .hbm, ⟨112, _⟩ => ⟨S4x8192x1024, .f32⟩
  | .hbm, ⟨113, _⟩ => ⟨S1x1x1024, .f32⟩
  | .hbm, ⟨114, _⟩ => ⟨S4x8192x1024, .f32⟩
  | .hbm, ⟨115, _⟩ => ⟨S4x8192x1024, .f32⟩
  | .hbm, ⟨116, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call0_cst : Ref sig .tc := ⟨.hbm, 90, rfl⟩
abbrev main_call0_v0 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_cst_10 : Ref sig .tc := ⟨.hbm, 104, rfl⟩
abbrev main_v76 : Ref sig .tc := ⟨.hbm, 105, rfl⟩
abbrev main_v77 : Ref sig .tc := ⟨.hbm, 106, rfl⟩
abbrev main_cst_11 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]
-- ==== Kernel.lean ====
abbrev S4x8192x8x64 : Shape := ⟨4, ![4, 8192, 8, 64]⟩
abbrev S4x8192x2x64 : Shape := ⟨4, ![4, 8192, 2, 64]⟩
abbrev S4x256x2x64 : Shape := ⟨4, ![4, 256, 2, 64]⟩
abbrev S8 : Shape := ⟨1, ![8]⟩
abbrev S32768x512 : Shape := ⟨2, ![32768, 512]⟩
abbrev S4x8192x2x1x64 : Shape := ⟨5, ![4, 8192, 2, 1, 64]⟩
abbrev S4x8192x2x2x64 : Shape := ⟨5, ![4, 8192, 2, 2, 64]⟩
abbrev S32768x256 : Shape := ⟨2, ![32768, 256]⟩
abbrev S256x128x128 : Shape := ⟨3, ![256, 128, 128]⟩
abbrev S4x256x2x1x64 : Shape := ⟨5, ![4, 256, 2, 1, 64]⟩
abbrev S4x256x2x2x64 : Shape := ⟨5, ![4, 256, 2, 2, 64]⟩
abbrev S1024x256 : Shape := ⟨2, ![1024, 256]⟩
abbrev S8x128x128 : Shape := ⟨3, ![8, 128, 128]⟩
abbrev S3x384x128 : Shape := ⟨3, ![3, 384, 128]⟩
abbrev S_ : Shape := ⟨0, ![]⟩
abbrev S1x8 : Shape := ⟨2, ![1, 8]⟩
abbrev S1x2x1x4x1 : Shape := ⟨5, ![1, 2, 1, 4, 1]⟩
abbrev S1x2x8x4x128 : Shape := ⟨5, ![1, 2, 8, 4, 128]⟩
abbrev S1x2x8x512 : Shape := ⟨4, ![1, 2, 8, 512]⟩
abbrev S2x8x512 : Shape := ⟨3, ![2, 8, 512]⟩
abbrev S512x32768 : Shape := ⟨2, ![512, 32768]⟩
abbrev S1024x512 : Shape := ⟨2, ![1024, 512]⟩
abbrev S8192x256 : Shape := ⟨2, ![8192, 256]⟩
abbrev S64x128x128 : Shape := ⟨3, ![64, 128, 128]⟩
abbrev S256x256 : Shape := ⟨2, ![256, 256]⟩
abbrev S2x128x128 : Shape := ⟨3, ![2, 128, 128]⟩
abbrev S512x1024 : Shape := ⟨2, ![512, 1024]⟩
abbrev S1x128 : Shape := ⟨2, ![1, 128]⟩
abbrev S384x256 : Shape := ⟨2, ![384, 256]⟩
abbrev S128x512 : Shape := ⟨2, ![128, 512]⟩
abbrev S128x128 : Shape := ⟨2, ![128, 128]⟩
abbrev S384x128 : Shape := ⟨2, ![384, 128]⟩
abbrev S256x128 : Shape := ⟨2, ![256, 128]⟩
abbrev S640x128 : Shape := ⟨2, ![640, 128]⟩
abbrev S512x128 : Shape := ⟨2, ![512, 128]⟩
abbrev S640x512 : Shape := ⟨2, ![640, 512]⟩
abbrev S1x384x128 : Shape := ⟨3, ![1, 384, 128]⟩
abbrev S384x512 : Shape := ⟨2, ![384, 512]⟩
abbrev S1x64x128 : Shape := ⟨3, ![1, 64, 128]⟩
abbrev S64x128 : Shape := ⟨2, ![64, 128]⟩
abbrev S256x512 : Shape := ⟨2, ![256, 512]⟩
abbrev S1x8x512 : Shape := ⟨3, ![1, 8, 512]⟩
abbrev S8x512 : Shape := ⟨2, ![8, 512]⟩
abbrev S1x512 : Shape := ⟨2, ![1, 512]⟩
abbrev S512 : Shape := ⟨1, ![512]⟩
abbrev S16x128 : Shape := ⟨2, ![16, 128]⟩
abbrev S80x128 : Shape := ⟨2, ![80, 128]⟩
abbrev S80x512 : Shape := ⟨2, ![80, 512]⟩
abbrev S64x512 : Shape := ⟨2, ![64, 512]⟩

abbrev nBuf : Space → Nat
  | .hbm => 45
  | .vmem => 14
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S4x256x2x64, .f32⟩
  | .hbm, ⟨4, _⟩ => ⟨S4x256x2x64, .f32⟩
  | .hbm, ⟨5, _⟩ => ⟨S8, .f32⟩
  | .hbm, ⟨6, _⟩ => ⟨S32768x512, .f32⟩
  | .hbm, ⟨7, _⟩ => ⟨S32768x512, .bf16⟩
  | .hbm, ⟨8, _⟩ => ⟨S4x8192x2x1x64, .f32⟩
  | .hbm, ⟨9, _⟩ => ⟨S4x8192x2x2x64, .f32⟩
  | .hbm, ⟨10, _⟩ => ⟨S32768x256, .f32⟩
  | .hbm, ⟨11, _⟩ => ⟨S32768x256, .bf16⟩
  | .hbm, ⟨12, _⟩ => ⟨S256x128x128, .f32⟩
  | .hbm, ⟨13, _⟩ => ⟨S256x128x128, .f32⟩
  | .hbm, ⟨14, _⟩ => ⟨S256x128x128, .bf16⟩
  | .hbm, ⟨15, _⟩ => ⟨S4x256x2x1x64, .f32⟩
  | .hbm, ⟨16, _⟩ => ⟨S4x256x2x2x64, .f32⟩
  | .hbm, ⟨17, _⟩ => ⟨S1024x256, .f32⟩
  | .hbm, ⟨18, _⟩ => ⟨S1024x256, .bf16⟩
  | .hbm, ⟨19, _⟩ => ⟨S8x128x128, .f32⟩
  | .hbm, ⟨20, _⟩ => ⟨S8x128x128, .f32⟩
  | .hbm, ⟨21, _⟩ => ⟨S8x128x128, .bf16⟩
  | .hbm, ⟨22, _⟩ => ⟨S3x384x128, .i32⟩
  | .hbm, ⟨23, _⟩ => ⟨S3x384x128, .i32⟩
  | .hbm, ⟨24, _⟩ => ⟨S3x384x128, .i32⟩
  | .hbm, ⟨25, _⟩ => ⟨S_, .i32⟩
  | .hbm, ⟨26, _⟩ => ⟨S3x384x128, .i32⟩
  | .hbm, ⟨27, _⟩ => ⟨S3x384x128, .i32⟩
  | .hbm, ⟨28, _⟩ => ⟨S3x384x128, .i32⟩
  | .hbm, ⟨29, _⟩ => ⟨S3x384x128, .i32⟩
  | .hbm, ⟨30, _⟩ => ⟨S3x384x128, .i32⟩
  | .hbm, ⟨31, _⟩ => ⟨S_, .i32⟩
  | .hbm, ⟨32, _⟩ => ⟨S3x384x128, .i32⟩
  | .hbm, ⟨33, _⟩ => ⟨S3x384x128, .i1⟩
  | .hbm, ⟨34, _⟩ => ⟨S_, .f32⟩
  | .hbm, ⟨35, _⟩ => ⟨S_, .f32⟩
  | .hbm, ⟨36, _⟩ => ⟨S3x384x128, .f32⟩
  | .hbm, ⟨37, _⟩ => ⟨S3x384x128, .f32⟩
  | .hbm, ⟨38, _⟩ => ⟨S3x384x128, .f32⟩
  | .hbm, ⟨39, _⟩ => ⟨S1x8, .f32⟩
  | .hbm, ⟨40, _⟩ => ⟨S1x2x1x4x1, .f32⟩
  | .hbm, ⟨41, _⟩ => ⟨S1x2x8x4x128, .f32⟩
  | .hbm, ⟨42, _⟩ => ⟨S1x2x8x512, .f32⟩
  | .hbm, ⟨43, _⟩ => ⟨S2x8x512, .f32⟩
  | .hbm, ⟨44, _⟩ => ⟨S512x32768, .bf16⟩
  | .local _ .vmem, ⟨0, _⟩ => ⟨S1024x512, .bf16⟩
  | .local _ .vmem, ⟨1, _⟩ => ⟨S1024x512, .bf16⟩
  | .local _ .vmem, ⟨2, _⟩ => ⟨S8192x256, .bf16⟩
  | .local _ .vmem, ⟨3, _⟩ => ⟨S8192x256, .bf16⟩
  | .local _ .vmem, ⟨4, _⟩ => ⟨S64x128x128, .bf16⟩
  | .local _ .vmem, ⟨5, _⟩ => ⟨S64x128x128, .bf16⟩
  | .local _ .vmem, ⟨6, _⟩ => ⟨S256x256, .bf16⟩
  | .local _ .vmem, ⟨7, _⟩ => ⟨S256x256, .bf16⟩
  | .local _ .vmem, ⟨8, _⟩ => ⟨S2x128x128, .bf16⟩
  | .local _ .vmem, ⟨9, _⟩ => ⟨S2x128x128, .bf16⟩
  | .local _ .vmem, ⟨10, _⟩ => ⟨S3x384x128, .f32⟩
  | .local _ .vmem, ⟨11, _⟩ => ⟨S2x8x512, .f32⟩
  | .local _ .vmem, ⟨12, _⟩ => ⟨S512x1024, .bf16⟩
  | .local _ .vmem, ⟨13, _⟩ => ⟨S512x1024, .bf16⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_0 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c61_i32 : BitVec 32 := 61#32
  let c0_i32_5 : BitVec 32 := 0#32
  let arg1 : BitVec 32 := BitVec.ofNat 32 (i 1).val
  let c8_i32 : BitVec 32 := 8#32
  let v13 : BitVec 32 := Scalar.muli arg1 c8_i32
  let c0_i32 : BitVec 32 := 0#32
  let v14 : BitVec 32 := Scalar.addi v13 c0_i32
  let c1_i32 : BitVec 32 := 1#32
  let v15 : BitVec 32 := Scalar.subi v14 c1_i32
  let v16 : BitVec 32 := Scalar.maxsi c0_i32_5 v15
  let v17 : BitVec 32 := Scalar.minsi c61_i32 v16
  let c128_i32 : BitVec 32 := 128#32
  let v18 : BitVec 32 := Scalar.muli v17 c128_i32
  v18
def k0_off1 (i : grid0.Coords) (c0_i32 : BitVec 32) : Fin 2 → Nat :=
  let c61_i32 : BitVec 32 := 61#32
  let c0_i32_5 : BitVec 32 := 0#32
  let arg1 : BitVec 32 := BitVec.ofNat 32 (i 1).val
  let c8_i32 : BitVec 32 := 8#32
  let v13 : BitVec 32 := Scalar.muli arg1 c8_i32
  let v14 : BitVec 32 := Scalar.addi v13 c0_i32
  let c1_i32 : BitVec 32 := 1#32
  let v15 : BitVec 32 := Scalar.subi v14 c1_i32
  let v16 : BitVec 32 := Scalar.maxsi c0_i32_5 v15
  let v17 : BitVec 32 := Scalar.minsi c61_i32 v16
  let c128_i32 : BitVec 32 := 128#32
  let v18 : BitVec 32 := Scalar.muli v17 c128_i32
  let v19 : BitVec 32 := v18
  let v20 : Index := Scalar.indexCast v19
  let c0_6 : Index := 0#32
  ![v20.toNat, 0]
def k0_mult2 (i : grid0.Coords) : BitVec 32 :=
  let c61_i32_28 : BitVec 32 := 61#32
  let c0_i32_27 : BitVec 32 := 0#32
  let arg1 : BitVec 32 := BitVec.ofNat 32 (i 1).val
  let c8_i32_24 : BitVec 32 := 8#32
  let v80 : BitVec 32 := Scalar.muli arg1 c8_i32_24
  let c1_i32_25 : BitVec 32 := 1#32
  let v81 : BitVec 32 := Scalar.addi v80 c1_i32_25
  let c1_i32_26 : BitVec 32 := 1#32
  let v82 : BitVec 32 := Scalar.subi v81 c1_i32_26
  let v83 : BitVec 32 := Scalar.maxsi c0_i32_27 v82
  let v84 : BitVec 32 := Scalar.minsi c61_i32_28 v83
  let c128_i32_29 : BitVec 32 := 128#32
  let v85 : BitVec 32 := Scalar.muli v84 c128_i32_29
  v85
def k0_mult3 (i : grid0.Coords) : BitVec 32 :=
  let c61_i32_52 : BitVec 32 := 61#32
  let c0_i32_51 : BitVec 32 := 0#32
  let arg1 : BitVec 32 := BitVec.ofNat 32 (i 1).val
  let c8_i32_49 : BitVec 32 := 8#32
  let v147 : BitVec 32 := Scalar.muli arg1 c8_i32_49
  let c2_i32 : BitVec 32 := 2#32
  let v148 : BitVec 32 := Scalar.addi v147 c2_i32
  let c1_i32_50 : BitVec 32 := 1#32
  let v149 : BitVec 32 := Scalar.subi v148 c1_i32_50
  let v150 : BitVec 32 := Scalar.maxsi c0_i32_51 v149
  let v151 : BitVec 32 := Scalar.minsi c61_i32_52 v150
  let c128_i32_53 : BitVec 32 := 128#32
  let v152 : BitVec 32 := Scalar.muli v151 c128_i32_53
  v152
def k0_mult4 (i : grid0.Coords) : BitVec 32 :=
  let c61_i32_76 : BitVec 32 := 61#32
  let c0_i32_75 : BitVec 32 := 0#32
  let arg1 : BitVec 32 := BitVec.ofNat 32 (i 1).val
  let c8_i32_73 : BitVec 32 := 8#32
  let v214 : BitVec 32 := Scalar.muli arg1 c8_i32_73
  let c3_i32 : BitVec 32 := 3#32
  let v215 : BitVec 32 := Scalar.addi v214 c3_i32
  let c1_i32_74 : BitVec 32 := 1#32
  let v216 : BitVec 32 := Scalar.subi v215 c1_i32_74
  let v217 : BitVec 32 := Scalar.maxsi c0_i32_75 v216
  let v218 : BitVec 32 := Scalar.minsi c61_i32_76 v217
  let c128_i32_77 : BitVec 32 := 128#32
  let v219 : BitVec 32 := Scalar.muli v218 c128_i32_77
  v219
def k0_mult5 (i : grid0.Coords) : BitVec 32 :=
  let c61_i32_100 : BitVec 32 := 61#32
  let c0_i32_99 : BitVec 32 := 0#32
  let arg1 : BitVec 32 := BitVec.ofNat 32 (i 1).val
  let c8_i32_97 : BitVec 32 := 8#32
  let v281 : BitVec 32 := Scalar.muli arg1 c8_i32_97
  let c4_i32 : BitVec 32 := 4#32
  let v282 : BitVec 32 := Scalar.addi v281 c4_i32
  let c1_i32_98 : BitVec 32 := 1#32
  let v283 : BitVec 32 := Scalar.subi v282 c1_i32_98
  let v284 : BitVec 32 := Scalar.maxsi c0_i32_99 v283
  let v285 : BitVec 32 := Scalar.minsi c61_i32_100 v284
  let c128_i32_101 : BitVec 32 := 128#32
  let v286 : BitVec 32 := Scalar.muli v285 c128_i32_101
  v286
def k0_mult6 (i : grid0.Coords) : BitVec 32 :=
  let c61_i32_124 : BitVec 32 := 61#32
  let c0_i32_123 : BitVec 32 := 0#32
  let arg1 : BitVec 32 := BitVec.ofNat 32 (i 1).val
  let c8_i32_121 : BitVec 32 := 8#32
  let v348 : BitVec 32 := Scalar.muli arg1 c8_i32_121
  let c5_i32 : BitVec 32 := 5#32
  let v349 : BitVec 32 := Scalar.addi v348 c5_i32
  let c1_i32_122 : BitVec 32 := 1#32
  let v350 : BitVec 32 := Scalar.subi v349 c1_i32_122
  let v351 : BitVec 32 := Scalar.maxsi c0_i32_123 v350
  let v352 : BitVec 32 := Scalar.minsi c61_i32_124 v351
  let c128_i32_125 : BitVec 32 := 128#32
  let v353 : BitVec 32 := Scalar.muli v352 c128_i32_125
  v353
def k0_mult7 (i : grid0.Coords) : BitVec 32 :=
  let c61_i32_148 : BitVec 32 := 61#32
  let c0_i32_147 : BitVec 32 := 0#32
  let arg1 : BitVec 32 := BitVec.ofNat 32 (i 1).val
  let c8_i32_145 : BitVec 32 := 8#32
  let v415 : BitVec 32 := Scalar.muli arg1 c8_i32_145
  let c6_i32 : BitVec 32 := 6#32
  let v416 : BitVec 32 := Scalar.addi v415 c6_i32
  let c1_i32_146 : BitVec 32 := 1#32
  let v417 : BitVec 32 := Scalar.subi v416 c1_i32_146
  let v418 : BitVec 32 := Scalar.maxsi c0_i32_147 v417
  let v419 : BitVec 32 := Scalar.minsi c61_i32_148 v418
  let c128_i32_149 : BitVec 32 := 128#32
  let v420 : BitVec 32 := Scalar.muli v419 c128_i32_149
  v420
def k0_mult8 (i : grid0.Coords) : BitVec 32 :=
  let c61_i32_172 : BitVec 32 := 61#32
  let c0_i32_171 : BitVec 32 := 0#32
  let arg1 : BitVec 32 := BitVec.ofNat 32 (i 1).val
  let c8_i32_169 : BitVec 32 := 8#32
  let v482 : BitVec 32 := Scalar.muli arg1 c8_i32_169
  let c7_i32 : BitVec 32 := 7#32
  let v483 : BitVec 32 := Scalar.addi v482 c7_i32
  let c1_i32_170 : BitVec 32 := 1#32
  let v484 : BitVec 32 := Scalar.subi v483 c1_i32_170
  let v485 : BitVec 32 := Scalar.maxsi c0_i32_171 v484
  let v486 : BitVec 32 := Scalar.minsi c61_i32_172 v485
  let c128_i32_173 : BitVec 32 := 128#32
  let v487 : BitVec 32 := Scalar.muli v486 c128_i32_173
  v487
def k0_off2 (i : grid0.Coords) (c0_i32 : BitVec 32) : Fin 3 → Nat :=
  let arg1 : BitVec 32 := BitVec.ofNat 32 (i 1).val
  let c8_i32 : BitVec 32 := 8#32
  let v13 : BitVec 32 := Scalar.muli arg1 c8_i32
  let v14 : BitVec 32 := Scalar.addi v13 c0_i32
  let c0_i32_193 : BitVec 32 := 0#32
  let v549 : BitVec 1 := Scalar.cmpi .eq v14 c0_i32_193
  let c0_i32_196 : BitVec 32 := 0#32
  let c63_i32 : BitVec 32 := 63#32
  let v550 : BitVec 1 := Scalar.cmpi .eq v14 c63_i32
  let c2_i32_194 : BitVec 32 := 2#32
  let c1_i32_195 : BitVec 32 := 1#32
  let v551 : BitVec 32 := Scalar.select v550 c2_i32_194 c1_i32_195
  let v552 : BitVec 32 := Scalar.select v549 c0_i32_196 v551
  let v553 : Index := Scalar.indexCast v552
  let c0_197 : Index := 0#32
  let c0_198 : Index := 0#32
  ![v553.toNat, 0, 0]
def k0_off3 (i : grid0.Coords) (c0_i32 : BitVec 32) (c0_i32_202 : BitVec 32) : Fin 3 → Nat :=
  let c61_i32 : BitVec 32 := 61#32
  let c0_i32_5 : BitVec 32 := 0#32
  let arg1 : BitVec 32 := BitVec.ofNat 32 (i 1).val
  let c8_i32 : BitVec 32 := 8#32
  let v13 : BitVec 32 := Scalar.muli arg1 c8_i32
  let v14 : BitVec 32 := Scalar.addi v13 c0_i32
  let c1_i32 : BitVec 32 := 1#32
  let v15 : BitVec 32 := Scalar.subi v14 c1_i32
  let v16 : BitVec 32 := Scalar.maxsi c0_i32_5 v15
  let v17 : BitVec 32 := Scalar.minsi c61_i32 v16
  let v562 : BitVec 32 := Scalar.addi v17 c0_i32_202
  let v563 : Index := Scalar.indexCast v562
  let c0_203 : Index := 0#32
  let c0_204 : Index := 0#32
  ![v563.toNat, 0, 0]
def k0_off4 (i : grid0.Coords) (c0_i32 : BitVec 32) (c0_i32_235 : BitVec 32) : Fin 3 → Nat :=
  let c61_i32 : BitVec 32 := 61#32
  let c0_i32_5 : BitVec 32 := 0#32
  let arg1 : BitVec 32 := BitVec.ofNat 32 (i 1).val
  let c8_i32 : BitVec 32 := 8#32
  let v13 : BitVec 32 := Scalar.muli arg1 c8_i32
  let v14 : BitVec 32 := Scalar.addi v13 c0_i32
  let c1_i32 : BitVec 32 := 1#32
  let v15 : BitVec 32 := Scalar.subi v14 c1_i32
  let v16 : BitVec 32 := Scalar.maxsi c0_i32_5 v15
  let v17 : BitVec 32 := Scalar.minsi c61_i32 v16
  let v643 : BitVec 32 := Scalar.addi v17 c0_i32_235
  let v644 : Index := Scalar.indexCast v643
  let c64_236 : Index := 64#32
  let c0_237 : Index := 0#32
  ![v644.toNat, 64, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S3x384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.log 256)⁻¹ : ℝ) : EReal)
  | _ => none
-- ==== ReferenceIdeal.lean ====
abbrev S4x8192x8x64 : Shape := ⟨4, ![4, 8192, 8, 64]⟩
abbrev S4x8192x2x64 : Shape := ⟨4, ![4, 8192, 2, 64]⟩
abbrev S4x256x2x64 : Shape := ⟨4, ![4, 256, 2, 64]⟩
abbrev S8 : Shape := ⟨1, ![8]⟩
abbrev S4x64x128x2x4x64 : Shape := ⟨6, ![4, 64, 128, 2, 4, 64]⟩
abbrev S_ : Shape := ⟨0, ![]⟩
abbrev S4x8448x2x64 : Shape := ⟨4, ![4, 8448, 2, 64]⟩
abbrev S4x66x128x2x64 : Shape := ⟨5, ![4, 66, 128, 2, 64]⟩
abbrev S4x64x128x2x64 : Shape := ⟨5, ![4, 64, 128, 2, 64]⟩
abbrev S4x64x384x2x64 : Shape := ⟨5, ![4, 64, 384, 2, 64]⟩
abbrev S64x128x384 : Shape := ⟨3, ![64, 128, 384]⟩
abbrev S4x64x2x384x128x4 : Shape := ⟨6, ![4, 64, 2, 384, 128, 4]⟩
abbrev S4x64x2x4x128x384 : Shape := ⟨6, ![4, 64, 2, 4, 128, 384]⟩
abbrev S1x64x1x1x128x384 : Shape := ⟨6, ![1, 64, 1, 1, 128, 384]⟩
abbrev S4x2x256x64x128x4 : Shape := ⟨6, ![4, 2, 256, 64, 128, 4]⟩
abbrev S4x64x2x4x128x256 : Shape := ⟨6, ![4, 64, 2, 4, 128, 256]⟩
abbrev S1x1x2x4x1x1 : Shape := ⟨6, ![1, 1, 2, 4, 1, 1]⟩
abbrev S4x64x2x4x128x1 : Shape := ⟨6, ![4, 64, 2, 4, 128, 1]⟩
abbrev S4x64x2x4x128x641 : Shape := ⟨6, ![4, 64, 2, 4, 128, 641]⟩
abbrev S4x64x2x4x128 : Shape := ⟨5, ![4, 64, 2, 4, 128]⟩
abbrev S4x64x2x64x4x128 : Shape := ⟨6, ![4, 64, 2, 64, 4, 128]⟩
abbrev S4x2x64x64x4x128 : Shape := ⟨6, ![4, 2, 64, 64, 4, 128]⟩
abbrev S32768x512 : Shape := ⟨2, ![32768, 512]⟩
abbrev S512x32768 : Shape := ⟨2, ![512, 32768]⟩

abbrev nBuf : Space → Nat
  | .hbm => 89
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S4x256x2x64, .f32⟩
  | .hbm, ⟨4, _⟩ => ⟨S4x256x2x64, .f32⟩
  | .hbm, ⟨5, _⟩ => ⟨S8, .f32⟩
  | .hbm, ⟨6, _⟩ => ⟨S4x64x128x2x4x64, .f32⟩
  | .hbm, ⟨7, _⟩ => ⟨S_, .i32⟩
  | .hbm, ⟨8, _⟩ => ⟨S_, .f32⟩
  | .hbm, ⟨9, _⟩ => ⟨S4x8448x2x64, .f32⟩
  | .hbm, ⟨10, _⟩ => ⟨S4x66x128x2x64, .f32⟩
  | .hbm, ⟨11, _⟩ => ⟨S4x64x128x2x64, .f32⟩
  | .hbm, ⟨12, _⟩ => ⟨S4x64x128x2x64, .f32⟩
  | .hbm, ⟨13, _⟩ => ⟨S4x64x128x2x64, .f32⟩
  | .hbm, ⟨14, _⟩ => ⟨S4x64x384x2x64, .f32⟩
  | .hbm, ⟨15, _⟩ => ⟨S_, .i32⟩
  | .hbm, ⟨16, _⟩ => ⟨S_, .f32⟩
  | .hbm, ⟨17, _⟩ => ⟨S4x8448x2x64, .f32⟩
  | .hbm, ⟨18, _⟩ => ⟨S4x66x128x2x64, .f32⟩
  | .hbm, ⟨19, _⟩ => ⟨S4x64x128x2x64, .f32⟩
  | .hbm, ⟨20, _⟩ => ⟨S4x64x128x2x64, .f32⟩
  | .hbm, ⟨21, _⟩ => ⟨S4x64x128x2x64, .f32⟩
  | .hbm, ⟨22, _⟩ => ⟨S4x64x384x2x64, .f32⟩
  | .hbm, ⟨23, _⟩ => ⟨S64x128x384, .i32⟩
  | .hbm, ⟨24, _⟩ => ⟨S64x128x384, .i32⟩
  | .hbm, ⟨25, _⟩ => ⟨S_, .i32⟩
  | .hbm, ⟨26, _⟩ => ⟨S64x128x384, .i32⟩
  | .hbm, ⟨27, _⟩ => ⟨S64x128x384, .i32⟩
  | .hbm, ⟨28, _⟩ => ⟨S64x128x384, .i32⟩
  | .hbm, ⟨29, _⟩ => ⟨S_, .i32⟩
  | .hbm, ⟨30, _⟩ => ⟨S64x128x384, .i32⟩
  | .hbm, ⟨31, _⟩ => ⟨S64x128x384, .i32⟩
  | .hbm, ⟨32, _⟩ => ⟨S64x128x384, .i32⟩
  | .hbm, ⟨33, _⟩ => ⟨S64x128x384, .i32⟩
  | .hbm, ⟨34, _⟩ => ⟨S64x128x384, .i32⟩
  | .hbm, ⟨35, _⟩ => ⟨S_, .i32⟩
  | .hbm, ⟨36, _⟩ => ⟨S64x128x384, .i32⟩
  | .hbm, ⟨37, _⟩ => ⟨S64x128x384, .i1⟩
  | .hbm, ⟨38, _⟩ => ⟨S_, .i32⟩
  | .hbm, ⟨39, _⟩ => ⟨S64x128x384, .i32⟩
  | .hbm, ⟨40, _⟩ => ⟨S64x128x384, .i1⟩
  | .hbm, ⟨41, _⟩ => ⟨S64x128x384, .i1⟩
  | .hbm, ⟨42, _⟩ => ⟨S_, .i32⟩
  | .hbm, ⟨43, _⟩ => ⟨S64x128x384, .i32⟩
  | .hbm, ⟨44, _⟩ => ⟨S64x128x384, .i1⟩
  | .hbm, ⟨45, _⟩ => ⟨S64x128x384, .i1⟩
  | .hbm, ⟨46, _⟩ => ⟨S4x64x2x384x128x4, .f32⟩
  | .hbm, ⟨47, _⟩ => ⟨S4x64x2x4x128x384, .f32⟩
  | .hbm, ⟨48, _⟩ => ⟨S_, .f32⟩
  | .hbm, ⟨49, _⟩ => ⟨S4x64x2x4x128x384, .f32⟩
  | .hbm, ⟨50, _⟩ => ⟨S4x64x2x4x128x384, .f32⟩
  | .hbm, ⟨51, _⟩ => ⟨S1x64x1x1x128x384, .i1⟩
  | .hbm, ⟨52, _⟩ => ⟨S_, .f32⟩
  | .hbm, ⟨53, _⟩ => ⟨S_, .f32⟩
  | .hbm, ⟨54, _⟩ => ⟨S4x64x2x4x128x384, .i1⟩
  | .hbm, ⟨55, _⟩ => ⟨S4x64x2x4x128x384, .f32⟩
  | .hbm, ⟨56, _⟩ => ⟨S4x64x2x4x128x384, .f32⟩
  | .hbm, ⟨57, _⟩ => ⟨S4x2x256x64x128x4, .f32⟩
  | .hbm, ⟨58, _⟩ => ⟨S4x64x2x4x128x256, .f32⟩
  | .hbm, ⟨59, _⟩ => ⟨S_, .f32⟩
  | .hbm, ⟨60, _⟩ => ⟨S4x64x2x4x128x256, .f32⟩
  | .hbm, ⟨61, _⟩ => ⟨S4x64x2x4x128x256, .f32⟩
  | .hbm, ⟨62, _⟩ => ⟨S1x1x2x4x1x1, .f32⟩
  | .hbm, ⟨63, _⟩ => ⟨S4x64x2x4x128x1, .f32⟩
  | .hbm, ⟨64, _⟩ => ⟨S4x64x2x4x128x641, .f32⟩
  | .hbm, ⟨65, _⟩ => ⟨S_, .f32⟩
  | .hbm, ⟨66, _⟩ => ⟨S4x64x2x4x128, .f32⟩
  | .hbm, ⟨67, _⟩ => ⟨S_, .f32⟩
  | .hbm, ⟨68, _⟩ => ⟨S4x64x2x4x128, .f32⟩
  | .hbm, ⟨69, _⟩ => ⟨S4x64x2x4x128, .f32⟩
  | .hbm, ⟨70, _⟩ => ⟨S4x64x2x4x128x1, .f32⟩
  | .hbm, ⟨71, _⟩ => ⟨S4x64x2x4x128x641, .f32⟩
  | .hbm, ⟨72, _⟩ => ⟨S4x64x2x4x128x641, .f32⟩
  | .hbm, ⟨73, _⟩ => ⟨S4x64x2x4x128x641, .f32⟩
  | .hbm, ⟨74, _⟩ => ⟨S_, .f32⟩
  | .hbm, ⟨75, _⟩ => ⟨S4x64x2x4x128, .f32⟩
  | .hbm, ⟨76, _⟩ => ⟨S4x64x2x4x128x1, .f32⟩
  | .hbm, ⟨77, _⟩ => ⟨S4x64x2x4x128x641, .f32⟩
  | .hbm, ⟨78, _⟩ => ⟨S4x64x2x4x128x641, .f32⟩
  | .hbm, ⟨79, _⟩ => ⟨S4x64x2x4x128x384, .f32⟩
  | .hbm, ⟨80, _⟩ => ⟨S4x64x2x4x128x256, .f32⟩
  | .hbm, ⟨81, _⟩ => ⟨S4x64x2x64x4x128, .f32⟩
  | .hbm, ⟨82, _⟩ => ⟨S4x64x128x2x4x64, .f32⟩
  | .hbm, ⟨83, _⟩ => ⟨S4x2x64x64x4x128, .f32⟩
  | .hbm, ⟨84, _⟩ => ⟨S4x64x128x2x4x64, .f32⟩
  | .hbm, ⟨85, _⟩ => ⟨S4x64x128x2x4x64, .f32⟩
  | .hbm, ⟨86, _⟩ => ⟨S32768x512, .f32⟩
  | .hbm, ⟨87, _⟩ => ⟨S512x32768, .f32⟩
  | .hbm, ⟨88, _⟩ => ⟨S512x32768, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Kernel5.lean ====
abbrev S4x256x1024 : Shape := ⟨3, ![4, 256, 1024]⟩
abbrev S1x1x1024 : Shape := ⟨3, ![1, 1, 1024]⟩
abbrev S4x1024 : Shape := ⟨2, ![4, 1024]⟩
abbrev S4x1024x6400 : Shape := ⟨3, ![4, 1024, 6400]⟩
abbrev S4x1024x128 : Shape := ⟨3, ![4, 1024, 128]⟩
abbrev S4x1024x2x1x64 : Shape := ⟨5, ![4, 1024, 2, 1, 64]⟩
abbrev S4x1024x2x2x64 : Shape := ⟨5, ![4, 1024, 2, 2, 64]⟩
abbrev S4x1024x256 : Shape := ⟨3, ![4, 1024, 256]⟩
abbrev S1024x1024 : Shape := ⟨2, ![1024, 1024]⟩
abbrev S_ : Shape := ⟨0, ![]⟩
abbrev S4x1x1024 : Shape := ⟨3, ![4, 1, 1024]⟩
abbrev S3x1x1024 : Shape := ⟨3, ![3, 1, 1024]⟩
abbrev S8x1x1024 : Shape := ⟨3, ![8, 1, 1024]⟩
abbrev S1x1024 : Shape := ⟨2, ![1, 1024]⟩
abbrev S1024 : Shape := ⟨1, ![1024]⟩
abbrev S1024x512 : Shape := ⟨2, ![1024, 512]⟩
abbrev S1024x256 : Shape := ⟨2, ![1024, 256]⟩
abbrev S1024x3072 : Shape := ⟨2, ![1024, 3072]⟩
abbrev S4x512x256 : Shape := ⟨3, ![4, 512, 256]⟩
abbrev S8x128x128 : Shape := ⟨3, ![8, 128, 128]⟩
abbrev S256x1024 : Shape := ⟨2, ![256, 1024]⟩
abbrev S1x1024x6400 : Shape := ⟨3, ![1, 1024, 6400]⟩
abbrev S1x1024x256 : Shape := ⟨3, ![1, 1024, 256]⟩
abbrev S256x512 : Shape := ⟨2, ![256, 512]⟩
abbrev S256x256 : Shape := ⟨2, ![256, 256]⟩
abbrev S256x3072 : Shape := ⟨2, ![256, 3072]⟩
abbrev S1x512x256 : Shape := ⟨3, ![1, 512, 256]⟩
abbrev S2x128x128 : Shape := ⟨3, ![2, 128, 128]⟩
abbrev S256 : Shape := ⟨1, ![256]⟩
abbrev S256x1 : Shape := ⟨2, ![256, 1]⟩
abbrev S1x1024x512 : Shape := ⟨3, ![1, 1024, 512]⟩
abbrev S512x256 : Shape := ⟨2, ![512, 256]⟩
abbrev S1x1024x128 : Shape := ⟨3, ![1, 1024, 128]⟩
abbrev S1024x128 : Shape := ⟨2, ![1024, 128]⟩
abbrev S128x1024 : Shape := ⟨2, ![128, 1024]⟩
abbrev S128x128 : Shape := ⟨2, ![128, 128]⟩
abbrev S1x128x128 : Shape := ⟨3, ![1, 128, 128]⟩

abbrev nBuf : Space → Nat
  | .hbm => 33
  | .vmem => 25
  | .smem => 0
  | _ => 0

abbrev bufTy : (tb : Table) → Fin (tcTables nBuf tb) → BufTy
  | .hbm, ⟨0, _⟩ => ⟨S4x256x1024, .f32⟩
  | .hbm, ⟨1, _⟩ => ⟨S1x1x1024, .f32⟩
  | .hbm, ⟨2, _⟩ => ⟨S1x1x1024, .f32⟩
  | .hbm, ⟨3, _⟩ => ⟨S4x1024, .f32⟩
  | .hbm, ⟨4, _⟩ => ⟨S4x1024x6400, .f32⟩
  | .hbm, ⟨5, _⟩ => ⟨S4x1024x6400, .bf16⟩
  | .hbm, ⟨6, _⟩ => ⟨S4x1024x128, .bf16⟩
  | .hbm, ⟨7, _⟩ => ⟨S4x1024x2x1x64, .bf16⟩
  | .hbm, ⟨8, _⟩ => ⟨S4x1024x2x2x64, .bf16⟩
  | .hbm, ⟨9, _⟩ => ⟨S4x1024x256, .bf16⟩
  | .hbm, ⟨10, _⟩ => ⟨S1024x1024, .f32⟩
  | .hbm, ⟨11, _⟩ => ⟨S_, .f32⟩
  | .hbm, ⟨12, _⟩ => ⟨S4x1x1024, .f32⟩
  | .hbm, ⟨13, _⟩ => ⟨S_, .f32⟩
  | .hbm, ⟨14, _⟩ => ⟨S3x1x1024, .f32⟩
  | .hbm, ⟨15, _⟩ => ⟨S8x1x1024, .f32⟩
  | .hbm, ⟨16, _⟩ => ⟨S_, .f32⟩
  | .hbm, ⟨17, _⟩ => ⟨S4x1x1024, .f32⟩
  | .hbm, ⟨18, _⟩ => ⟨S_, .f32⟩
  | .hbm, ⟨19, _⟩ => ⟨S3x1x1024, .f32⟩
  | .hbm, ⟨20, _⟩ => ⟨S8x1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024x512, .bf16⟩
  | .hbm, ⟨25, _⟩ => ⟨S1024x512, .bf16⟩
  | .hbm, ⟨26, _⟩ => ⟨S1024x512, .f32⟩
  | .hbm, ⟨27, _⟩ => ⟨S1024x512, .f32⟩
  | .hbm, ⟨28, _⟩ => ⟨S1024x512, .bf16⟩
  | .hbm, ⟨29, _⟩ => ⟨S1024x256, .bf16⟩
  | .hbm, ⟨30, _⟩ => ⟨S1024x3072, .f32⟩
  | .hbm, ⟨31, _⟩ => ⟨S4x512x256, .bf16⟩
  | .hbm, ⟨32, _⟩ => ⟨S8x128x128, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x1024x6400, .bf16⟩
  | .local _ .vmem, ⟨6, _⟩ => ⟨S1x1024x256, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S256x256, .bf16⟩
  | .local _ .vmem, ⟨18, _⟩ => ⟨S256x256, .bf16⟩
  | .local _ .vmem, ⟨19, _⟩ => ⟨S256x3072, .f32⟩
  | .local _ .vmem, ⟨20, _⟩ => ⟨S256x3072, .f32⟩
  | .local _ .vmem, ⟨21, _⟩ => ⟨S1x512x256, .bf16⟩
  | .local _ .vmem, ⟨22, _⟩ => ⟨S1x512x256, .bf16⟩
  | .local _ .vmem, ⟨23, _⟩ => ⟨S2x128x128, .bf16⟩
  | .local _ .vmem, ⟨24, _⟩ => ⟨S2x128x128, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev main_v15_6 : Ref sig .tc := ⟨.hbm, 30, rfl⟩
abbrev main_v15_7 : Ref sig .tc := ⟨.hbm, 31, rfl⟩
abbrev main_v15_8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x6400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S4x256x1024 : Shape := ⟨3, ![4, 256, 1024]⟩
abbrev S1x1x1024 : Shape := ⟨3, ![1, 1, 1024]⟩
abbrev S4x1024 : Shape := ⟨2, ![4, 1024]⟩
abbrev S4x1024x6400 : Shape := ⟨3, ![4, 1024, 6400]⟩
abbrev S1x1024 : Shape := ⟨2, ![1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1024x6400 : Shape := ⟨3, ![1, 1024, 6400]⟩
abbrev S1024x6400 : Shape := ⟨2, ![1024, 6400]⟩
abbrev S4x256x6400 : Shape := ⟨3, ![4, 256, 6400]⟩
abbrev S4x256x512 : Shape := ⟨3, ![4, 256, 512]⟩
abbrev S4x256x128 : Shape := ⟨3, ![4, 256, 128]⟩
abbrev S4x256x3072 : Shape := ⟨3, ![4, 256, 3072]⟩
abbrev S4x256x2x1x64 : Shape := ⟨5, ![4, 256, 2, 1, 64]⟩
abbrev S4x256x2x2x64 : Shape := ⟨5, ![4, 256, 2, 2, 64]⟩
abbrev S4x512x256 : Shape := ⟨3, ![4, 512, 256]⟩
abbrev S8x128x128 : Shape := ⟨3, ![8, 128, 128]⟩
abbrev S1024x512 : Shape := ⟨2, ![1024, 512]⟩
abbrev S1024x256 : Shape := ⟨2, ![1024, 256]⟩
abbrev S1024x3072 : Shape := ⟨2, ![1024, 3072]⟩

abbrev nBuf : Space → Nat
  | .hbm => 60
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1x1024, .f32⟩
  | .hbm, ⟨2, _⟩ => ⟨S1x1x1024, .f32⟩
  | .hbm, ⟨3, _⟩ => ⟨S4x1024, .f32⟩
  | .hbm, ⟨4, _⟩ => ⟨S4x1024x6400, .f32⟩
  | .hbm, ⟨5, _⟩ => ⟨S1x1024, .f32⟩
  | .hbm, ⟨6, _⟩ => ⟨S1024, .f32⟩
  | .hbm, ⟨7, _⟩ => ⟨S4x256x1024, .f32⟩
  | .hbm, ⟨8, _⟩ => ⟨S_, .f32⟩
  | .hbm, ⟨9, _⟩ => ⟨S4x256, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x1, .f32⟩
  | .hbm, ⟨18, _⟩ => ⟨S4x256x1024, .f32⟩
  | .hbm, ⟨19, _⟩ => ⟨S4x256x1024, .f32⟩
  | .hbm, ⟨20, _⟩ => ⟨S1x1x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S4x256x1024, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S1x1024x6400, .f32⟩
  | .hbm, ⟨31, _⟩ => ⟨S1024x6400, .f32⟩
  | .hbm, ⟨32, _⟩ => ⟨S4x256x6400, .f32⟩
  | .hbm, ⟨33, _⟩ => ⟨S4x256x512, .f32⟩
  | .hbm, ⟨34, _⟩ => ⟨S4x256x512, .f32⟩
  | .hbm, ⟨35, _⟩ => ⟨S4x256x512, .f32⟩
  | .hbm, ⟨36, _⟩ => ⟨S4x256x512, .f32⟩
  | .hbm, ⟨37, _⟩ => ⟨S4x256x512, .f32⟩
  | .hbm, ⟨38, _⟩ => ⟨S4x256x512, .f32⟩
  | .hbm, ⟨39, _⟩ => ⟨S4x256x128, .f32⟩
  | .hbm, ⟨40, _⟩ => ⟨S4x256x128, .f32⟩
  | .hbm, ⟨41, _⟩ => ⟨S4x256x3072, .f32⟩
  | .hbm, ⟨42, _⟩ => ⟨S4x256x2x1x64, .f32⟩
  | .hbm, ⟨43, _⟩ => ⟨S4x256x2x2x64, .f32⟩
  | .hbm, ⟨44, _⟩ => ⟨S4x512x256, .f32⟩
  | .hbm, ⟨45, _⟩ => ⟨S8x128x128, .f32⟩
  | .hbm, ⟨46, _⟩ => ⟨S8x128x128, .f32⟩
  | .hbm, ⟨47, _⟩ => ⟨S1024x512, .f32⟩
  | .hbm, ⟨48, _⟩ => ⟨S1024x512, .bf16⟩
  | .hbm, ⟨49, _⟩ => ⟨S1024x512, .f32⟩
  | .hbm, ⟨50, _⟩ => ⟨S1024x512, .bf16⟩
  | .hbm, ⟨51, _⟩ => ⟨S1024x512, .f32⟩
  | .hbm, ⟨52, _⟩ => ⟨S1024x512, .f32⟩
  | .hbm, ⟨53, _⟩ => ⟨S1024x512, .f32⟩
  | .hbm, ⟨54, _⟩ => ⟨S1024x512, .bf16⟩
  | .hbm, ⟨55, _⟩ => ⟨S1024x256, .f32⟩
  | .hbm, ⟨56, _⟩ => ⟨S1024x256, .bf16⟩
  | .hbm, ⟨57, _⟩ => ⟨S1024x3072, .f32⟩
  | .hbm, ⟨58, _⟩ => ⟨S4x512x256, .bf16⟩
  | .hbm, ⟨59, _⟩ => ⟨S8x128x128, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Kernel6.lean ====
abbrev S4x256x1024 : Shape := ⟨3, ![4, 256, 1024]⟩
abbrev S4x256x512 : Shape := ⟨3, ![4, 256, 512]⟩
abbrev S4x256x3072 : Shape := ⟨3, ![4, 256, 3072]⟩
abbrev S1x1x1024 : Shape := ⟨3, ![1, 1, 1024]⟩
abbrev S4x1024 : Shape := ⟨2, ![4, 1024]⟩
abbrev S4x1536x1024 : Shape := ⟨3, ![4, 1536, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S_ : Shape := ⟨0, ![]⟩
abbrev S4x1x1024 : Shape := ⟨3, ![4, 1, 1024]⟩
abbrev S3x1x1024 : Shape := ⟨3, ![3, 1, 1024]⟩
abbrev S8x1x1024 : Shape := ⟨3, ![8, 1, 1024]⟩
abbrev S1024x1024 : Shape := ⟨2, ![1024, 1024]⟩
abbrev S1024x512 : Shape := ⟨2, ![1024, 512]⟩
abbrev S512x1024 : Shape := ⟨2, ![512, 1024]⟩
abbrev S1024x3072 : Shape := ⟨2, ![1024, 3072]⟩
abbrev S1x1024 : Shape := ⟨2, ![1, 1024]⟩
abbrev S1024 : Shape := ⟨1, ![1024]⟩
abbrev S256x1024 : Shape := ⟨2, ![256, 1024]⟩
abbrev S512x256 : Shape := ⟨2, ![512, 256]⟩
abbrev S256x512 : Shape := ⟨2, ![256, 512]⟩
abbrev S256x3072 : Shape := ⟨2, ![256, 3072]⟩
abbrev S1x1536x1024 : Shape := ⟨3, ![1, 1536, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x512x1024 : Shape := ⟨3, ![1, 512, 1024]⟩
abbrev S256 : Shape := ⟨1, ![256]⟩
abbrev S256x1 : Shape := ⟨2, ![256, 1]⟩

abbrev nBuf : Space → Nat
  | .hbm => 52
  | .vmem => 21
  | .smem => 0
  | _ => 0

abbrev bufTy : (tb : Table) → Fin (tcTables nBuf tb) → BufTy
  | .hbm, ⟨0, _⟩ => ⟨S4x256x1024, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S4x256x3072, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S4x1024, .f32⟩
  | .hbm, ⟨10, _⟩ => ⟨S4x1536x1024, .f32⟩
  | .hbm, ⟨11, _⟩ => ⟨S4x1024x1024, .f32⟩
  | .hbm, ⟨12, _⟩ => ⟨S4x1024x4096, .f32⟩
  | .hbm, ⟨13, _⟩ => ⟨S4x4096x1024, .f32⟩
  | .hbm, ⟨14, _⟩ => ⟨S_, .f32⟩
  | .hbm, ⟨15, _⟩ => ⟨S4x1x1024, .f32⟩
  | .hbm, ⟨16, _⟩ => ⟨S_, .f32⟩
  | .hbm, ⟨17, _⟩ => ⟨S3x1x1024, .f32⟩
  | .hbm, ⟨18, _⟩ => ⟨S8x1x1024, .f32⟩
  | .hbm, ⟨19, _⟩ => ⟨S_, .f32⟩
  | .hbm, ⟨20, _⟩ => ⟨S4x1x1024, .f32⟩
  | .hbm, ⟨21, _⟩ => ⟨S_, .f32⟩
  | .hbm, ⟨22, _⟩ => ⟨S3x1x1024, .f32⟩
  | .hbm, ⟨23, _⟩ => ⟨S8x1x1024, .f32⟩
  | .hbm, ⟨24, _⟩ => ⟨S_, .f32⟩
  | .hbm, ⟨25, _⟩ => ⟨S4x1x1024, .f32⟩
  | .hbm, ⟨26, _⟩ => ⟨S_, .f32⟩
  | .hbm, ⟨27, _⟩ => ⟨S3x1x1024, .f32⟩
  | .hbm, ⟨28, _⟩ => ⟨S8x1x1024, .f32⟩
  | .hbm, ⟨29, _⟩ => ⟨S_, .f32⟩
  | .hbm, ⟨30, _⟩ => ⟨S4x1x1024, .f32⟩
  | .hbm, ⟨31, _⟩ => ⟨S_, .f32⟩
  | .hbm, ⟨32, _⟩ => ⟨S3x1x1024, .f32⟩
  | .hbm, ⟨33, _⟩ => ⟨S8x1x1024, .f32⟩
  | .hbm, ⟨34, _⟩ => ⟨S1024x1024, .f32⟩
  | .hbm, ⟨35, _⟩ => ⟨S1024x512, .f32⟩
  | .hbm, ⟨36, _⟩ => ⟨S1024x512, .bf16⟩
  | .hbm, ⟨37, _⟩ => ⟨S512x1024, .bf16⟩
  | .hbm, ⟨38, _⟩ => ⟨S1024x512, .f32⟩
  | .hbm, ⟨39, _⟩ => ⟨S1024x512, .bf16⟩
  | .hbm, ⟨40, _⟩ => ⟨S1024x512, .f32⟩
  | .hbm, ⟨41, _⟩ => ⟨S1024x512, .bf16⟩
  | .hbm, ⟨42, _⟩ => ⟨S512x1024, .bf16⟩
  | .hbm, ⟨43, _⟩ => ⟨S1024x3072, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S4x1536x1024, .bf16⟩
  | .hbm, ⟨48, _⟩ => ⟨S4x1024x1024, .bf16⟩
  | .hbm, ⟨49, _⟩ => ⟨S4x1024x4096, .bf16⟩
  | .hbm, ⟨50, _⟩ => ⟨S4x4096x1024, .bf16⟩
  | .hbm, ⟨51, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S256x512, .bf16⟩
  | .local _ .vmem, ⟨6, _⟩ => ⟨S512x256, .bf16⟩
  | .local _ .vmem, ⟨7, _⟩ => ⟨S512x256, .bf16⟩
  | .local _ .vmem, ⟨8, _⟩ => ⟨S256x3072, .f32⟩
  | .local _ .vmem, ⟨9, _⟩ => ⟨S256x3072, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1536x1024, .bf16⟩
  | .local _ .vmem, ⟨16, _⟩ => ⟨S1x1024x1024, .bf16⟩
  | .local _ .vmem, ⟨17, _⟩ => ⟨S1x1024x4096, .bf16⟩
  | .local _ .vmem, ⟨18, _⟩ => ⟨S1x4096x1024, .bf16⟩
  | .local _ .vmem, ⟨19, _⟩ => ⟨S256x1024, .f32⟩
  | .local _ .vmem, ⟨20, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_cst_1 : Ref sig .tc := ⟨.hbm, 19, rfl⟩
abbrev main_v3 : Ref sig .tc := ⟨.hbm, 20, rfl⟩
abbrev main_cst_2 : Ref sig .tc := ⟨.hbm, 21, rfl⟩
abbrev main_v4 : Ref sig .tc := ⟨.hbm, 22, rfl⟩
abbrev main_v5 : Ref sig .tc := ⟨.hbm, 23, rfl⟩
abbrev main_cst_3 : Ref sig .tc := ⟨.hbm, 24, rfl⟩
abbrev main_v6 : Ref sig .tc := ⟨.hbm, 25, rfl⟩
abbrev main_cst_4 : Ref sig .tc := ⟨.hbm, 26, rfl⟩
abbrev main_v7 : Ref sig .tc := ⟨.hbm, 27, rfl⟩
abbrev main_v8 : Ref sig .tc := ⟨.hbm, 28, rfl⟩
abbrev main_cst_5 : Ref sig .tc := ⟨.hbm, 29, rfl⟩
abbrev main_v9 : Ref sig .tc := ⟨.hbm, 30, rfl⟩
abbrev main_cst_6 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_8 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_9 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1536x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S4x256x1024 : Shape := ⟨3, ![4, 256, 1024]⟩
abbrev S4x256x512 : Shape := ⟨3, ![4, 256, 512]⟩
abbrev S4x256x3072 : Shape := ⟨3, ![4, 256, 3072]⟩
abbrev S1x1x1024 : Shape := ⟨3, ![1, 1, 1024]⟩
abbrev S4x1024 : Shape := ⟨2, ![4, 1024]⟩
abbrev S4x1536x1024 : Shape := ⟨3, ![4, 1536, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1x512x1024 : Shape := ⟨3, ![1, 512, 1024]⟩
abbrev S512x1024 : Shape := ⟨2, ![512, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x256 : Shape := ⟨2, ![4, 256]⟩
abbrev S4x256x1 : Shape := ⟨3, ![4, 256, 1]⟩
abbrev S1x1024x4096 : Shape := ⟨3, ![1, 1024, 4096]⟩
abbrev S1024x4096 : Shape := ⟨2, ![1024, 4096]⟩
abbrev S4x256x4096 : Shape := ⟨3, ![4, 256, 4096]⟩
abbrev S1x4096x1024 : Shape := ⟨3, ![1, 4096, 1024]⟩
abbrev S4096x1024 : Shape := ⟨2, ![4096, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S4x256x3072, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S4x1024, .f32⟩
  | .hbm, ⟨10, _⟩ => ⟨S4x1536x1024, .f32⟩
  | .hbm, ⟨11, _⟩ => ⟨S4x1024x1024, .f32⟩
  | .hbm, ⟨12, _⟩ => ⟨S4x1024x4096, .f32⟩
  | .hbm, ⟨13, _⟩ => ⟨S4x4096x1024, .f32⟩
  | .hbm, ⟨14, _⟩ => ⟨S4x256x1024, .f32⟩
  | .hbm, ⟨15, _⟩ => ⟨S4x256x1024, .f32⟩
  | .hbm, ⟨16, _⟩ => ⟨S4x256x1024, .f32⟩
  | .hbm, ⟨17, _⟩ => ⟨S1x512x1024, .f32⟩
  | .hbm, ⟨18, _⟩ => ⟨S512x1024, .f32⟩
  | .hbm, ⟨19, _⟩ => ⟨S1x512x1024, .f32⟩
  | .hbm, ⟨20, _⟩ => ⟨S512x1024, .f32⟩
  | .hbm, ⟨21, _⟩ => ⟨S1x512x1024, .f32⟩
  | .hbm, ⟨22, _⟩ => ⟨S512x1024, .f32⟩
  | .hbm, ⟨23, _⟩ => ⟨S4x256x1024, .f32⟩
  | .hbm, ⟨24, _⟩ => ⟨S4x256x1024, .f32⟩
  | .hbm, ⟨25, _⟩ => ⟨S_, .f32⟩
  | .hbm, ⟨26, _⟩ => ⟨S4x256x1024, .f32⟩
  | .hbm, ⟨27, _⟩ => ⟨S4x256x1024, .f32⟩
  | .hbm, ⟨28, _⟩ => ⟨S_, .f32⟩
  | .hbm, ⟨29, _⟩ => ⟨S4x256x1024, .f32⟩
  | .hbm, ⟨30, _⟩ => ⟨S4x256x1024, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S4x256x1024, .f32⟩
  | .hbm, ⟨35, _⟩ => ⟨S_, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S4x256x1024, .f32⟩
  | .hbm, ⟨43, _⟩ => ⟨S4x256x1024, .f32⟩
  | .hbm, ⟨44, _⟩ => ⟨S4x256x1024, .f32⟩
  | .hbm, ⟨45, _⟩ => ⟨S4x256x1024, .f32⟩
  | .hbm, ⟨46, _⟩ => ⟨S_, .f32⟩
  | .hbm, ⟨47, _⟩ => ⟨S4x256x1024, .f32⟩
  | .hbm, ⟨48, _⟩ => ⟨S4x256x1024, .f32⟩
  | .hbm, ⟨49, _⟩ => ⟨S_, .f32⟩
  | .hbm, ⟨50, _⟩ => ⟨S4x256x1024, .f32⟩
  | .hbm, ⟨51, _⟩ => ⟨S4x256x1024, .f32⟩
  | .hbm, ⟨52, _⟩ => ⟨S4x256x1024, .f32⟩
  | .hbm, ⟨53, _⟩ => ⟨S4x256x1024, .f32⟩
  | .hbm, ⟨54, _⟩ => ⟨S4x256x1024, .f32⟩
  | .hbm, ⟨55, _⟩ => ⟨S1x1024x1024, .f32⟩
  | .hbm, ⟨56, _⟩ => ⟨S1024x1024, .f32⟩
  | .hbm, ⟨57, _⟩ => ⟨S4x256x1024, .f32⟩
  | .hbm, ⟨58, _⟩ => ⟨S4x256x1024, .f32⟩
  | .hbm, ⟨59, _⟩ => ⟨S4x256x1024, .f32⟩
  | .hbm, ⟨60, _⟩ => ⟨S4x256x1024, .f32⟩
  | .hbm, ⟨61, _⟩ => ⟨S1x1024, .f32⟩
  | .hbm, ⟨62, _⟩ => ⟨S1024, .f32⟩
  | .hbm, ⟨63, _⟩ => ⟨S4x256x1024, .f32⟩
  | .hbm, ⟨64, _⟩ => ⟨S_, .f32⟩
  | .hbm, ⟨65, _⟩ => ⟨S4x256, .f32⟩
  | .hbm, ⟨66, _⟩ => ⟨S4x256x1, .f32⟩
  | .hbm, ⟨67, _⟩ => ⟨S_, .f32⟩
  | .hbm, ⟨68, _⟩ => ⟨S4x256x1, .f32⟩
  | .hbm, ⟨69, _⟩ => ⟨S4x256x1, .f32⟩
  | .hbm, ⟨70, _⟩ => ⟨S_, .f32⟩
  | .hbm, ⟨71, _⟩ => ⟨S4x256x1, .f32⟩
  | .hbm, ⟨72, _⟩ => ⟨S4x256x1, .f32⟩
  | .hbm, ⟨73, _⟩ => ⟨S4x256x1, .f32⟩
  | .hbm, ⟨74, _⟩ => ⟨S4x256x1024, .f32⟩
  | .hbm, ⟨75, _⟩ => ⟨S4x256x1024, .f32⟩
  | .hbm, ⟨76, _⟩ => ⟨S1x1x1024, .f32⟩
  | .hbm, ⟨77, _⟩ => ⟨S4x256x1024, .f32⟩
  | .hbm, ⟨78, _⟩ => ⟨S4x256x1024, .f32⟩
  | .hbm, ⟨79, _⟩ => ⟨S_, .f32⟩
  | .hbm, ⟨80, _⟩ => ⟨S1x1x1024, .f32⟩
  | .hbm, ⟨81, _⟩ => ⟨S1x1x1024, .f32⟩
  | .hbm, ⟨82, _⟩ => ⟨S4x256x1024, .f32⟩
  | .hbm, ⟨83, _⟩ => ⟨S4x256x1024, .f32⟩
  | .hbm, ⟨84, _⟩ => ⟨S4x256x1024, .f32⟩
  | .hbm, ⟨85, _⟩ => ⟨S4x256x1024, .f32⟩
  | .hbm, ⟨86, _⟩ => ⟨S1x1024x4096, .f32⟩
  | .hbm, ⟨87, _⟩ => ⟨S1024x4096, .f32⟩
  | .hbm, ⟨88, _⟩ => ⟨S4x256x4096, .f32⟩
  | .hbm, ⟨89, _⟩ => ⟨S_, .f32⟩
  | .hbm, ⟨90, _⟩ => ⟨S4x256x4096, .f32⟩
  | .hbm, ⟨91, _⟩ => ⟨S4x256x4096, .f32⟩
  | .hbm, ⟨92, _⟩ => ⟨S4x256x4096, .f32⟩
  | .hbm, ⟨93, _⟩ => ⟨S1x4096x1024, .f32⟩
  | .hbm, ⟨94, _⟩ => ⟨S4096x1024, .f32⟩
  | .hbm, ⟨95, _⟩ => ⟨S4x256x1024, .f32⟩
  | .hbm, ⟨96, _⟩ => ⟨S4x256x1024, .f32⟩
  | .hbm, ⟨97, _⟩ => ⟨S4x256x1024, .f32⟩
  | .hbm, ⟨98, _⟩ => ⟨S4x256x1024, .f32⟩
  | .hbm, ⟨99, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call0_cst : Ref sig .tc := ⟨.hbm, 89, rfl⟩
abbrev main_call0_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Proof.MergeModel.lean ====
module

public import Idealize.ShloMosaic.Lib.Pointwise

@[expose] public section

noncomputable section

/-! One token of the layer's last part, on the extended reals: the three gated branches mixed, the residual step, the
modulated norm, the squared-ReLU feed-forward, the second residual step and the closing norm. Each function takes the
token's own row of an array (and the weights it meets), so both programs are read against the same definitions. -/

namespace Cert.Merge

open Idealize.ShloMosaic
open scoped BigOperators

/-- The three branches' rows `ya`, `yb`, `yc` through their thirds of the branch weights, each gated by its third of the
    gate row. -/
def gated (lg : Fin 3072 → EReal) (ya yb yc : Fin 512 → EReal) (wb : Fin 1536 → Fin 1024 → EReal) (j : Fin 1024) : EReal :=
  Ideal.logistic (lg ⟨j.val, by omega⟩) * ∑ k : Fin 512, ya k * wb ⟨k.val, by omega⟩ j
    + Ideal.logistic (lg ⟨1024 + j.val, by omega⟩) * ∑ k : Fin 512, yb k * wb ⟨512 + k.val, by omega⟩ j
    + Ideal.logistic (lg ⟨2048 + j.val, by omega⟩) * ∑ k : Fin 512, yc k * wb ⟨1024 + k.val, by omega⟩ j

/-- A row divided by its root mean square, as both programs write it. -/
def rms (x : Fin 1024 → EReal) (j : Fin 1024) : EReal :=
  x j * Ideal.rsqrt (Ideal.div (∑ k : Fin 1024, x k * x k) (Ideal.ofBits .f32 1149239296#32) + Ideal.ofBits .f32 897988541#32)

/-- A gated residual step through a weight matrix. -/
def resid {n : ℕ} (x g : Fin 1024 → EReal) (m : Fin n → EReal) (w : Fin n → Fin 1024 → EReal) (j : Fin 1024) : EReal :=
  x j + g j * ∑ k : Fin n, m k * w k j

/-- The modulated norm. -/
def modul (x n sc sh : Fin 1024 → EReal) (j : Fin 1024) : EReal := rms x j * n j * (1 + sc j) + sh j

/-- One hidden unit: the squared positive part. -/
def unit (h : Fin 1024 → EReal) (w : Fin 1024 → EReal) : EReal :=
  max (∑ k : Fin 1024, h k * w k) 0 * max (∑ k : Fin 1024, h k * w k) 0

/-- The token's residual row after the branches. -/
def mid (x : Fin 1024 → EReal) (lg : Fin 3072 → EReal) (ya yb yc : Fin 512 → EReal) (wb : Fin 1536 → Fin 1024 → EReal)
    (g1 : Fin 1024 → EReal) (wo : Fin 1024 → Fin 1024 → EReal) : Fin 1024 → EReal :=
  resid x g1 (gated lg ya yb yc wb) wo

/-- The token's residual row after the feed-forward, from the row `x` before it. -/
def ffn (x n2 sc sh g2 : Fin 1024 → EReal) (w1 : Fin 1024 → Fin 4096 → EReal) (w2 : Fin 4096 → Fin 1024 → EReal) : Fin 1024 → EReal :=
  resid x g2 (fun i => unit (modul x n2 sc sh) (fun k => w1 k i)) w2

/-- The whole of it for one token of a layer that is not the last: without the closing norm. -/
def inner (x : Fin 1024 → EReal) (ya yb yc : Fin 512 → EReal) (lg : Fin 3072 → EReal) (g1 n2 sh sc g2 : Fin 1024 → EReal)
    (wb : Fin 1536 → Fin 1024 → EReal) (wo : Fin 1024 → Fin 1024 → EReal) (w1 : Fin 1024 → Fin 4096 → EReal)
    (w2 : Fin 4096 → Fin 1024 → EReal) (j : Fin 1024) : EReal :=
  ffn (mid x lg ya yb yc wb g1 wo) n2 sc sh g2 w1 w2 j

/-- The batch row of result row `n`. -/
def bat (n : Fin 32768) : Fin 4 := ⟨n.val / 8192, by omega⟩

/-- The position of result row `n` in its batch row. -/
def pos (n : Fin 32768) : Fin 8192 := ⟨n.val % 8192, Nat.mod_lt _ (by norm_num)⟩

/-- The whole of it for one token of the last layer. -/
def token (x : Fin 1024 → EReal) (ya yb yc : Fin 512 → EReal) (lg : Fin 3072 → EReal) (g1 n2 sh sc g2 : Fin 1024 → EReal)
    (wb : Fin 1536 → Fin 1024 → EReal) (wo : Fin 1024 → Fin 1024 → EReal) (w1 : Fin 1024 → Fin 4096 → EReal)
    (w2 : Fin 4096 → Fin 1024 → EReal) (fg : Fin 1024 → EReal) (j : Fin 1024) : EReal :=
  rms (ffn (mid x lg ya yb yc wb g1 wo) n2 sc sh g2 w1 w2) j * fg j

/-- A sum over the 4096 hidden units, in four runs of 1024. -/
theorem sum_runs (f : Fin 4096 → EReal) :
    ∑ i, f i = (((∑ i : Fin 1024, f ⟨i.val, by omega⟩) + ∑ i : Fin 1024, f ⟨1024 + i.val, by omega⟩)
      + ∑ i : Fin 1024, f ⟨2048 + i.val, by omega⟩) + ∑ i : Fin 1024, f ⟨3072 + i.val, by omega⟩ := by
  have h3 := Fin.sum_univ_add (a := 3072) (b := 1024) f
  have h2 := Fin.sum_univ_add (a := 2048) (b := 1024) fun i => f (Fin.castAdd 1024 i)
  have h1 := Fin.sum_univ_add (a := 1024) (b := 1024) fun i => f (Fin.castAdd 1024 (Fin.castAdd 1024 i))
  rw [h2, h1] at h3
  exact h3

end Cert.Merge

end
-- ==== Proof.CtxLayerPay.lean ====
module

public import proofs.«01_k».proof.Proof.Gen.Kernel6Ideal.Frame
public import proofs.«01_k».proof.Proof.MergeModel
public import Idealize.ShloMosaic.Lib.Pipeline.Value

@[expose] public section

noncomputable section

/-! What the kernel body leaves in its result block, element by element. -/

namespace Cert.CtxLayer

open Idealize.ShloMosaic Cert.Merge Cert.Kernel6Ideal Cert.Kernel6Ideal.Gen
open scoped BigOperators

section Pay

variable (v28 v30 : FVec Ideal S256x1024 .f32) (v31 : Vec Ideal S1x1x1024 .f32) (v34 : Vec Ideal S1x1024x1024 .bf16) (v50 : Vec Ideal S1x1024 .f32)
  (v54 v60 : Vec Ideal S1x1x1024 .f32) (r : Fin 256) (j : Fin 1024)

/-- The residual row after the branches. -/
theorem pay4_apply : k0_pay4 v28 v30 v31 v34 (ix2 r j)
    = resid (fun k => v30 (ix2 r k)) (fun k => v31 (ix3 0 0 k)) (fun k => v28 (ix2 r k)) (fun i k => v34 (ix3 0 i k)) j := by
  pointwise [k0_pay4]
  rfl

/-- The modulated norm of it. -/
theorem pay5_apply : k0_pay5 v28 v30 v31 v34 v50 v54 v60 (ix2 r j)
    = modul (fun k => k0_pay4 v28 v30 v31 v34 (ix2 r k)) (fun k => v50 (ix2 0 k)) (fun k => v54 (ix3 0 0 k)) (fun k => v60 (ix3 0 0 k)) j := by
  pointwise [k0_pay5]
  rfl

end Pay

/-- The second residual step. -/
theorem pay1_apply (v39 v96 v101 : FVec Ideal S256x1024 .f32) (v104 : Vec Ideal S1x1024x1024 .bf16) (v108 : Vec Ideal S1x1x1024 .f32)
    (r : Fin 256) (j : Fin 1024) : k0_pay1 v39 v96 v101 v104 v108 (ix2 r j)
    = v39 (ix2 r j) + v108 (ix3 0 0 j) * (v96 (ix2 r j)
        + ∑ i : Fin 1024, v101 (ix2 r i) * v101 (ix2 r i) * v104 (ix3 0 i j)) := by
  pointwise [k0_pay1]

set_option maxHeartbeats 4000000 in
/-- The block the body leaves, at an index: the token's row. -/
theorem block_apply (x0 : Vec Ideal S256x1024 .f32) (x1 : Vec Ideal S512x256 .bf16) (x2 : Vec Ideal S256x512 .bf16) (x3 : Vec Ideal S512x256 .bf16) (x4 : Vec Ideal S256x3072 .f32) (x5 : Vec Ideal S1x1x1024 .f32)
    (x6 : Vec Ideal S1x1024 .f32) (x7 x8 x9 : Vec Ideal S1x1x1024 .f32) (x10 : Vec Ideal S1x1536x1024 .bf16) (x11 : Vec Ideal S1x1024x1024 .bf16)
    (x12 : Vec Ideal S1x1024x4096 .bf16) (x13 : Vec Ideal S1x4096x1024 .bf16) (r : Fin 256) (j : Fin 1024) :
    out0_14 x0 x1 x2 x3 x4 x5 x6 x7 x8 x9 x10 x11 x12 x13 (ix2 r j)
      = Merge.inner (fun k => x0 (ix2 r k)) (fun k => x1 (ix2 k r)) (fun k => x2 (ix2 r k)) (fun k => x3 (ix2 k r)) (fun k => x4 (ix2 r k))
          (fun k => x5 (ix3 0 0 k)) (fun k => x6 (ix2 0 k)) (fun k => x7 (ix3 0 0 k)) (fun k => x8 (ix3 0 0 k)) (fun k => x9 (ix3 0 0 k))
          (fun i k => x10 (ix3 0 i k)) (fun i k => x11 (ix3 0 i k)) (fun i k => x12 (ix3 0 i k)) (fun i k => x13 (ix3 0 i k)) j := by
  have e0 : (![0, 0] : Fin 2 → ℕ) = fun _ => 0 := funext fun a => by fin_cases a <;> rfl
  have e1 : (![0, 0, 0] : Fin 3 → ℕ) = fun _ => 0 := funext fun a => by fin_cases a <;> rfl
  unfold_out out0_14
  rw [View.canon_unit_zero e0, pay1_apply]
  pointwise [k0_pay8, k0_pay9, k0_pay7, k0_pay6, pay5_apply, pay4_apply, k0_pay2, k0_pay3]
  unfold Merge.inner ffn resid
  rw [sum_runs]
  rfl

end Cert.CtxLayer

end
-- ==== Proof.CtxLayerArr.lean ====
module

public import Idealize.ShloMosaic.Lib.Pipeline.ValueKit
public import proofs.«01_k».proof.Proof.MergeModel

@[expose] public section

noncomputable section

/-! The whole result array of the end of a layer on the context's tokens, as a function of the argument arrays. -/

namespace Cert.CtxLayer

open Idealize.ShloMosaic Cert.Merge

/-- The fifth row of eight, of which the first four come from `x`, it from `y` and the last three from `z`. -/
theorem concat_row {α : Type} (x : (⟨3, ![4, 1, 1024]⟩ : Shape).Idx → α) (y : (⟨3, ![1, 1, 1024]⟩ : Shape).Idx → α)
    (z : (⟨3, ![3, 1, 1024]⟩ : Shape).Idx → α)
    (h : Shape.Concatenates [⟨3, ![4, 1, 1024]⟩, ⟨3, ![1, 1, 1024]⟩, ⟨3, ![3, 1, 1024]⟩] ⟨3, ![8, 1, 1024]⟩ 0) (k : Fin 1024) :
    concatenate ⟨3, ![8, 1, 1024]⟩ 0 [⟨⟨3, ![4, 1, 1024]⟩, x⟩, ⟨⟨3, ![1, 1, 1024]⟩, y⟩, ⟨⟨3, ![3, 1, 1024]⟩, z⟩] h (ix3 4 0 k)
      = y (ix3 0 0 k) := by
  refine concatenate_apply_piece (t := ⟨3, ![8, 1, 1024]⟩) 0
    [⟨⟨3, ![4, 1, 1024]⟩, x⟩, ⟨⟨3, ![1, 1, 1024]⟩, y⟩, ⟨⟨3, ![3, 1, 1024]⟩, z⟩] h (ix3 4 0 k) 1 (by simp) ⟨3, ![1, 1, 1024]⟩ y rfl rfl 4 rfl (ix3 0 0 k) ?_ rfl
  intro b hb
  fin_cases b
  · exact absurd rfl hb
  · rfl
  · rfl

/-- The batch row of result row `n`. -/
def batC (n : Fin 1024) : Fin 4 := ⟨n.val / 256, by omega⟩

/-- The position of result row `n` in its batch row. -/
def posC (n : Fin 1024) : Fin 256 := ⟨n.val % 256, Nat.mod_lt _ (by norm_num)⟩

/-- Token `t` of batch row `b`, with the weights of the first layer. -/
def tokenAt (x0 : (⟨3, ![4, 256, 1024]⟩ : Shape).Idx → EReal) (x1 x2 x3 : (⟨3, ![4, 256, 512]⟩ : Shape).Idx → EReal)
    (x4 : (⟨3, ![4, 256, 3072]⟩ : Shape).Idx → EReal) (x5 x6 x7 x8 : (⟨3, ![1, 1, 1024]⟩ : Shape).Idx → EReal)
    (x9 : (⟨2, ![4, 1024]⟩ : Shape).Idx → EReal) (x10 : (⟨3, ![4, 1536, 1024]⟩ : Shape).Idx → EReal)
    (x11 : (⟨3, ![4, 1024, 1024]⟩ : Shape).Idx → EReal) (x12 : (⟨3, ![4, 1024, 4096]⟩ : Shape).Idx → EReal)
    (x13 : (⟨3, ![4, 4096, 1024]⟩ : Shape).Idx → EReal)
    (b : Fin 4) (t : Fin 256) : Fin 1024 → EReal :=
  Merge.inner (fun k => x0 (ix3 b t k)) (fun k => x1 (ix3 b t k)) (fun k => x2 (ix3 b t k)) (fun k => x3 (ix3 b t k)) (fun k => x4 (ix3 b t k))
    (fun k => x5 (ix3 0 0 k)) (fun k => x9 (ix2 0 k)) (fun k => x6 (ix3 0 0 k)) (fun k => x7 (ix3 0 0 k)) (fun k => x8 (ix3 0 0 k))
    (fun i k => x10 (ix3 0 i k)) (fun i k => x11 (ix3 0 i k)) (fun i k => x12 (ix3 0 i k)) (fun i k => x13 (ix3 0 i k))

/-- The result array: row `n` is token `n mod 256` of batch row `n / 256`. -/
def result (x0 : (⟨3, ![4, 256, 1024]⟩ : Shape).Idx → EReal) (x1 x2 x3 : (⟨3, ![4, 256, 512]⟩ : Shape).Idx → EReal)
    (x4 : (⟨3, ![4, 256, 3072]⟩ : Shape).Idx → EReal) (x5 x6 x7 x8 : (⟨3, ![1, 1, 1024]⟩ : Shape).Idx → EReal)
    (x9 : (⟨2, ![4, 1024]⟩ : Shape).Idx → EReal) (x10 : (⟨3, ![4, 1536, 1024]⟩ : Shape).Idx → EReal)
    (x11 : (⟨3, ![4, 1024, 1024]⟩ : Shape).Idx → EReal) (x12 : (⟨3, ![4, 1024, 4096]⟩ : Shape).Idx → EReal)
    (x13 : (⟨3, ![4, 4096, 1024]⟩ : Shape).Idx → EReal)
    (i : (⟨2, ![1024, 1024]⟩ : Shape).Idx) : EReal :=
  tokenAt x0 x1 x2 x3 x4 x5 x6 x7 x8 x9 x10 x11 x12 x13
    (batC (i 0)) (posC (i 0)) (i 1)

end Cert.CtxLayer

end
-- ==== Proof.CtxLayerKernel.lean ====
module

public import Idealize.ShloMosaic.Lib.Pipeline.ValueKit
public import proofs.«01_k».proof.Proof.Gen.Kernel6Ideal.Value
public import proofs.«01_k».proof.Proof.CtxLayerPay
public import proofs.«01_k».proof.Proof.CtxLayerArr

@[expose] public section

set_option maxRecDepth 16384

noncomputable section

namespace Cert.CtxLayer

open Idealize.ShloMosaic Cert.Merge Cert.Kernel6Ideal Cert.Kernel6Ideal.Gen

open Idealize.ShloMosaic.TcCoe

variable (m : (ℓ : Loc nD τ sig) → Buf (Elt Ideal) ℓ) (c : Dev nD) (t : Fin cfg0.N)

theorem val_lt (t : Fin cfg0.N) : t.val < 4 := lt_of_lt_of_eq t.isLt N_0

/-- Row `r` of the block of grid point `t`. -/
def row (t : Fin cfg0.N) (r : Fin 256) : Fin 1024 := ⟨256 * t.val + r.val, by have := val_lt t; omega⟩

theorem idx0 : ∀ t : Fin cfg0.N, win0_0.index t = ![t.val, 0] := by decide +kernel
theorem idx1 : ∀ t : Fin cfg0.N, win0_1.index t = ![0, t.val] := by decide +kernel
theorem idx2 : ∀ t : Fin cfg0.N, win0_2.index t = ![t.val, 0] := by decide +kernel
theorem idx3 : ∀ t : Fin cfg0.N, win0_3.index t = ![0, t.val] := by decide +kernel
theorem idx4 : ∀ t : Fin cfg0.N, win0_4.index t = ![t.val, 0] := by decide +kernel
theorem idx5 : ∀ t : Fin cfg0.N, win0_5.index t = ![4, 0, 0] := by decide +kernel
theorem idx6 : ∀ t : Fin cfg0.N, win0_6.index t = ![0, 0] := by decide +kernel
theorem idx7 : ∀ t : Fin cfg0.N, win0_7.index t = ![4, 0, 0] := by decide +kernel
theorem idx8 : ∀ t : Fin cfg0.N, win0_8.index t = ![4, 0, 0] := by decide +kernel
theorem idx9 : ∀ t : Fin cfg0.N, win0_9.index t = ![4, 0, 0] := by decide +kernel
theorem idx10 : ∀ t : Fin cfg0.N, win0_10.index t = ![0, 0, 0] := by decide +kernel
theorem idx11 : ∀ t : Fin cfg0.N, win0_11.index t = ![0, 0, 0] := by decide +kernel
theorem idx12 : ∀ t : Fin cfg0.N, win0_12.index t = ![0, 0, 0] := by decide +kernel
theorem idx13 : ∀ t : Fin cfg0.N, win0_13.index t = ![0, 0, 0] := by decide +kernel
theorem idx14 : ∀ t : Fin cfg0.N, win0_14.index t = ![t.val, 0] := by decide +kernel

theorem row_val (r : Fin 256) : (row t r).val = 256 * t.val + r.val := rfl

theorem src0 (n : Fin 1024) (k : Fin 1024) :
    V m c main_v12 (ix2 n k) = m ((c : Thread nD τ).loc main_arg0) (ix3 (batC n) (posC n) k) := by
  entry_read
  pointwise
  rfl

theorem in0 (r : Fin 256) (k : Fin 1024) :
    iblk m c 0 t (ix2 r k) = m ((c : Thread nD τ).loc main_arg0) (ix3 (batC (row t r)) (posC (row t r)) k) := by
  rw [← src0 m c]
  blk_ext [iblk, row_val, idx0 t]

theorem src1 (n : Fin 1024) (k : Fin 512) :
    V m c main_v15 (ix2 k n) = m ((c : Thread nD τ).loc main_arg1) (ix3 (batC n) (posC n) k) := by
  entry_read
  pointwise
  rfl

theorem in1 (r : Fin 256) (k : Fin 512) :
    iblk m c 1 t (ix2 k r) = m ((c : Thread nD τ).loc main_arg1) (ix3 (batC (row t r)) (posC (row t r)) k) := by
  rw [← src1 m c]
  blk_ext [iblk, row_val, idx1 t]

theorem src2 (n : Fin 1024) (k : Fin 512) :
    V m c main_v17 (ix2 n k) = m ((c : Thread nD τ).loc main_arg2) (ix3 (batC n) (posC n) k) := by
  entry_read
  pointwise
  rfl

theorem in2 (r : Fin 256) (k : Fin 512) :
    iblk m c 2 t (ix2 r k) = m ((c : Thread nD τ).loc main_arg2) (ix3 (batC (row t r)) (posC (row t r)) k) := by
  rw [← src2 m c]
  blk_ext [iblk, row_val, idx2 t]

theorem src3 (n : Fin 1024) (k : Fin 512) :
    V m c main_v20 (ix2 k n) = m ((c : Thread nD τ).loc main_arg3) (ix3 (batC n) (posC n) k) := by
  entry_read
  pointwise
  rfl

theorem in3 (r : Fin 256) (k : Fin 512) :
    iblk m c 3 t (ix2 k r) = m ((c : Thread nD τ).loc main_arg3) (ix3 (batC (row t r)) (posC (row t r)) k) := by
  rw [← src3 m c]
  blk_ext [iblk, row_val, idx3 t]

theorem src4 (n : Fin 1024) (k : Fin 3072) :
    V m c main_v21 (ix2 n k) = m ((c : Thread nD τ).loc main_arg4) (ix3 (batC n) (posC n) k) := by
  entry_read
  pointwise
  rfl

theorem in4 (r : Fin 256) (k : Fin 3072) :
    iblk m c 4 t (ix2 r k) = m ((c : Thread nD τ).loc main_arg4) (ix3 (batC (row t r)) (posC (row t r)) k) := by
  rw [← src4 m c]
  blk_ext [iblk, row_val, idx4 t]

theorem src5 (k : Fin 1024) : V m c main_v2 (ix3 4 0 k) = m ((c : Thread nD τ).loc main_arg5) (ix3 0 0 k) := by
  show StableHlo.after hostOps0 (fun b => m (c, b)) main_v2 (ix3 4 0 k) = _
  simp only [StableHlo.after_cons, StableHlo.after_nil]
  iterate 33 after_results_step
  refine (concat_row _ _ _ _ k).trans ?_
  show _ = m (c, main_arg5) _
  after_results_steps
  rfl

theorem in5 (k : Fin 1024) :
    iblk m c 5 t (ix3 0 0 k) = m ((c : Thread nD τ).loc main_arg5) (ix3 0 0 k) := by
  rw [← src5 m c]
  blk_ext [iblk, idx5 t]

theorem src7 (k : Fin 1024) : V m c main_v5 (ix3 4 0 k) = m ((c : Thread nD τ).loc main_arg6) (ix3 0 0 k) := by
  show StableHlo.after hostOps0 (fun b => m (c, b)) main_v5 (ix3 4 0 k) = _
  simp only [StableHlo.after_cons, StableHlo.after_nil]
  iterate 28 after_results_step
  refine (concat_row _ _ _ _ k).trans ?_
  show _ = m (c, main_arg6) _
  after_results_steps
  rfl

theorem in7 (k : Fin 1024) :
    iblk m c 7 t (ix3 0 0 k) = m ((c : Thread nD τ).loc main_arg6) (ix3 0 0 k) := by
  rw [← src7 m c]
  blk_ext [iblk, idx7 t]

theorem src8 (k : Fin 1024) : V m c main_v8 (ix3 4 0 k) = m ((c : Thread nD τ).loc main_arg7) (ix3 0 0 k) := by
  show StableHlo.after hostOps0 (fun b => m (c, b)) main_v8 (ix3 4 0 k) = _
  simp only [StableHlo.after_cons, StableHlo.after_nil]
  iterate 23 after_results_step
  refine (concat_row _ _ _ _ k).trans ?_
  show _ = m (c, main_arg7) _
  after_results_steps
  rfl

theorem in8 (k : Fin 1024) :
    iblk m c 8 t (ix3 0 0 k) = m ((c : Thread nD τ).loc main_arg7) (ix3 0 0 k) := by
  rw [← src8 m c]
  blk_ext [iblk, idx8 t]

theorem src9 (k : Fin 1024) : V m c main_v11 (ix3 4 0 k) = m ((c : Thread nD τ).loc main_arg8) (ix3 0 0 k) := by
  show StableHlo.after hostOps0 (fun b => m (c, b)) main_v11 (ix3 4 0 k) = _
  simp only [StableHlo.after_cons, StableHlo.after_nil]
  iterate 18 after_results_step
  refine (concat_row _ _ _ _ k).trans ?_
  show _ = m (c, main_arg8) _
  after_results_steps
  rfl

theorem in9 (k : Fin 1024) :
    iblk m c 9 t (ix3 0 0 k) = m ((c : Thread nD τ).loc main_arg8) (ix3 0 0 k) := by
  rw [← src9 m c]
  blk_ext [iblk, idx9 t]

theorem src6 (k : Fin 1024) : V m c main_v24 (ix2 0 k) = m ((c : Thread nD τ).loc main_arg9) (ix2 0 k) := by
  entry_read
  pointwise

theorem in6 (k : Fin 1024) : iblk m c 6 t (ix2 0 k) = m ((c : Thread nD τ).loc main_arg9) (ix2 0 k) := by
  rw [← src6 m c]
  blk_ext [iblk, idx6 t]

theorem src10 (i : Fin 1536) (k : Fin 1024) : V m c main_v25 (ix3 0 i k) = m ((c : Thread nD τ).loc main_arg10) (ix3 0 i k) := by
  entry_read
  pointwise

theorem in10 (i : Fin 1536) (k : Fin 1024) : iblk m c 10 t (ix3 0 i k) = m ((c : Thread nD τ).loc main_arg10) (ix3 0 i k) := by
  rw [← src10 m c]
  blk_ext [iblk, idx10 t]

theorem src11 (i : Fin 1024) (k : Fin 1024) : V m c main_v26 (ix3 0 i k) = m ((c : Thread nD τ).loc main_arg11) (ix3 0 i k) := by
  entry_read
  pointwise

theorem in11 (i : Fin 1024) (k : Fin 1024) : iblk m c 11 t (ix3 0 i k) = m ((c : Thread nD τ).loc main_arg11) (ix3 0 i k) := by
  rw [← src11 m c]
  blk_ext [iblk, idx11 t]

theorem src12 (i : Fin 1024) (k : Fin 4096) : V m c main_v27 (ix3 0 i k) = m ((c : Thread nD τ).loc main_arg12) (ix3 0 i k) := by
  entry_read
  pointwise

theorem in12 (i : Fin 1024) (k : Fin 4096) : iblk m c 12 t (ix3 0 i k) = m ((c : Thread nD τ).loc main_arg12) (ix3 0 i k) := by
  rw [← src12 m c]
  blk_ext [iblk, idx12 t]

theorem src13 (i : Fin 4096) (k : Fin 1024) : V m c main_v28 (ix3 0 i k) = m ((c : Thread nD τ).loc main_arg13) (ix3 0 i k) := by
  entry_read
  pointwise

theorem in13 (i : Fin 4096) (k : Fin 1024) : iblk m c 13 t (ix3 0 i k) = m ((c : Thread nD τ).loc main_arg13) (ix3 0 i k) := by
  rw [← src13 m c]
  blk_ext [iblk, idx13 t]

/-- The result array of the kernel on core `c`. -/
def G : (⟨2, ![1024, 1024]⟩ : Shape).Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem block_eq (r : Fin 256) (j : Fin 1024) :
    out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ix2 r j) = G m c (ix2 (row t r) j) := by
  rw [block_apply]
  simp only [in0, in1, in2, in3, in4, in5, in6, in7, in8, in9, in10, in11, in12, in13]
  rfl

theorem array_eq : (dats m 0 c).arrAt 14 cfg0.N = G m c := by
  refine (dats m 0 c).arrAt_eq_of_covers 14 _ (by decide +kernel) fun t hf y => ?_
  blk_simp
  rw [after0_14]
  obtain ⟨r, j, rfl⟩ : ∃ (r : Fin 256) (j : Fin 1024), y = ix2 r j := ⟨y 0, y 1, ValueIdx.eq_ix2 y⟩
  refine (block_eq m c t r j).trans ?_
  blk_ext [row_val, idx14 t]

end Cert.CtxLayer

end
-- ==== Proof.CtxLayerRef.lean ====
module

public import proofs.«01_k».proof.Proof.Gen.Reference6Ideal.Read
public import proofs.«01_k».proof.Proof.CtxLayerArr

@[expose] public section

noncomputable section

/-! The reference's result, stage by stage, at an index. -/

namespace Cert.CtxLayer

open Idealize.ShloMosaic Cert.Merge Cert.Reference6Ideal Cert.Reference6Ideal.Read
open scoped BigOperators

variable (x0 : (⟨S4x256x1024, .f32⟩ : BufTy).Contents (Elt Ideal)) (x1 x2 x3 : (⟨S4x256x512, .f32⟩ : BufTy).Contents (Elt Ideal))
  (x4 : (⟨S4x256x3072, .f32⟩ : BufTy).Contents (Elt Ideal)) (x5 x6 x7 x8 : (⟨S1x1x1024, .f32⟩ : BufTy).Contents (Elt Ideal))
  (x9 : (⟨S4x1024, .f32⟩ : BufTy).Contents (Elt Ideal)) (x10 : (⟨S4x1536x1024, .f32⟩ : BufTy).Contents (Elt Ideal))
  (x11 : (⟨S4x1024x1024, .f32⟩ : BufTy).Contents (Elt Ideal)) (x12 : (⟨S4x1024x4096, .f32⟩ : BufTy).Contents (Elt Ideal))
  (x13 : (⟨S4x4096x1024, .f32⟩ : BufTy).Contents (Elt Ideal))
  (b : Fin 4) (t : Fin 256)

theorem ref_gated (j : Fin 1024) : val_main_v34 (F := Ideal) x1 x2 x3 x4 x10 (ix3 b t j)
    = gated (fun k => x4 (ix3 b t k)) (fun k => x1 (ix3 b t k)) (fun k => x2 (ix3 b t k)) (fun k => x3 (ix3 b t k)) (fun i k => x10 (ix3 0 i k)) j := by
  pointwise [val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4]
  rfl

theorem ref_mid (j : Fin 1024) : val_main_v40 (F := Ideal) x0 x1 x2 x3 x4 x5 x10 x11 (ix3 b t j)
    = mid (fun k => x0 (ix3 b t k)) (fun k => x4 (ix3 b t k)) (fun k => x1 (ix3 b t k)) (fun k => x2 (ix3 b t k)) (fun k => x3 (ix3 b t k))
        (fun i k => x10 (ix3 0 i k)) (fun k => x5 (ix3 0 0 k)) (fun i k => x11 (ix3 0 i k)) j := by
  pointwise [val_main_v40, val_main_v39, val_main_v38, val_main_v37, val_main_v36, val_main_v35, ref_gated]
  rfl

theorem ref_modul (j : Fin 1024) : val_main_v61 (F := Ideal) x0 x1 x2 x3 x4 x5 x6 x7 x9 x10 x11 (ix3 b t j)
    = modul (fun k => val_main_v40 (F := Ideal) x0 x1 x2 x3 x4 x5 x10 x11 (ix3 b t k)) (fun k => x9 (ix2 0 k)) (fun k => x7 (ix3 0 0 k)) (fun k => x6 (ix3 0 0 k)) j := by
  pointwise [val_main_v61, val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43, val_main_v42, val_main_v41,
    val_main_cst_5, val_main_cst_6, val_main_cst_7, val_main_cst_8]
  rfl

theorem ref_unit (i : Fin 4096) : val_main_v66 (F := Ideal) x0 x1 x2 x3 x4 x5 x6 x7 x9 x10 x11 x12 (ix3 b t i)
    = unit (fun k => val_main_v61 (F := Ideal) x0 x1 x2 x3 x4 x5 x6 x7 x9 x10 x11 (ix3 b t k)) (fun k => x12 (ix3 0 k i)) := by
  pointwise [val_main_v66, val_main_v65, val_main_v64, val_main_v63, val_main_v62, val_main_call0_v0, val_main_call0_cst]
  rfl

theorem ref_last (j : Fin 1024) : val_main_v72 (F := Ideal) x0 x1 x2 x3 x4 x5 x6 x7 x8 x9 x10 x11 x12 x13 (ix3 b t j)
    = resid (fun k => val_main_v40 (F := Ideal) x0 x1 x2 x3 x4 x5 x10 x11 (ix3 b t k)) (fun k => x8 (ix3 0 0 k))
        (fun i => val_main_v66 (F := Ideal) x0 x1 x2 x3 x4 x5 x6 x7 x9 x10 x11 x12 (ix3 b t i)) (fun i k => x13 (ix3 0 i k)) j := by
  pointwise [val_main_v72, val_main_v71, val_main_v70, val_main_v69, val_main_v68, val_main_v67]
  rfl

/-- The reference's result array. -/
theorem ref_result : val_main_v73 (F := Ideal) x0 x1 x2 x3 x4 x5 x6 x7 x8 x9 x10 x11 x12 x13
    = result x0 x1 x2 x3 x4 x5 x6 x7 x8 x9 x10 x11 x12 x13 := by
  funext i
  obtain ⟨n, j, rfl⟩ : ∃ (n : Fin 1024) (j : Fin 1024), i = ix2 n j := ⟨i 0, i 1, ValueIdx.eq_ix2 i⟩
  rw [val_main_v73_apply]
  have e : idx_main_v73 (ix2 n j) = ix3 (n0 := 4) (n1 := 256) (n2 := 1024) ⟨n.val / 256, by omega⟩ ⟨n.val % 256, Nat.mod_lt _ (by norm_num)⟩ j := by
    funext a
    match a with
    | ⟨0, _⟩ => exact Fin.ext (by show (n.val * 1024 + j.val) / 262144 = n.val / 256; omega)
    | ⟨1, _⟩ => exact Fin.ext (by show (n.val * 1024 + j.val) / 1024 % 256 = n.val % 256; omega)
    | ⟨2, _⟩ => exact Fin.ext (by show (n.val * 1024 + j.val) % 1024 = j.val; omega)
  rw [e, ref_last]
  simp only [ref_unit, ref_modul, ref_mid]
  rfl

end Cert.CtxLayer

end
-- ==== Proof.CtxLayerClaim.lean ====
module

public import proofs.«01_k».proof.Defs
public import proofs.«01_k».proof.Proof.Gen.Kernel6.Frame
public import proofs.«01_k».proof.Proof.CtxLayerKernel
public import proofs.«01_k».proof.Proof.CtxLayerRef

@[expose] public section

noncomputable section

/-! The claims about the end of a layer on the context's tokens: its own program, the program with the ideal arithmetic, and the reference. -/

namespace Cert.CtxLayer

open Idealize.ShloMosaic Idealize.SL.Sem

theorem frame_kernel : Cert.quiescent_Kernel6 (hKernel6 := Cert.Kernel6.Gen.facts) := fun m ρ _ => Cert.Kernel6.Gen.frame m ρ

theorem frame_ideal : Cert.quiescent_Kernel6Ideal (hKernel6Ideal := Cert.Kernel6Ideal.Gen.facts) := fun m ρ _ => Cert.Kernel6Ideal.Gen.frame m ρ

theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal (hKernel6Ideal := Cert.Kernel6Ideal.Gen.facts) (hReference6Ideal := Cert.Reference6Ideal.Gen.facts) := by
  intro m ρ m' ρ' _ hagree
  refine ⟨fun c => G m c, ?_, ?_⟩
  · exact (θ_run Cert.Kernel6Ideal.defs _ _).mono (fun _ h c => ⟨(h c).1.trans (array_eq m c), (h c).2⟩)
      (Cert.Kernel6Ideal.Value.run_blocks (F := Ideal) m ρ)
  · refine (θ_run Cert.Reference6Ideal.defs _ _).mono (fun _ h c => ⟨(h c).1.trans ?_, (h c).2⟩) (Cert.Reference6Ideal.Value.run (F := Ideal) m' ρ')
    obtain ⟨h0, h1, h2, h3, h4, h5, h6, h7, h8, h9, h10, h11, h12, h13⟩ := hagree c
    rw [Cert.Reference6Ideal.Read.val_main_v73_eq, ref_result]
    unfold G
    rw [h0, h1, h2, h3, h4, h5, h6, h7, h8, h9, h10, h11, h12, h13]

theorem preserves : Cert.preserves_Kernel6_Kernel6Ideal := trivial

end Cert.CtxLayer

end
-- ==== Proof.CtxProjModel.lean ====
module

public import proofs.«01_k».proof.Proof.CtxLayerArr

@[expose] public section

noncomputable section

/-! The context's tokens at the layer's beginning, on the extended reals: the modulated norm, its products with the columns of the
input projection's weights, and the result arrays in the layouts in which the projection leaves them. -/

namespace Cert.CtxProj

open Idealize.ShloMosaic Cert.Merge Cert.CtxLayer
open scoped BigOperators

variable (x0 : (⟨3, ![4, 256, 1024]⟩ : Shape).Idx → EReal) (x1 x2 : (⟨3, ![1, 1, 1024]⟩ : Shape).Idx → EReal)
  (x3 : (⟨2, ![4, 1024]⟩ : Shape).Idx → EReal) (x4 : (⟨3, ![4, 1024, 6400]⟩ : Shape).Idx → EReal)

/-- The modulated norm of token `t` of batch row `b`. -/
def normed (b : Fin 4) (t : Fin 256) : Fin 1024 → EReal :=
  modul (fun k => x0 (ix3 b t k)) (fun k => x3 (ix2 0 k)) (fun k => x2 (ix3 0 0 k)) (fun k => x1 (ix3 0 0 k))

/-- Its product with column `j` of the first layer's weights. -/
def col (b : Fin 4) (t : Fin 256) (j : Fin 6400) : EReal := ∑ k : Fin 1024, normed x0 x1 x2 x3 b t k * x4 (ix3 0 k j)

/-- A group of `w` columns from column `c` on, the tokens in rows. -/
def seg (c w : ℕ) (hc : c + w ≤ 6400) (i : (⟨2, ![1024, w]⟩ : Shape).Idx) : EReal :=
  col x0 x1 x2 x3 x4 (batC (i 0)) (posC (i 0)) ⟨c + (i 1).val, by have : (i 1).val < w := (i 1).isLt; omega⟩

/-- The key heads of the windowed attention, each twice. -/
def keys (i : (⟨2, ![1024, 256]⟩ : Shape).Idx) : EReal :=
  col x0 x1 x2 x3 x4 (batC (i 0)) (posC (i 0)) ⟨3072 + ((i 1).val / 128 * 64 + (i 1).val % 64), by have : (i 1).val < 256 := (i 1).isLt; omega⟩

/-- The values of the neighbourhood attention, feature-major for every batch row. -/
def valuesA (i : (⟨3, ![4, 512, 256]⟩ : Shape).Idx) : EReal :=
  col x0 x1 x2 x3 x4 (i 0) (i 2) ⟨1024 + (i 1).val, by have : (i 1).val < 512 := (i 1).isLt; omega⟩

/-- The values of the windowed attention, feature-major in blocks of 128 tokens. -/
def valuesC (i : (⟨3, ![8, 128, 128]⟩ : Shape).Idx) : EReal :=
  have h0 : (i 0).val < 8 := (i 0).isLt
  have h1 : (i 1).val < 128 := (i 1).isLt
  have h2 : (i 2).val < 128 := (i 2).isLt
  col x0 x1 x2 x3 x4 (batC ⟨128 * (i 0).val + (i 2).val, by omega⟩) (posC ⟨128 * (i 0).val + (i 2).val, by omega⟩) ⟨3200 + (i 1).val, by omega⟩

end Cert.CtxProj

end
-- ==== Proof.CtxProjPay.lean ====
module

public import proofs.«01_k».proof.Proof.Gen.Kernel5Ideal.Frame
public import proofs.«01_k».proof.Proof.CtxProjModel
public import Idealize.ShloMosaic.Lib.Pipeline.ValueKit

@[expose] public section

noncomputable section

/-! What the kernel body leaves in its nine result blocks on the context's tokens, element by element. -/

namespace Cert.CtxProj

open Idealize.ShloMosaic Cert.Merge Cert.Kernel5Ideal Cert.Kernel5Ideal.Gen
open scoped BigOperators

/-- The modulated norm of the block's tokens. -/
theorem pay4_apply (v0 : Vec Ideal S256x1024 .f32) (v12 : Vec Ideal S1x1024 .f32) (v16 v22 : Vec Ideal S1x1x1024 .f32) (r : Fin 256) (j : Fin 1024) :
    k0_pay4 v0 v12 v16 v22 (ix2 r j)
      = modul (fun k => v0 (ix2 r k)) (fun k => v12 (ix2 0 k)) (fun k => v16 (ix3 0 0 k)) (fun k => v22 (ix3 0 0 k)) j := by
  pointwise [k0_pay4]
  rfl

variable (x0 : Vec Ideal S256x1024 .f32) (x1 x2 : Vec Ideal S1x1x1024 .f32) (x3 : Vec Ideal S1x1024 .f32)
  (x4 : Vec Ideal S1x1024x6400 .bf16) (x5 : Vec Ideal S1x1024x256 .bf16)

/-- The modulated norm of the block's row `r`. -/
def hrow (r : Fin 256) : Fin 1024 → EReal :=
  modul (fun k => x0 (ix2 r k)) (fun k => x3 (ix2 0 k)) (fun k => x2 (ix3 0 0 k)) (fun k => x1 (ix3 0 0 k))

/-- Its product with a column of the weights. -/
def hcol (r : Fin 256) (j : Fin 6400) : EReal := ∑ k : Fin 1024, hrow x0 x1 x2 x3 r k * x4 (ix3 0 k j)

/-- The product of a token with a column of the doubled key weights. -/
def kcol (r : Fin 256) (j : Fin 256) : EReal := ∑ k : Fin 1024, hrow x0 x1 x2 x3 r k * x5 (ix3 0 k j)

theorem pay18_apply (r : Fin 256) (k : Fin 1024) : k0_pay18 x0 x1 x2 x3 x4 x5 (ix2 r k) = hrow x0 x1 x2 x3 r k := by
  pointwise [k0_pay18, pay4_apply]
  rfl

theorem zero2 : (![0, 0] : Fin 2 → ℕ) = fun _ => 0 := funext fun a => by fin_cases a <;> rfl

theorem zero3 : (![0, 0, 0] : Fin 3 → ℕ) = fun _ => 0 := funext fun a => by fin_cases a <;> rfl

theorem block6 (r : Fin 256) (j : Fin 512) : out0_6 x0 x1 x2 x3 x4 x5 (ix2 r j) = hcol x0 x1 x2 x3 x4 r ⟨0 + j.val, by omega⟩ := by
  unfold out0_6
  rw [View.canon_unit_zero zero2]
  pointwise [k0_pay5, pay4_apply]
  rfl

theorem block7 (r : Fin 256) (j : Fin 512) : out0_7 x0 x1 x2 x3 x4 x5 (ix2 r j) = hcol x0 x1 x2 x3 x4 r ⟨512 + j.val, by omega⟩ := by
  unfold out0_7
  rw [View.canon_unit_zero zero2]
  pointwise [k0_pay7, k0_pay6, pay18_apply]
  rfl

theorem block8 (r : Fin 256) (j : Fin 512) : out0_8 x0 x1 x2 x3 x4 x5 (ix2 r j) = hcol x0 x1 x2 x3 x4 r ⟨1536 + j.val, by omega⟩ := by
  unfold out0_8
  rw [View.canon_unit_zero zero2]
  pointwise [k0_pay8, pay18_apply]
  rfl

theorem block9 (r : Fin 256) (j : Fin 512) : out0_9 x0 x1 x2 x3 x4 x5 (ix2 r j) = hcol x0 x1 x2 x3 x4 r ⟨2048 + j.val, by omega⟩ := by
  unfold out0_9
  rw [View.canon_unit_zero zero2]
  pointwise [k0_pay9, pay18_apply]
  rfl

theorem block10 (r : Fin 256) (j : Fin 512) : out0_10 x0 x1 x2 x3 x4 x5 (ix2 r j) = hcol x0 x1 x2 x3 x4 r ⟨2560 + j.val, by omega⟩ := by
  unfold out0_10
  rw [View.canon_unit_zero zero2]
  pointwise [k0_pay10, pay18_apply]
  rfl

theorem block11 (r j : Fin 256) : out0_11 x0 x1 x2 x3 x4 x5 (ix2 r j) = kcol x0 x1 x2 x3 x5 r j := by
  unfold out0_11
  rw [View.canon_unit_zero zero2]
  pointwise [k0_pay11, pay18_apply]
  rfl

theorem block12 (r : Fin 256) (j : Fin 3072) : out0_12 x0 x1 x2 x3 x4 x5 (ix2 r j) = hcol x0 x1 x2 x3 x4 r ⟨3328 + j.val, by omega⟩ := by
  unfold out0_12
  canon_tiles x h
  all_goals
    obtain ⟨a, b, rfl⟩ : ∃ (a : Fin 256) (b : Fin 512), x = ix2 a b := ⟨x 0, x 1, ValueIdx.eq_ix2 x⟩
    obtain rfl : a = r := Fin.ext h0.symm
    have hj : j.val = _ := h1
    have hb : ((ix2 a b : (⟨2, ![256, 512]⟩ : Shape).Idx) 1).val = b.val := rfl
    pointwise [k0_pay12, k0_pay13, k0_pay14, k0_pay15, k0_pay16, k0_pay17, pay18_apply]
    unfold hcol
    refine Finset.sum_congr rfl fun k _ => congrArg _ (congrArg (fun z => x4 (ix3 0 k z)) (Fin.ext ?_))
    simp only []
    omega

theorem block13 (j : Fin 512) (s : Fin 256) : out0_13 x0 x1 x2 x3 x4 x5 (ix3 0 j s) = hcol x0 x1 x2 x3 x4 s ⟨1024 + j.val, by omega⟩ := by
  unfold out0_13
  rw [View.canon_unit_zero zero3]
  pointwise [k0_pay1, pay18_apply]
  unfold hcol
  exact Finset.sum_congr rfl fun k _ => mul_comm _ _

theorem block14 (q : Fin 2) (j s : Fin 128) : out0_14 x0 x1 x2 x3 x4 x5 (ix3 q j s)
    = hcol x0 x1 x2 x3 x4 ⟨128 * q.val + s.val, by omega⟩ ⟨3200 + j.val, by omega⟩ := by
  unfold out0_14
  canon_tiles x h
  all_goals
    obtain ⟨z, a, b, rfl⟩ : ∃ (z : Fin 1) (a b : Fin 128), x = ix3 z a b := ⟨x 0, x 1, x 2, ValueIdx.eq_ix3 x⟩
    obtain rfl : a = j := Fin.ext h1.symm
    obtain rfl : b = s := Fin.ext h2.symm
    have hq : q.val = _ := h0
    have hz : ((ix3 z a b : (⟨3, ![1, 128, 128]⟩ : Shape).Idx) 0).val = z.val := rfl
    pointwise [k0_pay2, k0_pay3, pay18_apply]
    unfold hcol
    refine Finset.sum_congr rfl fun k _ => (mul_comm _ _).trans (congrArg (fun w => hrow x0 x1 x2 x3 w k * x4 (ix3 0 k ⟨3200 + a.val, by omega⟩)) (Fin.ext ?_))
    simp only []
    omega

end Cert.CtxProj

end
-- ==== Proof.CtxProjKernel.lean ====
module

public import Idealize.ShloMosaic.Lib.Pipeline.ValueKit
public import proofs.«01_k».proof.Proof.Gen.Kernel5Ideal.Value
public import proofs.«01_k».proof.Proof.CtxProjPay

@[expose] public section

set_option maxRecDepth 16384

noncomputable section

/-! The nine arrays the projection kernel leaves on the context's tokens, read off its run block by block. -/

namespace Cert.CtxProj

open Idealize.ShloMosaic Cert.Merge Cert.CtxLayer Cert.Kernel5Ideal Cert.Kernel5Ideal.Gen

open Idealize.ShloMosaic.TcCoe

variable (m : (ℓ : Loc nD τ sig) → Buf (Elt Ideal) ℓ) (c : Dev nD) (t : Fin cfg0.N)

theorem val_lt (t : Fin cfg0.N) : t.val < 4 := lt_of_lt_of_eq t.isLt N_0

/-- Row `r` of the block of grid point `t`. -/
def row (t : Fin cfg0.N) (r : Fin 256) : Fin 1024 := ⟨256 * t.val + r.val, by have := val_lt t; omega⟩

theorem idx0 : ∀ t : Fin cfg0.N, win0_0.index t = ![t.val, 0] := by decide +kernel
theorem idx1 : ∀ t : Fin cfg0.N, win0_1.index t = ![4, 0, 0] := by decide +kernel
theorem idx2 : ∀ t : Fin cfg0.N, win0_2.index t = ![4, 0, 0] := by decide +kernel
theorem idx3 : ∀ t : Fin cfg0.N, win0_3.index t = ![0, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val, 0] := by decide +kernel
theorem idx13 : ∀ t : Fin cfg0.N, win0_13.index t = ![t.val, 0, 0] := by decide +kernel
theorem idx14 : ∀ t : Fin cfg0.N, win0_14.index t = ![t.val, 0, 0] := by decide +kernel

theorem row_val (r : Fin 256) : (row t r).val = 256 * t.val + r.val := rfl

theorem src0 (n : Fin 1024) (k : Fin 1024) :
    V m c main_v5 (ix2 n k) = m ((c : Thread nD τ).loc main_arg0) (ix3 (batC n) (posC n) k) := by
  entry_read
  pointwise
  rfl

theorem in0 (r : Fin 256) (k : Fin 1024) :
    iblk m c 0 t (ix2 r k) = m ((c : Thread nD τ).loc main_arg0) (ix3 (batC (row t r)) (posC (row t r)) k) := by
  rw [← src0 m c]
  blk_ext [iblk, row_val, idx0 t]

theorem src1 (k : Fin 1024) : V m c main_v8 (ix3 4 0 k) = m ((c : Thread nD τ).loc main_arg1) (ix3 0 0 k) := by
  show StableHlo.after hostOps0 (fun b => m (c, b)) main_v8 (ix3 4 0 k) = _
  simp only [StableHlo.after_cons, StableHlo.after_nil]
  iterate 9 after_results_step
  refine (concat_row _ _ _ _ k).trans ?_
  show _ = m (c, main_arg1) _
  after_results_steps
  rfl

theorem in1 (k : Fin 1024) : iblk m c 1 t (ix3 0 0 k) = m ((c : Thread nD τ).loc main_arg1) (ix3 0 0 k) := by
  rw [← src1 m c]
  blk_ext [iblk, idx1 t]

theorem src2 (k : Fin 1024) : V m c main_v11 (ix3 4 0 k) = m ((c : Thread nD τ).loc main_arg2) (ix3 0 0 k) := by
  show StableHlo.after hostOps0 (fun b => m (c, b)) main_v11 (ix3 4 0 k) = _
  simp only [StableHlo.after_cons, StableHlo.after_nil]
  iterate 4 after_results_step
  refine (concat_row _ _ _ _ k).trans ?_
  show _ = m (c, main_arg2) _
  after_results_steps
  rfl

theorem in2 (k : Fin 1024) : iblk m c 2 t (ix3 0 0 k) = m ((c : Thread nD τ).loc main_arg2) (ix3 0 0 k) := by
  rw [← src2 m c]
  blk_ext [iblk, idx2 t]

theorem src3 (k : Fin 1024) : V m c main_v14 (ix2 0 k) = m ((c : Thread nD τ).loc main_arg3) (ix2 0 k) := by
  entry_read
  pointwise

theorem in3 (k : Fin 1024) : iblk m c 3 t (ix2 0 k) = m ((c : Thread nD τ).loc main_arg3) (ix2 0 k) := by
  rw [← src3 m c]
  blk_ext [iblk, idx3 t]

theorem src4 (i : Fin 1024) (k : Fin 6400) : V m c main_v0 (ix3 0 i k) = m ((c : Thread nD τ).loc main_arg4) (ix3 0 i k) := by
  entry_read
  pointwise

theorem in4 (i : Fin 1024) (k : Fin 6400) : iblk m c 4 t (ix3 0 i k) = m ((c : Thread nD τ).loc main_arg4) (ix3 0 i k) := by
  rw [← src4 m c]
  blk_ext [iblk, idx4 t]

/-- The doubled key weights: each head's 64 columns twice. -/
theorem src5 (i : Fin 1024) (k : Fin 256) :
    V m c main_v4 (ix3 0 i k) = m ((c : Thread nD τ).loc main_arg4) (ix3 0 i ⟨3072 + (k.val / 128 * 64 + k.val % 64), by omega⟩) := by
  entry_read
  pointwise

theorem in5 (i : Fin 1024) (k : Fin 256) :
    iblk m c 5 t (ix3 0 i k) = m ((c : Thread nD τ).loc main_arg4) (ix3 0 i ⟨3072 + (k.val / 128 * 64 + k.val % 64), by omega⟩) := by
  rw [← src5 m c]
  blk_ext [iblk, idx5 t]

/-- A token's product with a column of the weights, in the block of grid point `t`. -/
theorem hcol_eq (r : Fin 256) (j : Fin 6400) :
    hcol (iblk m c 0 t) (iblk m c 1 t) (iblk m c 2 t) (iblk m c 3 t) (iblk m c 4 t) r j = col (m ((c : Thread nD τ).loc main_arg0)) (m ((c : Thread nD τ).loc main_arg1)) (m ((c : Thread nD τ).loc main_arg2)) (m ((c : Thread nD τ).loc main_arg3)) (m ((c : Thread nD τ).loc main_arg4)) (batC (row t r)) (posC (row t r)) j := by
  unfold hcol hrow
  simp only [in0, in1, in2, in3, in4]
  rfl

/-- The same for the doubled key weights. -/
theorem kcol_eq (r : Fin 256) (j : Fin 256) :
    kcol (iblk m c 0 t) (iblk m c 1 t) (iblk m c 2 t) (iblk m c 3 t) (iblk m c 5 t) r j
      = col (m ((c : Thread nD τ).loc main_arg0)) (m ((c : Thread nD τ).loc main_arg1)) (m ((c : Thread nD τ).loc main_arg2)) (m ((c : Thread nD τ).loc main_arg3)) (m ((c : Thread nD τ).loc main_arg4)) (batC (row t r)) (posC (row t r)) ⟨3072 + (j.val / 128 * 64 + j.val % 64), by omega⟩ := by
  unfold kcol hrow
  simp only [in0, in1, in2, in3, in5]
  rfl

/-- The nine result arrays on core `c`. -/
def segArr (a w : ℕ) (h : a + w ≤ 6400) : (⟨2, ![1024, w]⟩ : Shape).Idx → EReal := seg (m ((c : Thread nD τ).loc main_arg0)) (m ((c : Thread nD τ).loc main_arg1)) (m ((c : Thread nD τ).loc main_arg2)) (m ((c : Thread nD τ).loc main_arg3)) (m ((c : Thread nD τ).loc main_arg4)) a w h

def keysArr : (⟨2, ![1024, 256]⟩ : Shape).Idx → EReal := keys (m ((c : Thread nD τ).loc main_arg0)) (m ((c : Thread nD τ).loc main_arg1)) (m ((c : Thread nD τ).loc main_arg2)) (m ((c : Thread nD τ).loc main_arg3)) (m ((c : Thread nD τ).loc main_arg4))

def valuesAArr : (⟨3, ![4, 512, 256]⟩ : Shape).Idx → EReal := valuesA (m ((c : Thread nD τ).loc main_arg0)) (m ((c : Thread nD τ).loc main_arg1)) (m ((c : Thread nD τ).loc main_arg2)) (m ((c : Thread nD τ).loc main_arg3)) (m ((c : Thread nD τ).loc main_arg4))

def valuesCArr : (⟨3, ![8, 128, 128]⟩ : Shape).Idx → EReal := valuesC (m ((c : Thread nD τ).loc main_arg0)) (m ((c : Thread nD τ).loc main_arg1)) (m ((c : Thread nD τ).loc main_arg2)) (m ((c : Thread nD τ).loc main_arg3)) (m ((c : Thread nD τ).loc main_arg4))

theorem array6 : (dats m 0 c).arrAt 6 cfg0.N = segArr m c 0 512 (by norm_num) := by
  refine (dats m 0 c).arrAt_eq_of_covers 6 _ (by decide +kernel) fun t hf y => ?_
  blk_simp
  rw [after0_6]
  obtain ⟨r, j, rfl⟩ : ∃ (r : Fin 256) (j : Fin 512), y = ix2 r j := ⟨y 0, y 1, ValueIdx.eq_ix2 y⟩
  refine (block6 _ _ _ _ _ _ r j).trans ((hcol_eq m c t r _).trans ?_)
  refine (rfl : _ = segArr m c 0 512 (by norm_num) (ix2 (row t r) j)).trans ?_
  blk_ext [row_val, idx6 t]

theorem array7 : (dats m 0 c).arrAt 7 cfg0.N = segArr m c 512 512 (by norm_num) := by
  refine (dats m 0 c).arrAt_eq_of_covers 7 _ (by decide +kernel) fun t hf y => ?_
  blk_simp
  rw [after0_7]
  obtain ⟨r, j, rfl⟩ : ∃ (r : Fin 256) (j : Fin 512), y = ix2 r j := ⟨y 0, y 1, ValueIdx.eq_ix2 y⟩
  refine (block7 _ _ _ _ _ _ r j).trans ((hcol_eq m c t r _).trans ?_)
  refine (rfl : _ = segArr m c 512 512 (by norm_num) (ix2 (row t r) j)).trans ?_
  blk_ext [row_val, idx7 t]

theorem array8 : (dats m 0 c).arrAt 8 cfg0.N = segArr m c 1536 512 (by norm_num) := by
  refine (dats m 0 c).arrAt_eq_of_covers 8 _ (by decide +kernel) fun t hf y => ?_
  blk_simp
  rw [after0_8]
  obtain ⟨r, j, rfl⟩ : ∃ (r : Fin 256) (j : Fin 512), y = ix2 r j := ⟨y 0, y 1, ValueIdx.eq_ix2 y⟩
  refine (block8 _ _ _ _ _ _ r j).trans ((hcol_eq m c t r _).trans ?_)
  refine (rfl : _ = segArr m c 1536 512 (by norm_num) (ix2 (row t r) j)).trans ?_
  blk_ext [row_val, idx8 t]

theorem array9 : (dats m 0 c).arrAt 9 cfg0.N = segArr m c 2048 512 (by norm_num) := by
  refine (dats m 0 c).arrAt_eq_of_covers 9 _ (by decide +kernel) fun t hf y => ?_
  blk_simp
  rw [after0_9]
  obtain ⟨r, j, rfl⟩ : ∃ (r : Fin 256) (j : Fin 512), y = ix2 r j := ⟨y 0, y 1, ValueIdx.eq_ix2 y⟩
  refine (block9 _ _ _ _ _ _ r j).trans ((hcol_eq m c t r _).trans ?_)
  refine (rfl : _ = segArr m c 2048 512 (by norm_num) (ix2 (row t r) j)).trans ?_
  blk_ext [row_val, idx9 t]

theorem array10 : (dats m 0 c).arrAt 10 cfg0.N = segArr m c 2560 512 (by norm_num) := by
  refine (dats m 0 c).arrAt_eq_of_covers 10 _ (by decide +kernel) fun t hf y => ?_
  blk_simp
  rw [after0_10]
  obtain ⟨r, j, rfl⟩ : ∃ (r : Fin 256) (j : Fin 512), y = ix2 r j := ⟨y 0, y 1, ValueIdx.eq_ix2 y⟩
  refine (block10 _ _ _ _ _ _ r j).trans ((hcol_eq m c t r _).trans ?_)
  refine (rfl : _ = segArr m c 2560 512 (by norm_num) (ix2 (row t r) j)).trans ?_
  blk_ext [row_val, idx10 t]

theorem array11 : (dats m 0 c).arrAt 11 cfg0.N = keysArr m c := by
  refine (dats m 0 c).arrAt_eq_of_covers 11 _ (by decide +kernel) fun t hf y => ?_
  blk_simp
  rw [after0_11]
  obtain ⟨r, j, rfl⟩ : ∃ (r : Fin 256) (j : Fin 256), y = ix2 r j := ⟨y 0, y 1, ValueIdx.eq_ix2 y⟩
  refine (block11 _ _ _ _ _ _ r j).trans ((kcol_eq m c t r _).trans ?_)
  refine (rfl : _ = keysArr m c (ix2 (row t r) j)).trans ?_
  blk_ext [row_val, idx11 t]

theorem array12 : (dats m 0 c).arrAt 12 cfg0.N = segArr m c 3328 3072 (by norm_num) := by
  refine (dats m 0 c).arrAt_eq_of_covers 12 _ (by decide +kernel) fun t hf y => ?_
  blk_simp
  rw [after0_12]
  obtain ⟨r, j, rfl⟩ : ∃ (r : Fin 256) (j : Fin 3072), y = ix2 r j := ⟨y 0, y 1, ValueIdx.eq_ix2 y⟩
  refine (block12 _ _ _ _ _ _ r j).trans ((hcol_eq m c t r _).trans ?_)
  refine (rfl : _ = segArr m c 3328 3072 (by norm_num) (ix2 (row t r) j)).trans ?_
  blk_ext [row_val, idx12 t]

theorem block13_eq (j : Fin 512) (s : Fin 256) :
    out0_13 (iblk m c 0 t) (iblk m c 1 t) (iblk m c 2 t) (iblk m c 3 t) (iblk m c 4 t) (iblk m c 5 t) (ix3 0 j s) = valuesAArr m c (ix3 ⟨t.val, val_lt t⟩ j s) := by
  rw [block13, hcol_eq]
  have ht := val_lt t
  have e1 : batC (row t s) = ⟨t.val, ht⟩ := Fin.ext (by show (256 * t.val + s.val) / 256 = t.val; omega)
  have e2 : posC (row t s) = s := Fin.ext (by show (256 * t.val + s.val) % 256 = s.val; omega)
  rw [e1, e2]
  rfl

theorem array13 : (dats m 0 c).arrAt 13 cfg0.N = valuesAArr m c := by
  refine (dats m 0 c).arrAt_eq_of_covers 13 _ (by decide +kernel) fun t hf y => ?_
  blk_simp
  rw [after0_13]
  obtain ⟨j, s, rfl⟩ : ∃ (j : Fin 512) (s : Fin 256), y = ix3 0 j s :=
    ⟨y 1, y 2, (ValueIdx.eq_ix3 y).trans (congrArg (fun z => ix3 z (y 1) (y 2)) (Subsingleton.elim (α := Fin 1) _ _))⟩
  refine (block13_eq m c t j s).trans ?_
  blk_ext [idx13 t]

/-- Block `q` of the blocks of 128 tokens which grid point `t` leaves. -/
def grp14 (t : Fin cfg0.N) (q : Fin 2) : Fin 8 := ⟨2 * t.val + q.val, by have := val_lt t; omega⟩

theorem grp14_val (q : Fin 2) : (grp14 t q).val = 2 * t.val + q.val := rfl

theorem block14_eq (q : Fin 2) (j s : Fin 128) :
    out0_14 (iblk m c 0 t) (iblk m c 1 t) (iblk m c 2 t) (iblk m c 3 t) (iblk m c 4 t) (iblk m c 5 t) (ix3 q j s) = valuesCArr m c (ix3 (grp14 t q) j s) := by
  have ht := val_lt t
  rw [block14, hcol_eq]
  have e : row t ⟨128 * q.val + s.val, by omega⟩ = ⟨128 * (grp14 t q).val + s.val, by rw [grp14_val]; omega⟩ :=
    Fin.ext (by rw [row_val]; simp only [grp14_val]; omega)
  rw [e]
  rfl

theorem array14 : (dats m 0 c).arrAt 14 cfg0.N = valuesCArr m c := by
  refine (dats m 0 c).arrAt_eq_of_covers 14 _ (by decide +kernel) fun t hf y => ?_
  blk_simp
  rw [after0_14]
  obtain ⟨q, j, s, rfl⟩ : ∃ (q : Fin 2) (j : Fin 128) (s : Fin 128), y = ix3 q j s := ⟨y 0, y 1, y 2, ValueIdx.eq_ix3 y⟩
  refine (block14_eq m c t q j s).trans ?_
  blk_ext [grp14_val, idx14 t]

end Cert.CtxProj

end
-- ==== Proof.CtxProjRef.lean ====
module

public import Idealize.ShloMosaic.Lib.Pipeline.ValueKit
public import proofs.«01_k».proof.Proof.Gen.Reference5Ideal.Read
public import proofs.«01_k».proof.Proof.CtxProjModel

@[expose] public section

set_option maxRecDepth 16384

noncomputable section

/-! The reference's nine results on the context's tokens, stage by stage, at an index. -/

namespace Cert.CtxProj

open Idealize.ShloMosaic Cert.Merge Cert.CtxLayer Cert.Reference5Ideal Cert.Reference5Ideal.Read
open scoped BigOperators

variable (x0 : (⟨S4x256x1024, .f32⟩ : BufTy).Contents (Elt Ideal)) (x1 x2 : (⟨S1x1x1024, .f32⟩ : BufTy).Contents (Elt Ideal))
  (x3 : (⟨S4x1024, .f32⟩ : BufTy).Contents (Elt Ideal)) (x4 : (⟨S4x1024x6400, .f32⟩ : BufTy).Contents (Elt Ideal))

theorem ref_normed (b : Fin 4) (t : Fin 256) (j : Fin 1024) : val_main_v20 (F := Ideal) x0 x1 x2 x3 (ix3 b t j) = normed x0 x1 x2 x3 b t j := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem ref_col (b : Fin 4) (t : Fin 256) (j : Fin 6400) : val_main_v23 (F := Ideal) x0 x1 x2 x3 x4 (ix3 b t j) = col x0 x1 x2 x3 x4 b t j := by
  pointwise [val_main_v23, val_main_v22, val_main_v21, ref_normed]
  rfl

theorem ref39 : val_main_v39 (F := Ideal) x0 x1 x2 x3 x4 = seg x0 x1 x2 x3 x4 0 512 (by norm_num) := by
  funext y
  obtain ⟨i, j, rfl⟩ : ∃ (i : Fin 1024) (j : Fin 512), y = ix2 i j := ⟨y 0, y 1, ValueIdx.eq_ix2 y⟩
  pointwise [val_main_v39, val_main_v38, val_main_v24, ref_col]
  exact congrArg (col x0 x1 x2 x3 x4 _ _) (Fin.ext (Nat.zero_add _).symm)

theorem ref41 : val_main_v41 (F := Ideal) x0 x1 x2 x3 x4 = seg x0 x1 x2 x3 x4 512 512 (by norm_num) := by
  funext y
  obtain ⟨i, j, rfl⟩ : ∃ (i : Fin 1024) (j : Fin 512), y = ix2 i j := ⟨y 0, y 1, ValueIdx.eq_ix2 y⟩
  pointwise [val_main_v41, val_main_v40, val_main_v25, ref_col]
  rfl

theorem ref42 : val_main_v42 (F := Ideal) x0 x1 x2 x3 x4 = seg x0 x1 x2 x3 x4 1536 512 (by norm_num) := by
  funext y
  obtain ⟨i, j, rfl⟩ : ∃ (i : Fin 1024) (j : Fin 512), y = ix2 i j := ⟨y 0, y 1, ValueIdx.eq_ix2 y⟩
  pointwise [val_main_v42, val_main_v27, ref_col]
  rfl

theorem ref43 : val_main_v43 (F := Ideal) x0 x1 x2 x3 x4 = seg x0 x1 x2 x3 x4 2048 512 (by norm_num) := by
  funext y
  obtain ⟨i, j, rfl⟩ : ∃ (i : Fin 1024) (j : Fin 512), y = ix2 i j := ⟨y 0, y 1, ValueIdx.eq_ix2 y⟩
  pointwise [val_main_v43, val_main_v28, ref_col]
  rfl

theorem ref45 : val_main_v45 (F := Ideal) x0 x1 x2 x3 x4 = seg x0 x1 x2 x3 x4 2560 512 (by norm_num) := by
  funext y
  obtain ⟨i, j, rfl⟩ : ∃ (i : Fin 1024) (j : Fin 512), y = ix2 i j := ⟨y 0, y 1, ValueIdx.eq_ix2 y⟩
  pointwise [val_main_v45, val_main_v44, val_main_v29, ref_col]
  rfl

theorem ref48 : val_main_v48 (F := Ideal) x0 x1 x2 x3 x4 = seg x0 x1 x2 x3 x4 3328 3072 (by norm_num) := by
  funext y
  obtain ⟨i, j, rfl⟩ : ∃ (i : Fin 1024) (j : Fin 3072), y = ix2 i j := ⟨y 0, y 1, ValueIdx.eq_ix2 y⟩
  pointwise [val_main_v48, val_main_v32, ref_col]
  rfl

theorem ref47 : val_main_v47 (F := Ideal) x0 x1 x2 x3 x4 = keys x0 x1 x2 x3 x4 := by
  funext y
  obtain ⟨i, j, rfl⟩ : ∃ (i : Fin 1024) (j : Fin 256), y = ix2 i j := ⟨y 0, y 1, ValueIdx.eq_ix2 y⟩
  pointwise [val_main_v47, val_main_v46, val_main_v34, val_main_v33, val_main_v30, ref_col]
  rfl

theorem ref49 : val_main_v49 (F := Ideal) x0 x1 x2 x3 x4 = valuesA x0 x1 x2 x3 x4 := by
  funext y
  obtain ⟨q, j, s, rfl⟩ : ∃ (q : Fin 4) (j : Fin 512) (s : Fin 256), y = ix3 q j s := ⟨y 0, y 1, y 2, ValueIdx.eq_ix3 y⟩
  pointwise [val_main_v49, val_main_v35, val_main_v26, ref_col]
  rfl

theorem ref50 : val_main_v50 (F := Ideal) x0 x1 x2 x3 x4 = valuesC x0 x1 x2 x3 x4 := by
  funext y
  obtain ⟨q, j, s, rfl⟩ : ∃ (q : Fin 8) (j : Fin 128) (s : Fin 128), y = ix3 q j s := ⟨y 0, y 1, y 2, ValueIdx.eq_ix3 y⟩
  pointwise [val_main_v50, val_main_v37, val_main_v36, val_main_v31, ref_col]
  refine congrArg₂ (fun u v => col x0 x1 x2 x3 x4 u v _) (Fin.ext ?_) (Fin.ext ?_)
  · show q.val / 2 = (128 * q.val + s.val) / 256
    omega
  · show q.val % 2 * 128 + s.val = (128 * q.val + s.val) % 256
    omega

end Cert.CtxProj

end
-- ==== Proof.CtxProjClaim.lean ====
module

public import proofs.«01_k».proof.Defs
public import proofs.«01_k».proof.Proof.Gen.Kernel5.Frame
public import proofs.«01_k».proof.Proof.CtxProjKernel
public import proofs.«01_k».proof.Proof.CtxProjRef

@[expose] public section

set_option maxHeartbeats 1000000

noncomputable section

/-! The claims about the layer's input projection on the context's tokens: its own program, the program with the ideal arithmetic, and the reference. -/

namespace Cert.CtxProj

open Idealize.ShloMosaic Idealize.SL.Sem

theorem frame_kernel : Cert.quiescent_Kernel5 (hKernel5 := Cert.Kernel5.Gen.facts) := fun m ρ _ => Cert.Kernel5.Gen.frame m ρ

theorem frame_ideal : Cert.quiescent_Kernel5Ideal (hKernel5Ideal := Cert.Kernel5Ideal.Gen.facts) := fun m ρ _ => Cert.Kernel5Ideal.Gen.frame m ρ

theorem frame_reference : Cert.quiescent_Reference5Ideal (hReference5Ideal := Cert.Reference5Ideal.Gen.facts) := fun m ρ _ =>
  (θ_run Cert.Reference5Ideal.defs _ _).mono (fun r h => ⟨fun c => (h c).2.2.2.2.2.2.2.2.2, sem_eq_zero_of_no_sems (by decide) r.2⟩)
    (Cert.Reference5Ideal.Value.run (F := Ideal) m ρ)

theorem algebraic : Cert.algebraic_Kernel5Ideal_Reference5Ideal (hKernel5Ideal := Cert.Kernel5Ideal.Gen.facts) (hReference5Ideal := Cert.Reference5Ideal.Gen.facts) := by
  intro m ρ m' ρ' _ hagree
  refine ⟨fun c => segArr m c 0 512 (by norm_num), fun c => segArr m c 512 512 (by norm_num), fun c => segArr m c 1536 512 (by norm_num), fun c => segArr m c 2048 512 (by norm_num), fun c => segArr m c 2560 512 (by norm_num), fun c => keysArr m c, fun c => segArr m c 3328 3072 (by norm_num), fun c => valuesAArr m c, fun c => valuesCArr m c, ?_, ?_⟩
  · refine (θ_run Cert.Kernel5Ideal.defs _ _).mono (fun _ h c => ?_) (Cert.Kernel5Ideal.Value.run_blocks (F := Ideal) m ρ)
    obtain ⟨r0, r1, r2, r3, r4, r5, r6, r7, r8, hr⟩ := h c
    exact ⟨r0.trans (array6 m c), r1.trans (array7 m c), r2.trans (array8 m c), r3.trans (array9 m c), r4.trans (array10 m c), r5.trans (array11 m c), r6.trans (array12 m c), r7.trans (array13 m c), r8.trans (array14 m c), hr⟩
  · refine (θ_run Cert.Reference5Ideal.defs _ _).mono (fun _ h c => ?_) (Cert.Reference5Ideal.Value.run (F := Ideal) m' ρ')
    obtain ⟨r0, r1, r2, r3, r4, r5, r6, r7, r8, hr⟩ := h c
    obtain ⟨h0, h1, h2, h3, h4⟩ := hagree c
    refine ⟨r0.trans ?_, r1.trans ?_, r2.trans ?_, r3.trans ?_, r4.trans ?_, r5.trans ?_, r6.trans ?_, r7.trans ?_, r8.trans ?_, hr⟩
    · refine (Cert.Reference5Ideal.Read.val_main_v39_eq (F := Ideal) _ _ _ _ _).trans ((ref39 _ _ _ _ _).trans ?_)
      unfold segArr
      rw [h0, h1, h2, h3, h4]
    · refine (Cert.Reference5Ideal.Read.val_main_v41_eq (F := Ideal) _ _ _ _ _).trans ((ref41 _ _ _ _ _).trans ?_)
      unfold segArr
      rw [h0, h1, h2, h3, h4]
    · refine (Cert.Reference5Ideal.Read.val_main_v42_eq (F := Ideal) _ _ _ _ _).trans ((ref42 _ _ _ _ _).trans ?_)
      unfold segArr
      rw [h0, h1, h2, h3, h4]
    · refine (Cert.Reference5Ideal.Read.val_main_v43_eq (F := Ideal) _ _ _ _ _).trans ((ref43 _ _ _ _ _).trans ?_)
      unfold segArr
      rw [h0, h1, h2, h3, h4]
    · refine (Cert.Reference5Ideal.Read.val_main_v45_eq (F := Ideal) _ _ _ _ _).trans ((ref45 _ _ _ _ _).trans ?_)
      unfold segArr
      rw [h0, h1, h2, h3, h4]
    · refine (Cert.Reference5Ideal.Read.val_main_v47_eq (F := Ideal) _ _ _ _ _).trans ((ref47 _ _ _ _ _).trans ?_)
      unfold keysArr
      rw [h0, h1, h2, h3, h4]
    · refine (Cert.Reference5Ideal.Read.val_main_v48_eq (F := Ideal) _ _ _ _ _).trans ((ref48 _ _ _ _ _).trans ?_)
      unfold segArr
      rw [h0, h1, h2, h3, h4]
    · refine (Cert.Reference5Ideal.Read.val_main_v49_eq (F := Ideal) _ _ _ _ _).trans ((ref49 _ _ _ _ _).trans ?_)
      unfold valuesAArr
      rw [h0, h1, h2, h3, h4]
    · refine (Cert.Reference5Ideal.Read.val_main_v50_eq (F := Ideal) _ _ _ _ _).trans ((ref50 _ _ _ _ _).trans ?_)
      unfold valuesCArr
      rw [h0, h1, h2, h3, h4]

theorem preserves : Cert.preserves_Kernel5_Kernel5Ideal := trivial

end Cert.CtxProj

end
-- ==== Proof.LayerPay.lean ====
module

public import proofs.«01_k».proof.Proof.Gen.Kernel3Ideal.Frame
public import proofs.«01_k».proof.Proof.MergeModel
public import Idealize.ShloMosaic.Lib.Pipeline.Value

@[expose] public section

noncomputable section

/-! What the kernel body leaves in its result block, element by element. -/

namespace Cert.Layer

open Idealize.ShloMosaic Cert.Merge Cert.Kernel3Ideal Cert.Kernel3Ideal.Gen
open scoped BigOperators

section Pay

variable (v28 v30 : FVec Ideal S512x1024 .f32) (v31 : Vec Ideal S1x1x1024 .f32) (v34 : Vec Ideal S1x1024x1024 .bf16) (v50 : Vec Ideal S1x1024 .f32)
  (v54 v60 : Vec Ideal S1x1x1024 .f32) (r : Fin 512) (j : Fin 1024)

/-- The residual row after the branches. -/
theorem pay4_apply : k0_pay4 v28 v30 v31 v34 (ix2 r j)
    = resid (fun k => v30 (ix2 r k)) (fun k => v31 (ix3 0 0 k)) (fun k => v28 (ix2 r k)) (fun i k => v34 (ix3 0 i k)) j := by
  pointwise [k0_pay4]
  rfl

/-- The modulated norm of it. -/
theorem pay5_apply : k0_pay5 v28 v30 v31 v34 v50 v54 v60 (ix2 r j)
    = modul (fun k => k0_pay4 v28 v30 v31 v34 (ix2 r k)) (fun k => v50 (ix2 0 k)) (fun k => v54 (ix3 0 0 k)) (fun k => v60 (ix3 0 0 k)) j := by
  pointwise [k0_pay5]
  rfl

end Pay

/-- The second residual step. -/
theorem pay1_apply (v39 v96 v101 : FVec Ideal S512x1024 .f32) (v104 : Vec Ideal S1x1024x1024 .bf16) (v108 : Vec Ideal S1x1x1024 .f32)
    (r : Fin 512) (j : Fin 1024) : k0_pay1 v39 v96 v101 v104 v108 (ix2 r j)
    = v39 (ix2 r j) + v108 (ix3 0 0 j) * (v96 (ix2 r j)
        + ∑ i : Fin 1024, v101 (ix2 r i) * v101 (ix2 r i) * v104 (ix3 0 i j)) := by
  pointwise [k0_pay1]

set_option maxHeartbeats 4000000 in
/-- The block the body leaves, at an index: the token's row. -/
theorem block_apply (x0 : Vec Ideal S512x1024 .f32) (x1 x2 x3 : Vec Ideal S512x512 .bf16) (x4 : Vec Ideal S512x3072 .f32) (x5 : Vec Ideal S1x1x1024 .f32)
    (x6 : Vec Ideal S1x1024 .f32) (x7 x8 x9 : Vec Ideal S1x1x1024 .f32) (x10 : Vec Ideal S1x1536x1024 .bf16) (x11 : Vec Ideal S1x1024x1024 .bf16)
    (x12 : Vec Ideal S1x1024x4096 .bf16) (x13 : Vec Ideal S1x4096x1024 .bf16) (r : Fin 512) (j : Fin 1024) :
    out0_14 x0 x1 x2 x3 x4 x5 x6 x7 x8 x9 x10 x11 x12 x13 (ix2 r j)
      = Merge.inner (fun k => x0 (ix2 r k)) (fun k => x1 (ix2 k r)) (fun k => x2 (ix2 r k)) (fun k => x3 (ix2 k r)) (fun k => x4 (ix2 r k))
          (fun k => x5 (ix3 0 0 k)) (fun k => x6 (ix2 0 k)) (fun k => x7 (ix3 0 0 k)) (fun k => x8 (ix3 0 0 k)) (fun k => x9 (ix3 0 0 k))
          (fun i k => x10 (ix3 0 i k)) (fun i k => x11 (ix3 0 i k)) (fun i k => x12 (ix3 0 i k)) (fun i k => x13 (ix3 0 i k)) j := by
  have e0 : (![0, 0] : Fin 2 → ℕ) = fun _ => 0 := funext fun a => by fin_cases a <;> rfl
  have e1 : (![0, 0, 0] : Fin 3 → ℕ) = fun _ => 0 := funext fun a => by fin_cases a <;> rfl
  unfold_out out0_14
  rw [View.canon_unit_zero e0, pay1_apply]
  pointwise [k0_pay8, k0_pay9, k0_pay7, k0_pay6, pay5_apply, pay4_apply, k0_pay2, k0_pay3]
  unfold Merge.inner ffn resid
  rw [sum_runs]
  rfl

end Cert.Layer

end
-- ==== Proof.LayerArr.lean ====
module

public import proofs.«01_k».proof.Proof.MergeModel

@[expose] public section

noncomputable section

/-! The whole result array of the end of a layer that is not the last, as a function of the argument arrays. -/

namespace Cert.Layer

open Idealize.ShloMosaic Cert.Merge

/-- Token `t` of batch row `b`, with the weights of the first layer. -/
def tokenAt (x0 : (⟨3, ![4, 8192, 1024]⟩ : Shape).Idx → EReal) (x1 x2 x3 : (⟨3, ![4, 8192, 512]⟩ : Shape).Idx → EReal)
    (x4 : (⟨3, ![4, 8192, 3072]⟩ : Shape).Idx → EReal) (x5 x6 x7 x8 : (⟨3, ![4, 1, 1024]⟩ : Shape).Idx → EReal)
    (x9 : (⟨2, ![4, 1024]⟩ : Shape).Idx → EReal) (x10 : (⟨3, ![4, 1536, 1024]⟩ : Shape).Idx → EReal)
    (x11 : (⟨3, ![4, 1024, 1024]⟩ : Shape).Idx → EReal) (x12 : (⟨3, ![4, 1024, 4096]⟩ : Shape).Idx → EReal)
    (x13 : (⟨3, ![4, 4096, 1024]⟩ : Shape).Idx → EReal)
    (b : Fin 4) (t : Fin 8192) : Fin 1024 → EReal :=
  Merge.inner (fun k => x0 (ix3 b t k)) (fun k => x1 (ix3 b t k)) (fun k => x2 (ix3 b t k)) (fun k => x3 (ix3 b t k)) (fun k => x4 (ix3 b t k))
    (fun k => x5 (ix3 b 0 k)) (fun k => x9 (ix2 0 k)) (fun k => x6 (ix3 b 0 k)) (fun k => x7 (ix3 b 0 k)) (fun k => x8 (ix3 b 0 k))
    (fun i k => x10 (ix3 0 i k)) (fun i k => x11 (ix3 0 i k)) (fun i k => x12 (ix3 0 i k)) (fun i k => x13 (ix3 0 i k))

/-- The result array: row `n` is token `n mod 8192` of batch row `n / 8192`. -/
def result (x0 : (⟨3, ![4, 8192, 1024]⟩ : Shape).Idx → EReal) (x1 x2 x3 : (⟨3, ![4, 8192, 512]⟩ : Shape).Idx → EReal)
    (x4 : (⟨3, ![4, 8192, 3072]⟩ : Shape).Idx → EReal) (x5 x6 x7 x8 : (⟨3, ![4, 1, 1024]⟩ : Shape).Idx → EReal)
    (x9 : (⟨2, ![4, 1024]⟩ : Shape).Idx → EReal) (x10 : (⟨3, ![4, 1536, 1024]⟩ : Shape).Idx → EReal)
    (x11 : (⟨3, ![4, 1024, 1024]⟩ : Shape).Idx → EReal) (x12 : (⟨3, ![4, 1024, 4096]⟩ : Shape).Idx → EReal)
    (x13 : (⟨3, ![4, 4096, 1024]⟩ : Shape).Idx → EReal)
    (i : (⟨2, ![32768, 1024]⟩ : Shape).Idx) : EReal :=
  tokenAt x0 x1 x2 x3 x4 x5 x6 x7 x8 x9 x10 x11 x12 x13
    (bat (i 0)) (pos (i 0)) (i 1)

end Cert.Layer

end
-- ==== Proof.LayerKernel.lean ====
module

public import Idealize.ShloMosaic.Lib.Pipeline.ValueKit
public import proofs.«01_k».proof.Proof.Gen.Kernel3Ideal.Value
public import proofs.«01_k».proof.Proof.LayerPay
public import proofs.«01_k».proof.Proof.LayerArr

@[expose] public section

set_option maxRecDepth 16384

noncomputable section

namespace Cert.Layer

open Idealize.ShloMosaic Cert.Merge Cert.Kernel3Ideal Cert.Kernel3Ideal.Gen

open Idealize.ShloMosaic.TcCoe

variable (m : (ℓ : Loc nD τ sig) → Buf (Elt Ideal) ℓ) (c : Dev nD) (t : Fin cfg0.N)

theorem val_lt (t : Fin cfg0.N) : t.val < 64 := lt_of_lt_of_eq t.isLt N_0

/-- Row `r` of the block of grid point `t`. -/
def row (t : Fin cfg0.N) (r : Fin 512) : Fin 32768 := ⟨512 * t.val + r.val, by have := val_lt t; omega⟩

theorem idx0 : ∀ t : Fin cfg0.N, win0_0.index t = ![t.val, 0] := by decide +kernel
theorem idx1 : ∀ t : Fin cfg0.N, win0_1.index t = ![0, t.val] := by decide +kernel
theorem idx2 : ∀ t : Fin cfg0.N, win0_2.index t = ![t.val, 0] := by decide +kernel
theorem idx3 : ∀ t : Fin cfg0.N, win0_3.index t = ![0, t.val] := by decide +kernel
theorem idx4 : ∀ t : Fin cfg0.N, win0_4.index t = ![t.val, 0] := by decide +kernel
theorem idx5 : ∀ t : Fin cfg0.N, win0_5.index t = ![t.val / 16, 0, 0] := by decide +kernel
theorem idx6 : ∀ t : Fin cfg0.N, win0_6.index t = ![0, 0] := by decide +kernel
theorem idx7 : ∀ t : Fin cfg0.N, win0_7.index t = ![t.val / 16, 0, 0] := by decide +kernel
theorem idx8 : ∀ t : Fin cfg0.N, win0_8.index t = ![t.val / 16, 0, 0] := by decide +kernel
theorem idx9 : ∀ t : Fin cfg0.N, win0_9.index t = ![t.val / 16, 0, 0] := by decide +kernel
theorem idx10 : ∀ t : Fin cfg0.N, win0_10.index t = ![0, 0, 0] := by decide +kernel
theorem idx11 : ∀ t : Fin cfg0.N, win0_11.index t = ![0, 0, 0] := by decide +kernel
theorem idx12 : ∀ t : Fin cfg0.N, win0_12.index t = ![0, 0, 0] := by decide +kernel
theorem idx13 : ∀ t : Fin cfg0.N, win0_13.index t = ![0, 0, 0] := by decide +kernel
theorem idx14 : ∀ t : Fin cfg0.N, win0_14.index t = ![t.val, 0] := by decide +kernel

theorem row_val (r : Fin 512) : (row t r).val = 512 * t.val + r.val := rfl

theorem bat_val (r : Fin 512) : (bat (row t r)).val = t.val / 16 := by
  show (512 * t.val + r.val) / 8192 = t.val / 16
  omega

theorem src0 (n : Fin 32768) (k : Fin 1024) :
    V m c main_v12 (ix2 n k) = m ((c : Thread nD τ).loc main_arg0) (ix3 (bat n) (pos n) k) := by
  entry_read
  pointwise
  rfl

theorem in0 (r : Fin 512) (k : Fin 1024) :
    iblk m c 0 t (ix2 r k) = m ((c : Thread nD τ).loc main_arg0) (ix3 (bat (row t r)) (pos (row t r)) k) := by
  rw [← src0 m c]
  blk_ext [iblk, row_val, idx0 t]

theorem src1 (n : Fin 32768) (k : Fin 512) :
    V m c main_v15 (ix2 k n) = m ((c : Thread nD τ).loc main_arg1) (ix3 (bat n) (pos n) k) := by
  entry_read
  pointwise
  rfl

theorem in1 (r : Fin 512) (k : Fin 512) :
    iblk m c 1 t (ix2 k r) = m ((c : Thread nD τ).loc main_arg1) (ix3 (bat (row t r)) (pos (row t r)) k) := by
  rw [← src1 m c]
  blk_ext [iblk, row_val, idx1 t]

theorem src2 (n : Fin 32768) (k : Fin 512) :
    V m c main_v17 (ix2 n k) = m ((c : Thread nD τ).loc main_arg2) (ix3 (bat n) (pos n) k) := by
  entry_read
  pointwise
  rfl

theorem in2 (r : Fin 512) (k : Fin 512) :
    iblk m c 2 t (ix2 r k) = m ((c : Thread nD τ).loc main_arg2) (ix3 (bat (row t r)) (pos (row t r)) k) := by
  rw [← src2 m c]
  blk_ext [iblk, row_val, idx2 t]

theorem src3 (n : Fin 32768) (k : Fin 512) :
    V m c main_v20 (ix2 k n) = m ((c : Thread nD τ).loc main_arg3) (ix3 (bat n) (pos n) k) := by
  entry_read
  pointwise
  rfl

theorem in3 (r : Fin 512) (k : Fin 512) :
    iblk m c 3 t (ix2 k r) = m ((c : Thread nD τ).loc main_arg3) (ix3 (bat (row t r)) (pos (row t r)) k) := by
  rw [← src3 m c]
  blk_ext [iblk, row_val, idx3 t]

theorem src4 (n : Fin 32768) (k : Fin 3072) :
    V m c main_v21 (ix2 n k) = m ((c : Thread nD τ).loc main_arg4) (ix3 (bat n) (pos n) k) := by
  entry_read
  pointwise
  rfl

theorem in4 (r : Fin 512) (k : Fin 3072) :
    iblk m c 4 t (ix2 r k) = m ((c : Thread nD τ).loc main_arg4) (ix3 (bat (row t r)) (pos (row t r)) k) := by
  rw [← src4 m c]
  blk_ext [iblk, row_val, idx4 t]

theorem src5 (b : Fin 4) (k : Fin 1024) :
    V m c main_v1 (ix3 ⟨b.val, by omega⟩ 0 k) = m ((c : Thread nD τ).loc main_arg5) (ix3 b 0 k) := by
  entry_read
  pointwise

theorem in5 (r : Fin 512) (k : Fin 1024) :
    iblk m c 5 t (ix3 0 0 k) = m ((c : Thread nD τ).loc main_arg5) (ix3 (bat (row t r)) 0 k) := by
  rw [← src5 m c]
  blk_ext [iblk, bat_val, idx5 t]

theorem src7 (b : Fin 4) (k : Fin 1024) :
    V m c main_v3 (ix3 ⟨b.val, by omega⟩ 0 k) = m ((c : Thread nD τ).loc main_arg6) (ix3 b 0 k) := by
  entry_read
  pointwise

theorem in7 (r : Fin 512) (k : Fin 1024) :
    iblk m c 7 t (ix3 0 0 k) = m ((c : Thread nD τ).loc main_arg6) (ix3 (bat (row t r)) 0 k) := by
  rw [← src7 m c]
  blk_ext [iblk, bat_val, idx7 t]

theorem src8 (b : Fin 4) (k : Fin 1024) :
    V m c main_v5 (ix3 ⟨b.val, by omega⟩ 0 k) = m ((c : Thread nD τ).loc main_arg7) (ix3 b 0 k) := by
  entry_read
  pointwise

theorem in8 (r : Fin 512) (k : Fin 1024) :
    iblk m c 8 t (ix3 0 0 k) = m ((c : Thread nD τ).loc main_arg7) (ix3 (bat (row t r)) 0 k) := by
  rw [← src8 m c]
  blk_ext [iblk, bat_val, idx8 t]

theorem src9 (b : Fin 4) (k : Fin 1024) :
    V m c main_v7 (ix3 ⟨b.val, by omega⟩ 0 k) = m ((c : Thread nD τ).loc main_arg8) (ix3 b 0 k) := by
  entry_read
  pointwise

theorem in9 (r : Fin 512) (k : Fin 1024) :
    iblk m c 9 t (ix3 0 0 k) = m ((c : Thread nD τ).loc main_arg8) (ix3 (bat (row t r)) 0 k) := by
  rw [← src9 m c]
  blk_ext [iblk, bat_val, idx9 t]

theorem src6 (k : Fin 1024) : V m c main_v24 (ix2 0 k) = m ((c : Thread nD τ).loc main_arg9) (ix2 0 k) := by
  entry_read
  pointwise

theorem in6 (k : Fin 1024) : iblk m c 6 t (ix2 0 k) = m ((c : Thread nD τ).loc main_arg9) (ix2 0 k) := by
  rw [← src6 m c]
  blk_ext [iblk, idx6 t]

theorem src10 (i : Fin 1536) (k : Fin 1024) : V m c main_v8 (ix3 0 i k) = m ((c : Thread nD τ).loc main_arg10) (ix3 0 i k) := by
  entry_read
  pointwise

theorem in10 (i : Fin 1536) (k : Fin 1024) : iblk m c 10 t (ix3 0 i k) = m ((c : Thread nD τ).loc main_arg10) (ix3 0 i k) := by
  rw [← src10 m c]
  blk_ext [iblk, idx10 t]

theorem src11 (i : Fin 1024) (k : Fin 1024) : V m c main_v9 (ix3 0 i k) = m ((c : Thread nD τ).loc main_arg11) (ix3 0 i k) := by
  entry_read
  pointwise

theorem in11 (i : Fin 1024) (k : Fin 1024) : iblk m c 11 t (ix3 0 i k) = m ((c : Thread nD τ).loc main_arg11) (ix3 0 i k) := by
  rw [← src11 m c]
  blk_ext [iblk, idx11 t]

theorem src12 (i : Fin 1024) (k : Fin 4096) : V m c main_v10 (ix3 0 i k) = m ((c : Thread nD τ).loc main_arg12) (ix3 0 i k) := by
  entry_read
  pointwise

theorem in12 (i : Fin 1024) (k : Fin 4096) : iblk m c 12 t (ix3 0 i k) = m ((c : Thread nD τ).loc main_arg12) (ix3 0 i k) := by
  rw [← src12 m c]
  blk_ext [iblk, idx12 t]

theorem src13 (i : Fin 4096) (k : Fin 1024) : V m c main_v11 (ix3 0 i k) = m ((c : Thread nD τ).loc main_arg13) (ix3 0 i k) := by
  entry_read
  pointwise

theorem in13 (i : Fin 4096) (k : Fin 1024) : iblk m c 13 t (ix3 0 i k) = m ((c : Thread nD τ).loc main_arg13) (ix3 0 i k) := by
  rw [← src13 m c]
  blk_ext [iblk, idx13 t]

/-- The result array of the kernel on core `c`. -/
def G : (⟨2, ![32768, 1024]⟩ : Shape).Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem block_eq (r : Fin 512) (j : Fin 1024) :
    out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ix2 r j) = G m c (ix2 (row t r) j) := by
  rw [block_apply]
  simp only [in0, in1, in2, in3, in4, in5 m c t r, in6, in7 m c t r, in8 m c t r, in9 m c t r, in10, in11, in12, in13]
  rfl

theorem array_eq : (dats m 0 c).arrAt 14 cfg0.N = G m c := by
  refine (dats m 0 c).arrAt_eq_of_covers 14 _ (by decide +kernel) fun t hf y => ?_
  blk_simp
  rw [after0_14]
  obtain ⟨r, j, rfl⟩ : ∃ (r : Fin 512) (j : Fin 1024), y = ix2 r j := ⟨y 0, y 1, ValueIdx.eq_ix2 y⟩
  refine (block_eq m c t r j).trans ?_
  blk_ext [row_val, idx14 t]

end Cert.Layer

end
-- ==== Proof.LayerRef.lean ====
module

public import proofs.«01_k».proof.Proof.Gen.Reference3Ideal.Read
public import proofs.«01_k».proof.Proof.LayerArr

@[expose] public section

noncomputable section

/-! The reference's result, stage by stage, at an index. -/

namespace Cert.Layer

open Idealize.ShloMosaic Cert.Merge Cert.Reference3Ideal Cert.Reference3Ideal.Read
open scoped BigOperators

variable (x0 : (⟨S4x8192x1024, .f32⟩ : BufTy).Contents (Elt Ideal)) (x1 x2 x3 : (⟨S4x8192x512, .f32⟩ : BufTy).Contents (Elt Ideal))
  (x4 : (⟨S4x8192x3072, .f32⟩ : BufTy).Contents (Elt Ideal)) (x5 x6 x7 x8 : (⟨S4x1x1024, .f32⟩ : BufTy).Contents (Elt Ideal))
  (x9 : (⟨S4x1024, .f32⟩ : BufTy).Contents (Elt Ideal)) (x10 : (⟨S4x1536x1024, .f32⟩ : BufTy).Contents (Elt Ideal))
  (x11 : (⟨S4x1024x1024, .f32⟩ : BufTy).Contents (Elt Ideal)) (x12 : (⟨S4x1024x4096, .f32⟩ : BufTy).Contents (Elt Ideal))
  (x13 : (⟨S4x4096x1024, .f32⟩ : BufTy).Contents (Elt Ideal))
  (b : Fin 4) (t : Fin 8192)

theorem ref_gated (j : Fin 1024) : val_main_v34 (F := Ideal) x1 x2 x3 x4 x10 (ix3 b t j)
    = gated (fun k => x4 (ix3 b t k)) (fun k => x1 (ix3 b t k)) (fun k => x2 (ix3 b t k)) (fun k => x3 (ix3 b t k)) (fun i k => x10 (ix3 0 i k)) j := by
  pointwise [val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4]
  rfl

theorem ref_mid (j : Fin 1024) : val_main_v40 (F := Ideal) x0 x1 x2 x3 x4 x5 x10 x11 (ix3 b t j)
    = mid (fun k => x0 (ix3 b t k)) (fun k => x4 (ix3 b t k)) (fun k => x1 (ix3 b t k)) (fun k => x2 (ix3 b t k)) (fun k => x3 (ix3 b t k))
        (fun i k => x10 (ix3 0 i k)) (fun k => x5 (ix3 b 0 k)) (fun i k => x11 (ix3 0 i k)) j := by
  pointwise [val_main_v40, val_main_v39, val_main_v38, val_main_v37, val_main_v36, val_main_v35, ref_gated]
  rfl

theorem ref_modul (j : Fin 1024) : val_main_v61 (F := Ideal) x0 x1 x2 x3 x4 x5 x6 x7 x9 x10 x11 (ix3 b t j)
    = modul (fun k => val_main_v40 (F := Ideal) x0 x1 x2 x3 x4 x5 x10 x11 (ix3 b t k)) (fun k => x9 (ix2 0 k)) (fun k => x7 (ix3 b 0 k)) (fun k => x6 (ix3 b 0 k)) j := by
  pointwise [val_main_v61, val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43, val_main_v42, val_main_v41,
    val_main_cst_5, val_main_cst_6, val_main_cst_7, val_main_cst_8]
  rfl

theorem ref_unit (i : Fin 4096) : val_main_v66 (F := Ideal) x0 x1 x2 x3 x4 x5 x6 x7 x9 x10 x11 x12 (ix3 b t i)
    = unit (fun k => val_main_v61 (F := Ideal) x0 x1 x2 x3 x4 x5 x6 x7 x9 x10 x11 (ix3 b t k)) (fun k => x12 (ix3 0 k i)) := by
  pointwise [val_main_v66, val_main_v65, val_main_v64, val_main_v63, val_main_v62, val_main_call0_v0, val_main_call0_cst]
  rfl

theorem ref_last (j : Fin 1024) : val_main_v72 (F := Ideal) x0 x1 x2 x3 x4 x5 x6 x7 x8 x9 x10 x11 x12 x13 (ix3 b t j)
    = resid (fun k => val_main_v40 (F := Ideal) x0 x1 x2 x3 x4 x5 x10 x11 (ix3 b t k)) (fun k => x8 (ix3 b 0 k))
        (fun i => val_main_v66 (F := Ideal) x0 x1 x2 x3 x4 x5 x6 x7 x9 x10 x11 x12 (ix3 b t i)) (fun i k => x13 (ix3 0 i k)) j := by
  pointwise [val_main_v72, val_main_v71, val_main_v70, val_main_v69, val_main_v68, val_main_v67]
  rfl

/-- The reference's result array. -/
theorem ref_result : val_main_v73 (F := Ideal) x0 x1 x2 x3 x4 x5 x6 x7 x8 x9 x10 x11 x12 x13
    = result x0 x1 x2 x3 x4 x5 x6 x7 x8 x9 x10 x11 x12 x13 := by
  funext i
  obtain ⟨n, j, rfl⟩ : ∃ (n : Fin 32768) (j : Fin 1024), i = ix2 n j := ⟨i 0, i 1, ValueIdx.eq_ix2 i⟩
  rw [val_main_v73_apply]
  have e : idx_main_v73 (ix2 n j) = ix3 (n0 := 4) (n1 := 8192) (n2 := 1024) ⟨n.val / 8192, by omega⟩ ⟨n.val % 8192, Nat.mod_lt _ (by norm_num)⟩ j := by
    funext a
    match a with
    | ⟨0, _⟩ => exact Fin.ext (by show (n.val * 1024 + j.val) / 8388608 = n.val / 8192; omega)
    | ⟨1, _⟩ => exact Fin.ext (by show (n.val * 1024 + j.val) / 1024 % 8192 = n.val % 8192; omega)
    | ⟨2, _⟩ => exact Fin.ext (by show (n.val * 1024 + j.val) % 1024 = j.val; omega)
  rw [e, ref_last]
  simp only [ref_unit, ref_modul, ref_mid]
  rfl

end Cert.Layer

end
-- ==== Proof.LayerClaim.lean ====
module

public import proofs.«01_k».proof.Defs
public import proofs.«01_k».proof.Proof.Gen.Kernel3.Frame
public import proofs.«01_k».proof.Proof.LayerKernel
public import proofs.«01_k».proof.Proof.LayerRef

@[expose] public section

noncomputable section

/-! The claims about the end of a layer that is not the last: its own program, the program with the ideal arithmetic, and the reference. -/

namespace Cert.Layer

open Idealize.ShloMosaic Idealize.SL.Sem

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) := fun m ρ _ => Cert.Kernel3Ideal.Gen.frame m ρ

theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨fun c => G m c, ?_, ?_⟩
  · exact (θ_run Cert.Kernel3Ideal.defs _ _).mono (fun _ h c => ⟨(h c).1.trans (array_eq m c), (h c).2⟩)
      (Cert.Kernel3Ideal.Value.run_blocks (F := Ideal) m ρ)
  · refine (θ_run Cert.Reference3Ideal.defs _ _).mono (fun _ h c => ⟨(h c).1.trans ?_, (h c).2⟩) (Cert.Reference3Ideal.Value.run (F := Ideal) m' ρ')
    obtain ⟨h0, h1, h2, h3, h4, h5, h6, h7, h8, h9, h10, h11, h12, h13⟩ := hagree c
    rw [Cert.Reference3Ideal.Read.val_main_v73_eq, ref_result]
    unfold G
    rw [h0, h1, h2, h3, h4, h5, h6, h7, h8, h9, h10, h11, h12, h13]

theorem preserves : Cert.preserves_Kernel3_Kernel3Ideal := trivial

end Cert.Layer

end
-- ==== Proof.MergePay.lean ====
module

public import proofs.«01_k».proof.Proof.Gen.Kernel2Ideal.Frame
public import proofs.«01_k».proof.Proof.MergeModel
public import Idealize.ShloMosaic.Lib.Pipeline.Value

@[expose] public section

noncomputable section

/-! What the kernel body leaves in its result block, element by element. -/

namespace Cert.Merge

open Idealize.ShloMosaic Cert.Kernel2Ideal Cert.Kernel2Ideal.Gen
open scoped BigOperators

section Pay

variable (v28 v30 : FVec Ideal S512x1024 .f32) (v31 : Vec Ideal S1x1x1024 .f32) (v34 : Vec Ideal S1x1024x1024 .bf16) (v50 : Vec Ideal S1x1024 .f32)
  (v54 v60 : Vec Ideal S1x1x1024 .f32) (r : Fin 512) (j : Fin 1024)

/-- The residual row after the branches. -/
theorem pay4_apply : k0_pay4 v28 v30 v31 v34 (ix2 r j)
    = resid (fun k => v30 (ix2 r k)) (fun k => v31 (ix3 0 0 k)) (fun k => v28 (ix2 r k)) (fun i k => v34 (ix3 0 i k)) j := by
  pointwise [k0_pay4]
  rfl

/-- The modulated norm of it. -/
theorem pay5_apply : k0_pay5 v28 v30 v31 v34 v50 v54 v60 (ix2 r j)
    = modul (fun k => k0_pay4 v28 v30 v31 v34 (ix2 r k)) (fun k => v50 (ix2 0 k)) (fun k => v54 (ix3 0 0 k)) (fun k => v60 (ix3 0 0 k)) j := by
  pointwise [k0_pay5]
  rfl

end Pay

/-- The last part: the closing norm of the second residual step. -/
theorem pay1_apply (v39 v96 v101 : FVec Ideal S512x1024 .f32) (v104 : Vec Ideal S1x1024x1024 .bf16) (v108 : Vec Ideal S1x1x1024 .f32) (v123 : Vec Ideal S1x1024 .f32)
    (r : Fin 512) (j : Fin 1024) : k0_pay1 v39 v96 v101 v104 v108 v123 (ix2 r j)
    = rms (fun k => v39 (ix2 r k) + v108 (ix3 0 0 k) * (v96 (ix2 r k)
        + ∑ i : Fin 1024, v101 (ix2 r i) * v101 (ix2 r i) * v104 (ix3 0 i k))) j * v123 (ix2 0 j) := by
  pointwise [k0_pay1]
  rfl

set_option maxHeartbeats 4000000 in
/-- The block the body leaves, at an index: the token's row. -/
theorem block_apply (x0 : Vec Ideal S512x1024 .f32) (x1 x2 x3 : Vec Ideal S512x512 .bf16) (x4 : Vec Ideal S512x3072 .f32) (x5 : Vec Ideal S1x1x1024 .f32)
    (x6 : Vec Ideal S1x1024 .f32) (x7 x8 x9 : Vec Ideal S1x1x1024 .f32) (x10 : Vec Ideal S1x1536x1024 .bf16) (x11 : Vec Ideal S1x1024x1024 .bf16)
    (x12 : Vec Ideal S1x1024x4096 .bf16) (x13 : Vec Ideal S1x4096x1024 .bf16) (x14 : Vec Ideal S1x1024 .f32) (r : Fin 512) (j : Fin 1024) :
    out0_15 x0 x1 x2 x3 x4 x5 x6 x7 x8 x9 x10 x11 x12 x13 x14 (ix2 r j)
      = token (fun k => x0 (ix2 r k)) (fun k => x1 (ix2 k r)) (fun k => x2 (ix2 r k)) (fun k => x3 (ix2 k r)) (fun k => x4 (ix2 r k))
          (fun k => x5 (ix3 0 0 k)) (fun k => x6 (ix2 0 k)) (fun k => x7 (ix3 0 0 k)) (fun k => x8 (ix3 0 0 k)) (fun k => x9 (ix3 0 0 k))
          (fun i k => x10 (ix3 0 i k)) (fun i k => x11 (ix3 0 i k)) (fun i k => x12 (ix3 0 i k)) (fun i k => x13 (ix3 0 i k)) (fun k => x14 (ix2 0 k)) j := by
  have e0 : (![0, 0] : Fin 2 → ℕ) = fun _ => 0 := funext fun a => by fin_cases a <;> rfl
  have e1 : (![0, 0, 0] : Fin 3 → ℕ) = fun _ => 0 := funext fun a => by fin_cases a <;> rfl
  unfold_out out0_15
  rw [View.canon_unit_zero e0, pay1_apply]
  pointwise [k0_pay8, k0_pay9, k0_pay7, k0_pay6, pay5_apply, pay4_apply, k0_pay2, k0_pay3]
  refine congrArg (fun z => rms z j * x14 (ix2 0 j)) (funext fun k => ?_)
  unfold ffn resid
  rw [sum_runs]
  rfl

end Cert.Merge

end
-- ==== Proof.MergeArr.lean ====
module

public import proofs.«01_k».proof.Proof.MergeModel

@[expose] public section

noncomputable section

/-! The whole result array of the layer's last part, as a function of the argument arrays. -/

namespace Cert.Merge

open Idealize.ShloMosaic

/-- Token `t` of batch row `b`, with the weights of the last layer. -/
def tokenAt (x0 : (⟨3, ![4, 8192, 1024]⟩ : Shape).Idx → EReal) (x1 x2 x3 : (⟨3, ![4, 8192, 512]⟩ : Shape).Idx → EReal)
    (x4 : (⟨3, ![4, 8192, 3072]⟩ : Shape).Idx → EReal) (x5 x6 x7 x8 : (⟨3, ![4, 1, 1024]⟩ : Shape).Idx → EReal)
    (x9 : (⟨2, ![4, 1024]⟩ : Shape).Idx → EReal) (x10 : (⟨3, ![4, 1536, 1024]⟩ : Shape).Idx → EReal)
    (x11 : (⟨3, ![4, 1024, 1024]⟩ : Shape).Idx → EReal) (x12 : (⟨3, ![4, 1024, 4096]⟩ : Shape).Idx → EReal)
    (x13 : (⟨3, ![4, 4096, 1024]⟩ : Shape).Idx → EReal) (x14 : (⟨1, ![1024]⟩ : Shape).Idx → EReal)
    (b : Fin 4) (t : Fin 8192) : Fin 1024 → EReal :=
  token (fun k => x0 (ix3 b t k)) (fun k => x1 (ix3 b t k)) (fun k => x2 (ix3 b t k)) (fun k => x3 (ix3 b t k)) (fun k => x4 (ix3 b t k))
    (fun k => x5 (ix3 b 0 k)) (fun k => x9 (ix2 3 k)) (fun k => x6 (ix3 b 0 k)) (fun k => x7 (ix3 b 0 k)) (fun k => x8 (ix3 b 0 k))
    (fun i k => x10 (ix3 3 i k)) (fun i k => x11 (ix3 3 i k)) (fun i k => x12 (ix3 3 i k)) (fun i k => x13 (ix3 3 i k)) (fun k => x14 (ix1 k))

/-- The result array: row `n` is token `n mod 8192` of batch row `n / 8192`. -/
def result (x0 : (⟨3, ![4, 8192, 1024]⟩ : Shape).Idx → EReal) (x1 x2 x3 : (⟨3, ![4, 8192, 512]⟩ : Shape).Idx → EReal)
    (x4 : (⟨3, ![4, 8192, 3072]⟩ : Shape).Idx → EReal) (x5 x6 x7 x8 : (⟨3, ![4, 1, 1024]⟩ : Shape).Idx → EReal)
    (x9 : (⟨2, ![4, 1024]⟩ : Shape).Idx → EReal) (x10 : (⟨3, ![4, 1536, 1024]⟩ : Shape).Idx → EReal)
    (x11 : (⟨3, ![4, 1024, 1024]⟩ : Shape).Idx → EReal) (x12 : (⟨3, ![4, 1024, 4096]⟩ : Shape).Idx → EReal)
    (x13 : (⟨3, ![4, 4096, 1024]⟩ : Shape).Idx → EReal) (x14 : (⟨1, ![1024]⟩ : Shape).Idx → EReal)
    (i : (⟨2, ![32768, 1024]⟩ : Shape).Idx) : EReal :=
  tokenAt x0 x1 x2 x3 x4 x5 x6 x7 x8 x9 x10 x11 x12 x13 x14
    ⟨(i 0).val / 8192, by have : (i 0).val < 32768 := (i 0).isLt; omega⟩ ⟨(i 0).val % 8192, Nat.mod_lt _ (by norm_num)⟩ (i 1)

end Cert.Merge

end
-- ==== Proof.MergeKernel.lean ====
module

public import Idealize.ShloMosaic.Lib.Pipeline.ValueKit
public import proofs.«01_k».proof.Proof.Gen.Kernel2Ideal.Value
public import proofs.«01_k».proof.Proof.MergePay
public import proofs.«01_k».proof.Proof.MergeArr

@[expose] public section

set_option maxRecDepth 16384

noncomputable section

namespace Cert.Merge

open Idealize.ShloMosaic Cert.Kernel2Ideal Cert.Kernel2Ideal.Gen

open Idealize.ShloMosaic.TcCoe

variable (m : (ℓ : Loc nD τ sig) → Buf (Elt Ideal) ℓ) (c : Dev nD) (t : Fin cfg0.N)

theorem val_lt (t : Fin cfg0.N) : t.val < 64 := lt_of_lt_of_eq t.isLt N_0

/-- Row `r` of the block of grid point `t`. -/
def row (t : Fin cfg0.N) (r : Fin 512) : Fin 32768 := ⟨512 * t.val + r.val, by have := val_lt t; omega⟩

theorem idx0 : ∀ t : Fin cfg0.N, win0_0.index t = ![t.val, 0] := by decide +kernel
theorem idx1 : ∀ t : Fin cfg0.N, win0_1.index t = ![0, t.val] := by decide +kernel
theorem idx2 : ∀ t : Fin cfg0.N, win0_2.index t = ![t.val, 0] := by decide +kernel
theorem idx3 : ∀ t : Fin cfg0.N, win0_3.index t = ![0, t.val] := by decide +kernel
theorem idx4 : ∀ t : Fin cfg0.N, win0_4.index t = ![t.val, 0] := by decide +kernel
theorem idx5 : ∀ t : Fin cfg0.N, win0_5.index t = ![t.val / 16, 0, 0] := by decide +kernel
theorem idx6 : ∀ t : Fin cfg0.N, win0_6.index t = ![0, 0] := by decide +kernel
theorem idx7 : ∀ t : Fin cfg0.N, win0_7.index t = ![t.val / 16, 0, 0] := by decide +kernel
theorem idx8 : ∀ t : Fin cfg0.N, win0_8.index t = ![t.val / 16, 0, 0] := by decide +kernel
theorem idx9 : ∀ t : Fin cfg0.N, win0_9.index t = ![t.val / 16, 0, 0] := by decide +kernel
theorem idx10 : ∀ t : Fin cfg0.N, win0_10.index t = ![3, 0, 0] := by decide +kernel
theorem idx11 : ∀ t : Fin cfg0.N, win0_11.index t = ![3, 0, 0] := by decide +kernel
theorem idx12 : ∀ t : Fin cfg0.N, win0_12.index t = ![3, 0, 0] := by decide +kernel
theorem idx13 : ∀ t : Fin cfg0.N, win0_13.index t = ![3, 0, 0] := by decide +kernel
theorem idx14 : ∀ t : Fin cfg0.N, win0_14.index t = ![0, 0] := by decide +kernel
theorem idx15 : ∀ t : Fin cfg0.N, win0_15.index t = ![t.val, 0] := by decide +kernel

theorem row_val (r : Fin 512) : (row t r).val = 512 * t.val + r.val := rfl

theorem bat_val (r : Fin 512) : (bat (row t r)).val = t.val / 16 := by
  show (512 * t.val + r.val) / 8192 = t.val / 16
  omega

theorem src0 (n : Fin 32768) (k : Fin 1024) :
    V m c main_v12 (ix2 n k) = m ((c : Thread nD τ).loc main_arg0) (ix3 (bat n) (pos n) k) := by
  entry_read
  pointwise
  rfl

theorem in0 (r : Fin 512) (k : Fin 1024) :
    iblk m c 0 t (ix2 r k) = m ((c : Thread nD τ).loc main_arg0) (ix3 (bat (row t r)) (pos (row t r)) k) := by
  rw [← src0 m c]
  blk_ext [iblk, row_val, idx0 t]

theorem src1 (n : Fin 32768) (k : Fin 512) :
    V m c main_v15 (ix2 k n) = m ((c : Thread nD τ).loc main_arg1) (ix3 (bat n) (pos n) k) := by
  entry_read
  pointwise
  rfl

theorem in1 (r : Fin 512) (k : Fin 512) :
    iblk m c 1 t (ix2 k r) = m ((c : Thread nD τ).loc main_arg1) (ix3 (bat (row t r)) (pos (row t r)) k) := by
  rw [← src1 m c]
  blk_ext [iblk, row_val, idx1 t]

theorem src2 (n : Fin 32768) (k : Fin 512) :
    V m c main_v17 (ix2 n k) = m ((c : Thread nD τ).loc main_arg2) (ix3 (bat n) (pos n) k) := by
  entry_read
  pointwise
  rfl

theorem in2 (r : Fin 512) (k : Fin 512) :
    iblk m c 2 t (ix2 r k) = m ((c : Thread nD τ).loc main_arg2) (ix3 (bat (row t r)) (pos (row t r)) k) := by
  rw [← src2 m c]
  blk_ext [iblk, row_val, idx2 t]

theorem src3 (n : Fin 32768) (k : Fin 512) :
    V m c main_v20 (ix2 k n) = m ((c : Thread nD τ).loc main_arg3) (ix3 (bat n) (pos n) k) := by
  entry_read
  pointwise
  rfl

theorem in3 (r : Fin 512) (k : Fin 512) :
    iblk m c 3 t (ix2 k r) = m ((c : Thread nD τ).loc main_arg3) (ix3 (bat (row t r)) (pos (row t r)) k) := by
  rw [← src3 m c]
  blk_ext [iblk, row_val, idx3 t]

theorem src4 (n : Fin 32768) (k : Fin 3072) :
    V m c main_v21 (ix2 n k) = m ((c : Thread nD τ).loc main_arg4) (ix3 (bat n) (pos n) k) := by
  entry_read
  pointwise
  rfl

theorem in4 (r : Fin 512) (k : Fin 3072) :
    iblk m c 4 t (ix2 r k) = m ((c : Thread nD τ).loc main_arg4) (ix3 (bat (row t r)) (pos (row t r)) k) := by
  rw [← src4 m c]
  blk_ext [iblk, row_val, idx4 t]

theorem src5 (b : Fin 4) (k : Fin 1024) :
    V m c main_v1 (ix3 ⟨b.val, by omega⟩ 0 k) = m ((c : Thread nD τ).loc main_arg5) (ix3 b 0 k) := by
  entry_read
  pointwise

theorem in5 (r : Fin 512) (k : Fin 1024) :
    iblk m c 5 t (ix3 0 0 k) = m ((c : Thread nD τ).loc main_arg5) (ix3 (bat (row t r)) 0 k) := by
  rw [← src5 m c]
  blk_ext [iblk, bat_val, idx5 t]

theorem src7 (b : Fin 4) (k : Fin 1024) :
    V m c main_v3 (ix3 ⟨b.val, by omega⟩ 0 k) = m ((c : Thread nD τ).loc main_arg6) (ix3 b 0 k) := by
  entry_read
  pointwise

theorem in7 (r : Fin 512) (k : Fin 1024) :
    iblk m c 7 t (ix3 0 0 k) = m ((c : Thread nD τ).loc main_arg6) (ix3 (bat (row t r)) 0 k) := by
  rw [← src7 m c]
  blk_ext [iblk, bat_val, idx7 t]

theorem src8 (b : Fin 4) (k : Fin 1024) :
    V m c main_v5 (ix3 ⟨b.val, by omega⟩ 0 k) = m ((c : Thread nD τ).loc main_arg7) (ix3 b 0 k) := by
  entry_read
  pointwise

theorem in8 (r : Fin 512) (k : Fin 1024) :
    iblk m c 8 t (ix3 0 0 k) = m ((c : Thread nD τ).loc main_arg7) (ix3 (bat (row t r)) 0 k) := by
  rw [← src8 m c]
  blk_ext [iblk, bat_val, idx8 t]

theorem src9 (b : Fin 4) (k : Fin 1024) :
    V m c main_v7 (ix3 ⟨b.val, by omega⟩ 0 k) = m ((c : Thread nD τ).loc main_arg8) (ix3 b 0 k) := by
  entry_read
  pointwise

theorem in9 (r : Fin 512) (k : Fin 1024) :
    iblk m c 9 t (ix3 0 0 k) = m ((c : Thread nD τ).loc main_arg8) (ix3 (bat (row t r)) 0 k) := by
  rw [← src9 m c]
  blk_ext [iblk, bat_val, idx9 t]

theorem src6 (k : Fin 1024) : V m c main_v24 (ix2 0 k) = m ((c : Thread nD τ).loc main_arg9) (ix2 3 k) := by
  entry_read
  pointwise

theorem in6 (k : Fin 1024) : iblk m c 6 t (ix2 0 k) = m ((c : Thread nD τ).loc main_arg9) (ix2 3 k) := by
  rw [← src6 m c]
  blk_ext [iblk, idx6 t]

theorem src14 (k : Fin 1024) : V m c main_v25 (ix2 0 k) = m ((c : Thread nD τ).loc main_arg14) (ix1 k) := by
  entry_read
  pointwise

theorem in14 (k : Fin 1024) : iblk m c 14 t (ix2 0 k) = m ((c : Thread nD τ).loc main_arg14) (ix1 k) := by
  rw [← src14 m c]
  blk_ext [iblk, idx14 t]

theorem src10 (i : Fin 1536) (k : Fin 1024) : V m c main_v8 (ix3 3 i k) = m ((c : Thread nD τ).loc main_arg10) (ix3 3 i k) := by
  entry_read
  pointwise

theorem in10 (i : Fin 1536) (k : Fin 1024) : iblk m c 10 t (ix3 0 i k) = m ((c : Thread nD τ).loc main_arg10) (ix3 3 i k) := by
  rw [← src10 m c]
  blk_ext [iblk, idx10 t]

theorem src11 (i : Fin 1024) (k : Fin 1024) : V m c main_v9 (ix3 3 i k) = m ((c : Thread nD τ).loc main_arg11) (ix3 3 i k) := by
  entry_read
  pointwise

theorem in11 (i : Fin 1024) (k : Fin 1024) : iblk m c 11 t (ix3 0 i k) = m ((c : Thread nD τ).loc main_arg11) (ix3 3 i k) := by
  rw [← src11 m c]
  blk_ext [iblk, idx11 t]

theorem src12 (i : Fin 1024) (k : Fin 4096) : V m c main_v10 (ix3 3 i k) = m ((c : Thread nD τ).loc main_arg12) (ix3 3 i k) := by
  entry_read
  pointwise

theorem in12 (i : Fin 1024) (k : Fin 4096) : iblk m c 12 t (ix3 0 i k) = m ((c : Thread nD τ).loc main_arg12) (ix3 3 i k) := by
  rw [← src12 m c]
  blk_ext [iblk, idx12 t]

theorem src13 (i : Fin 4096) (k : Fin 1024) : V m c main_v11 (ix3 3 i k) = m ((c : Thread nD τ).loc main_arg13) (ix3 3 i k) := by
  entry_read
  pointwise

theorem in13 (i : Fin 4096) (k : Fin 1024) : iblk m c 13 t (ix3 0 i k) = m ((c : Thread nD τ).loc main_arg13) (ix3 3 i k) := by
  rw [← src13 m c]
  blk_ext [iblk, idx13 t]

/-- The result array of the kernel on core `c`. -/
def G : (⟨2, ![32768, 1024]⟩ : Shape).Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem block_eq (r : Fin 512) (j : Fin 1024) :
    out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (ix2 r j) = G m c (ix2 (row t r) j) := by
  rw [block_apply]
  simp only [in0, in1, in2, in3, in4, in5 m c t r, in6, in7 m c t r, in8 m c t r, in9 m c t r, in10, in11, in12, in13, in14]
  rfl

theorem array_eq : (dats m 0 c).arrAt 15 cfg0.N = G m c := by
  refine (dats m 0 c).arrAt_eq_of_covers 15 _ (by decide +kernel) fun t hf y => ?_
  blk_simp
  rw [after0_15]
  obtain ⟨r, j, rfl⟩ : ∃ (r : Fin 512) (j : Fin 1024), y = ix2 r j := ⟨y 0, y 1, ValueIdx.eq_ix2 y⟩
  refine (block_eq m c t r j).trans ?_
  blk_ext [row_val, idx15 t]

end Cert.Merge

end
-- ==== Proof.MergeRef.lean ====
module

public import proofs.«01_k».proof.Proof.Gen.Reference2Ideal.Read
public import proofs.«01_k».proof.Proof.MergeArr

@[expose] public section

noncomputable section

/-! The reference's result, stage by stage, at an index. -/

namespace Cert.Merge

open Idealize.ShloMosaic Cert.Reference2Ideal Cert.Reference2Ideal.Read
open scoped BigOperators

variable (x0 : (⟨S4x8192x1024, .f32⟩ : BufTy).Contents (Elt Ideal)) (x1 x2 x3 : (⟨S4x8192x512, .f32⟩ : BufTy).Contents (Elt Ideal))
  (x4 : (⟨S4x8192x3072, .f32⟩ : BufTy).Contents (Elt Ideal)) (x5 x6 x7 x8 : (⟨S4x1x1024, .f32⟩ : BufTy).Contents (Elt Ideal))
  (x9 : (⟨S4x1024, .f32⟩ : BufTy).Contents (Elt Ideal)) (x10 : (⟨S4x1536x1024, .f32⟩ : BufTy).Contents (Elt Ideal))
  (x11 : (⟨S4x1024x1024, .f32⟩ : BufTy).Contents (Elt Ideal)) (x12 : (⟨S4x1024x4096, .f32⟩ : BufTy).Contents (Elt Ideal))
  (x13 : (⟨S4x4096x1024, .f32⟩ : BufTy).Contents (Elt Ideal)) (x14 : (⟨S1024, .f32⟩ : BufTy).Contents (Elt Ideal))
  (b : Fin 4) (t : Fin 8192)

theorem ref_gated (j : Fin 1024) : val_main_v34 (F := Ideal) x1 x2 x3 x4 x10 (ix3 b t j)
    = gated (fun k => x4 (ix3 b t k)) (fun k => x1 (ix3 b t k)) (fun k => x2 (ix3 b t k)) (fun k => x3 (ix3 b t k)) (fun i k => x10 (ix3 3 i k)) j := by
  pointwise [val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4]
  rfl

theorem ref_mid (j : Fin 1024) : val_main_v40 (F := Ideal) x0 x1 x2 x3 x4 x5 x10 x11 (ix3 b t j)
    = mid (fun k => x0 (ix3 b t k)) (fun k => x4 (ix3 b t k)) (fun k => x1 (ix3 b t k)) (fun k => x2 (ix3 b t k)) (fun k => x3 (ix3 b t k))
        (fun i k => x10 (ix3 3 i k)) (fun k => x5 (ix3 b 0 k)) (fun i k => x11 (ix3 3 i k)) j := by
  pointwise [val_main_v40, val_main_v39, val_main_v38, val_main_v37, val_main_v36, val_main_v35, ref_gated]
  rfl

theorem ref_modul (j : Fin 1024) : val_main_v61 (F := Ideal) x0 x1 x2 x3 x4 x5 x6 x7 x9 x10 x11 (ix3 b t j)
    = modul (fun k => val_main_v40 (F := Ideal) x0 x1 x2 x3 x4 x5 x10 x11 (ix3 b t k)) (fun k => x9 (ix2 3 k)) (fun k => x7 (ix3 b 0 k)) (fun k => x6 (ix3 b 0 k)) j := by
  pointwise [val_main_v61, val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43, val_main_v42, val_main_v41,
    val_main_cst_5, val_main_cst_6, val_main_cst_7, val_main_cst_8]
  rfl

theorem ref_unit (i : Fin 4096) : val_main_v66 (F := Ideal) x0 x1 x2 x3 x4 x5 x6 x7 x9 x10 x11 x12 (ix3 b t i)
    = unit (fun k => val_main_v61 (F := Ideal) x0 x1 x2 x3 x4 x5 x6 x7 x9 x10 x11 (ix3 b t k)) (fun k => x12 (ix3 3 k i)) := by
  pointwise [val_main_v66, val_main_v65, val_main_v64, val_main_v63, val_main_v62, val_main_call0_v0, val_main_call0_cst]
  rfl

theorem ref_last (j : Fin 1024) : val_main_v72 (F := Ideal) x0 x1 x2 x3 x4 x5 x6 x7 x8 x9 x10 x11 x12 x13 (ix3 b t j)
    = resid (fun k => val_main_v40 (F := Ideal) x0 x1 x2 x3 x4 x5 x10 x11 (ix3 b t k)) (fun k => x8 (ix3 b 0 k))
        (fun i => val_main_v66 (F := Ideal) x0 x1 x2 x3 x4 x5 x6 x7 x9 x10 x11 x12 (ix3 b t i)) (fun i k => x13 (ix3 3 i k)) j := by
  pointwise [val_main_v72, val_main_v71, val_main_v70, val_main_v69, val_main_v68, val_main_v67]
  rfl

theorem ref_norm (j : Fin 1024) : val_main_v85 (F := Ideal) x0 x1 x2 x3 x4 x5 x6 x7 x8 x9 x10 x11 x12 x13 x14 (ix3 b t j)
    = rms (fun k => val_main_v72 (F := Ideal) x0 x1 x2 x3 x4 x5 x6 x7 x8 x9 x10 x11 x12 x13 (ix3 b t k)) j * x14 (ix1 j) := by
  pointwise [val_main_v85, val_main_v84, val_main_v83, val_main_v82, val_main_v81, val_main_v80, val_main_v79, val_main_v78, val_main_v77, val_main_v76,
    val_main_v75, val_main_v74, val_main_v73, val_main_cst_9, val_main_cst_10, val_main_cst_11]
  rfl

/-- The reference's result array. -/
theorem ref_result : val_main_v86 (F := Ideal) x0 x1 x2 x3 x4 x5 x6 x7 x8 x9 x10 x11 x12 x13 x14
    = result x0 x1 x2 x3 x4 x5 x6 x7 x8 x9 x10 x11 x12 x13 x14 := by
  funext i
  obtain ⟨n, j, rfl⟩ : ∃ (n : Fin 32768) (j : Fin 1024), i = ix2 n j := ⟨i 0, i 1, ValueIdx.eq_ix2 i⟩
  rw [val_main_v86_apply]
  have e : idx_main_v86 (ix2 n j) = ix3 (n0 := 4) (n1 := 8192) (n2 := 1024) ⟨n.val / 8192, by omega⟩ ⟨n.val % 8192, Nat.mod_lt _ (by norm_num)⟩ j := by
    funext a
    match a with
    | ⟨0, _⟩ => exact Fin.ext (by show (n.val * 1024 + j.val) / 8388608 = n.val / 8192; omega)
    | ⟨1, _⟩ => exact Fin.ext (by show (n.val * 1024 + j.val) / 1024 % 8192 = n.val % 8192; omega)
    | ⟨2, _⟩ => exact Fin.ext (by show (n.val * 1024 + j.val) % 1024 = j.val; omega)
  rw [e, ref_norm]
  simp only [ref_last, ref_unit, ref_modul, ref_mid]
  rfl

end Cert.Merge

end
-- ==== Proof.MergeClaim.lean ====
module

public import proofs.«01_k».proof.Defs
public import proofs.«01_k».proof.Proof.Gen.Kernel2.Frame
public import proofs.«01_k».proof.Proof.MergeKernel
public import proofs.«01_k».proof.Proof.MergeRef

@[expose] public section

noncomputable section

/-! The claims about the layer's last part: its own program, the program with the ideal arithmetic, and the reference. -/

namespace Cert.Merge

open Idealize.ShloMosaic Idealize.SL.Sem

theorem frame_kernel : Cert.quiescent_Kernel2 (hKernel2 := Cert.Kernel2.Gen.facts) := fun m ρ _ => Cert.Kernel2.Gen.frame m ρ

theorem frame_ideal : Cert.quiescent_Kernel2Ideal (hKernel2Ideal := Cert.Kernel2Ideal.Gen.facts) := fun m ρ _ => Cert.Kernel2Ideal.Gen.frame m ρ

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨fun c => G m c, ?_, ?_⟩
  · exact (θ_run Cert.Kernel2Ideal.defs _ _).mono (fun _ h c => ⟨(h c).1.trans (array_eq m c), (h c).2⟩)
      (Cert.Kernel2Ideal.Value.run_blocks (F := Ideal) m ρ)
  · refine (θ_run Cert.Reference2Ideal.defs _ _).mono (fun _ h c => ⟨(h c).1.trans ?_, (h c).2⟩) (Cert.Reference2Ideal.Value.run (F := Ideal) m' ρ')
    obtain ⟨h0, h1, h2, h3, h4, h5, h6, h7, h8, h9, h10, h11, h12, h13, h14⟩ := hagree c
    rw [Cert.Reference2Ideal.Read.val_main_v86_eq, ref_result]
    unfold G
    rw [h0, h1, h2, h3, h4, h5, h6, h7, h8, h9, h10, h11, h12, h13, h14]

theorem preserves : Cert.preserves_Kernel2_Kernel2Ideal := trivial

end Cert.Merge

end
-- ==== Proof.ProjModel.lean ====
module

public import proofs.«01_k».proof.Proof.MergeModel

@[expose] public section

noncomputable section

/-! One token of the layer's beginning, on the extended reals: the modulated norm, its products with the columns of the
input projection's weights, and the rotation of a head by the token's angles. Then the nine result arrays, in the layouts in which the
projection leaves them, as functions of the argument arrays. -/

namespace Cert.Proj

open Idealize.ShloMosaic Cert.Merge
open scoped BigOperators

/-- A head's 64 values `z`, its halves turned by the angles whose cosines and sines are given; coordinate `d` of the outcome. -/
def rot (z : Fin 64 → EReal) (cos sin : Fin 32 → EReal) (d : Fin 64) : EReal :=
  if h : d.val < 32 then z d * cos ⟨d.val, h⟩ - z ⟨d.val + 32, by omega⟩ * sin ⟨d.val, h⟩
  else z d * cos ⟨d.val - 32, by omega⟩ + z ⟨d.val - 32, by omega⟩ * sin ⟨d.val - 32, by omega⟩

section Arrays

variable (x0 : (⟨3, ![4, 8192, 1024]⟩ : Shape).Idx → EReal) (x1 x2 : (⟨3, ![4, 1, 1024]⟩ : Shape).Idx → EReal)
  (x3 x4 : (⟨2, ![8192, 32]⟩ : Shape).Idx → EReal) (x5 : (⟨2, ![4, 1024]⟩ : Shape).Idx → EReal)
  (x6 : (⟨3, ![4, 1024, 6400]⟩ : Shape).Idx → EReal)

/-- The modulated norm of token `t` of batch row `b`. -/
def normed (b : Fin 4) (t : Fin 8192) : Fin 1024 → EReal :=
  modul (fun k => x0 (ix3 b t k)) (fun k => x5 (ix2 0 k)) (fun k => x2 (ix3 b 0 k)) (fun k => x1 (ix3 b 0 k))

/-- Its product with column `j` of the first layer's weights. -/
def col (b : Fin 4) (t : Fin 8192) (j : Fin 6400) : EReal := ∑ k : Fin 1024, normed x0 x1 x2 x5 b t k * x6 (ix3 0 k j)

/-- A group of `w` columns from column `c` on, the tokens in rows. -/
def seg (c w : ℕ) (hc : c + w ≤ 6400) (i : (⟨2, ![32768, w]⟩ : Shape).Idx) : EReal :=
  col x0 x1 x2 x5 x6 (bat (i 0)) (pos (i 0)) ⟨c + (i 1).val, by have : (i 1).val < w := (i 1).isLt; omega⟩

/-- The rotated query heads. -/
def queries (i : (⟨2, ![32768, 512]⟩ : Shape).Idx) : EReal :=
  rot (fun d => col x0 x1 x2 x5 x6 (bat (i 0)) (pos (i 0)) ⟨2560 + (i 1).val / 64 * 64 + d.val, by have : (i 1).val < 512 := (i 1).isLt; omega⟩)
    (fun f => x3 (ix2 (pos (i 0)) f)) (fun f => x4 (ix2 (pos (i 0)) f)) ⟨(i 1).val % 64, Nat.mod_lt _ (by norm_num)⟩

/-- The rotated key heads, each twice. -/
def keys (i : (⟨2, ![32768, 256]⟩ : Shape).Idx) : EReal :=
  rot (fun d => col x0 x1 x2 x5 x6 (bat (i 0)) (pos (i 0)) ⟨3072 + (i 1).val / 128 * 64 + d.val, by have : (i 1).val < 256 := (i 1).isLt; omega⟩)
    (fun f => x3 (ix2 (pos (i 0)) f)) (fun f => x4 (ix2 (pos (i 0)) f)) ⟨(i 1).val % 64, Nat.mod_lt _ (by norm_num)⟩

/-- The values of the neighbourhood attention, feature-major in blocks of 256 tokens. -/
def valuesA (i : (⟨3, ![128, 512, 256]⟩ : Shape).Idx) : EReal :=
  have h0 : (i 0).val < 128 := (i 0).isLt
  have h1 : (i 1).val < 512 := (i 1).isLt
  have h2 : (i 2).val < 256 := (i 2).isLt
  col x0 x1 x2 x5 x6 (bat ⟨256 * (i 0).val + (i 2).val, by omega⟩) (pos ⟨256 * (i 0).val + (i 2).val, by omega⟩) ⟨1024 + (i 1).val, by omega⟩

/-- The values of the windowed attention, feature-major in blocks of 128 tokens. -/
def valuesC (i : (⟨3, ![256, 128, 128]⟩ : Shape).Idx) : EReal :=
  have h0 : (i 0).val < 256 := (i 0).isLt
  have h1 : (i 1).val < 128 := (i 1).isLt
  have h2 : (i 2).val < 128 := (i 2).isLt
  col x0 x1 x2 x5 x6 (bat ⟨128 * (i 0).val + (i 2).val, by omega⟩) (pos ⟨128 * (i 0).val + (i 2).val, by omega⟩) ⟨3200 + (i 1).val, by omega⟩

end Arrays

end Cert.Proj

end
-- ==== Proof.ProjPay.lean ====
module

public import proofs.«01_k».proof.Proof.Gen.Kernel4Ideal.Frame
public import proofs.«01_k».proof.Proof.ProjModel
public import Idealize.ShloMosaic.Lib.Pipeline.ValueKit

@[expose] public section

noncomputable section

/-! What the kernel body leaves in its nine result blocks, element by element. -/

namespace Cert.Proj

open Idealize.ShloMosaic Cert.Merge Cert.Kernel4Ideal Cert.Kernel4Ideal.Gen
open scoped BigOperators

/-- The modulated norm of the block's tokens. -/
theorem pay3_apply (v0 : Vec Ideal S512x1024 .f32) (v12 : Vec Ideal S1x1024 .f32) (v16 v22 : Vec Ideal S1x1x1024 .f32) (r : Fin 512) (j : Fin 1024) :
    k0_pay3 v0 v12 v16 v22 (ix2 r j)
      = modul (fun k => v0 (ix2 r k)) (fun k => v12 (ix2 0 k)) (fun k => v16 (ix3 0 0 k)) (fun k => v22 (ix3 0 0 k)) j := by
  pointwise [k0_pay3]
  rfl

/-- Which lanes the body's bit test takes for a head's first half. -/
theorem lane_first : ∀ j : Fin 512, IntOp.cmpi CmpIPredicate.slt (IntOp.andi (BitVec.ofNat 32 j.val) 63#32) 32#32
    = if j.val % 64 < 32 then 1#1 else 0#1 := by decide +kernel

/-- A row of 128 lanes laid side by side, read at a lane. -/
theorem lanes_at (f : Fin 128 → EReal) (j : ℕ) (hj : j < 512) :
    (if h : j < 128 then f ⟨j, h⟩ else if h : j - 128 < 128 then f ⟨j - 128, h⟩
      else if h : j - 128 - 128 < 128 then f ⟨j - 128 - 128, h⟩ else f ⟨j - 128 - 128 - 128, by omega⟩)
      = f ⟨j % 128, Nat.mod_lt _ (by norm_num)⟩ := by
  split_ifs <;> exact congrArg f (Fin.ext (by simp only []; omega))

theorem lanes_two (f : Fin 128 → EReal) (j : ℕ) (hj : j < 256) :
    (if h : j < 128 then f ⟨j, h⟩ else f ⟨j - 128, by omega⟩) = f ⟨j % 128, Nat.mod_lt _ (by norm_num)⟩ := by
  split_ifs <;> exact congrArg f (Fin.ext (by simp only []; omega))

section Pay

variable (h : FVec Ideal S512x1024 .bf16)

theorem pay9_apply (w : Vec Ideal S1x1024x512 .bf16) (r j : Fin 512) :
    k0_pay9 h w (ix2 r j) = ∑ k : Fin 1024, h (ix2 r k) * w (ix3 0 k j) := by
  pointwise [k0_pay9]

theorem pay12_apply (w : Vec Ideal S1x1024x512 .bf16) (cs sn : Vec Ideal S512x128 .f32) (r j : Fin 512) :
    k0_pay12 (k0_pay10 h w cs) (k0_pay11 h w sn) (ix2 r j)
      = k0_pay9 h w (ix2 r j) * cs (ix2 r ⟨j.val % 128, Nat.mod_lt _ (by norm_num)⟩)
        + (if j.val % 64 < 32 then k0_pay9 h w (ix2 r ⟨(j.val + 32) % 512, Nat.mod_lt _ (by norm_num)⟩)
            else k0_pay9 h w (ix2 r ⟨(j.val + 480) % 512, Nat.mod_lt _ (by norm_num)⟩))
          * sn (ix2 r ⟨j.val % 128, Nat.mod_lt _ (by norm_num)⟩) := by
  pointwise [k0_pay12, k0_pay10, k0_pay11]
  refine congrArg₂ (· + ·) (congrArg _ (lanes_at (fun l => cs (ix2 r l)) j.val j.isLt))
    (congrArg₂ (· * ·) ?_ (lanes_at (fun l => sn (ix2 r l)) j.val j.isLt))
  rw [lane_first j]
  split_ifs <;> rfl

theorem pay13_apply (w : Vec Ideal S1x1024x256 .bf16) (cs sn : Vec Ideal S512x128 .f32) (r : Fin 512) (j : Fin 256) :
    k0_pay13 h w cs sn (ix2 r j)
      = (∑ k : Fin 1024, h (ix2 r k) * w (ix3 0 k j)) * cs (ix2 r ⟨j.val % 128, Nat.mod_lt _ (by norm_num)⟩)
        + (if j.val % 64 < 32 then ∑ k : Fin 1024, h (ix2 r k) * w (ix3 0 k ⟨(j.val + 32) % 256, Nat.mod_lt _ (by norm_num)⟩)
            else ∑ k : Fin 1024, h (ix2 r k) * w (ix3 0 k ⟨(j.val + 224) % 256, Nat.mod_lt _ (by norm_num)⟩))
          * sn (ix2 r ⟨j.val % 128, Nat.mod_lt _ (by norm_num)⟩) := by
  pointwise [k0_pay13]
  refine congrArg₂ (· + ·) (congrArg _ (lanes_two (fun l => cs (ix2 r l)) j.val j.isLt))
    (congrArg₂ (· * ·) ?_ (lanes_two (fun l => sn (ix2 r l)) j.val j.isLt))
  rw [lane_first ⟨j.val, by omega⟩]
  split_ifs <;> rfl

end Pay

section Blocks

variable (x0 : Vec Ideal S512x1024 .f32) (x1 x2 : Vec Ideal S1x1x1024 .f32) (x3 : Vec Ideal S1x1024 .f32) (x4 x5 : Vec Ideal S512x128 .f32)
  (x6 : Vec Ideal S1x1024x6400 .bf16) (x7 : Vec Ideal S1x1024x256 .bf16)

/-- The modulated norm of the block's row `r`. -/
def hrow (r : Fin 512) : Fin 1024 → EReal :=
  modul (fun k => x0 (ix2 r k)) (fun k => x3 (ix2 0 k)) (fun k => x2 (ix3 0 0 k)) (fun k => x1 (ix3 0 0 k))

/-- Its product with a column of the weights. -/
def hcol (r : Fin 512) (j : Fin 6400) : EReal := ∑ k : Fin 1024, hrow x0 x1 x2 x3 r k * x6 (ix3 0 k j)

theorem pay28_apply (r : Fin 512) (k : Fin 1024) : k0_pay28 x0 x1 x2 x3 x4 x5 x6 x7 (ix2 r k) = hrow x0 x1 x2 x3 r k := by
  pointwise [k0_pay28, pay3_apply]
  rfl

theorem zero2 : (![0, 0] : Fin 2 → ℕ) = fun _ => 0 := funext fun a => by fin_cases a <;> rfl

theorem block8 (r j : Fin 512) : out0_8 x0 x1 x2 x3 x4 x5 x6 x7 (ix2 r j) = hcol x0 x1 x2 x3 x6 r ⟨0 + j.val, by omega⟩ := by
  unfold out0_8
  rw [View.canon_unit_zero zero2]
  pointwise [k0_pay4, pay3_apply]
  rfl

theorem block9 (r j : Fin 512) : out0_9 x0 x1 x2 x3 x4 x5 x6 x7 (ix2 r j) = hcol x0 x1 x2 x3 x6 r ⟨512 + j.val, by omega⟩ := by
  unfold out0_9
  rw [View.canon_unit_zero zero2]
  pointwise [k0_pay6, k0_pay5, pay28_apply]
  rfl

theorem block10 (r j : Fin 512) : out0_10 x0 x1 x2 x3 x4 x5 x6 x7 (ix2 r j) = hcol x0 x1 x2 x3 x6 r ⟨1536 + j.val, by omega⟩ := by
  unfold out0_10
  rw [View.canon_unit_zero zero2]
  pointwise [k0_pay7, pay28_apply]
  rfl

theorem block11 (r j : Fin 512) : out0_11 x0 x1 x2 x3 x4 x5 x6 x7 (ix2 r j) = hcol x0 x1 x2 x3 x6 r ⟨2048 + j.val, by omega⟩ := by
  unfold out0_11
  rw [View.canon_unit_zero zero2]
  pointwise [k0_pay8, pay28_apply]
  rfl

theorem block12 (r j : Fin 512) : out0_12 x0 x1 x2 x3 x4 x5 x6 x7 (ix2 r j)
    = hcol x0 x1 x2 x3 x6 r ⟨2560 + j.val, by omega⟩ * x4 (ix2 r ⟨j.val % 128, Nat.mod_lt _ (by norm_num)⟩)
      + (if j.val % 64 < 32 then hcol x0 x1 x2 x3 x6 r ⟨2560 + (j.val + 32) % 512, by omega⟩
          else hcol x0 x1 x2 x3 x6 r ⟨2560 + (j.val + 480) % 512, by omega⟩)
        * x5 (ix2 r ⟨j.val % 128, Nat.mod_lt _ (by norm_num)⟩) := by
  unfold out0_12
  rw [View.canon_unit_zero zero2, pay12_apply]
  simp only [pay9_apply, pay28_apply]
  pointwise
  rfl

/-- The product of a token with a column of the doubled key weights. -/
def kcol (r : Fin 512) (j : Fin 256) : EReal := ∑ k : Fin 1024, hrow x0 x1 x2 x3 r k * x7 (ix3 0 k j)

theorem block13 (r : Fin 512) (j : Fin 256) : out0_13 x0 x1 x2 x3 x4 x5 x6 x7 (ix2 r j)
    = kcol x0 x1 x2 x3 x7 r j * x4 (ix2 r ⟨j.val % 128, Nat.mod_lt _ (by norm_num)⟩)
      + (if j.val % 64 < 32 then kcol x0 x1 x2 x3 x7 r ⟨(j.val + 32) % 256, Nat.mod_lt _ (by norm_num)⟩
          else kcol x0 x1 x2 x3 x7 r ⟨(j.val + 224) % 256, Nat.mod_lt _ (by norm_num)⟩)
        * x5 (ix2 r ⟨j.val % 128, Nat.mod_lt _ (by norm_num)⟩) := by
  unfold out0_13
  rw [View.canon_unit_zero zero2, pay13_apply]
  simp only [pay28_apply]
  pointwise
  rfl

theorem block14 (r : Fin 512) (j : Fin 3072) : out0_14 x0 x1 x2 x3 x4 x5 x6 x7 (ix2 r j)
    = hcol x0 x1 x2 x3 x6 r ⟨3328 + j.val, by omega⟩ := by
  unfold out0_14
  canon_tiles x h
  all_goals
    obtain ⟨a, b, rfl⟩ : ∃ (a b : Fin 512), x = ix2 a b := ⟨x 0, x 1, ValueIdx.eq_ix2 x⟩
    obtain rfl : a = r := Fin.ext h0.symm
    have hj : j.val = _ := h1
    have hb : ((ix2 a b : (⟨2, ![512, 512]⟩ : Shape).Idx) 1).val = b.val := rfl
    pointwise [k0_pay14, k0_pay15, k0_pay16, k0_pay17, k0_pay18, k0_pay19, k0_pay20, pay28_apply]
    unfold hcol
    refine Finset.sum_congr rfl fun k _ => congrArg _ (congrArg (fun z => x6 (ix3 0 k z)) (Fin.ext ?_))
    simp only []
    omega

theorem block15 (q : Fin 2) (j : Fin 512) (s : Fin 256) : out0_15 x0 x1 x2 x3 x4 x5 x6 x7 (ix3 q j s)
    = hcol x0 x1 x2 x3 x6 ⟨256 * q.val + s.val, by omega⟩ ⟨1024 + j.val, by omega⟩ := by
  unfold out0_15
  canon_tiles x h
  all_goals
    obtain ⟨z, a, b, rfl⟩ : ∃ (z : Fin 1) (a : Fin 512) (b : Fin 256), x = ix3 z a b := ⟨x 0, x 1, x 2, ValueIdx.eq_ix3 x⟩
    obtain rfl : a = j := Fin.ext h1.symm
    obtain rfl : b = s := Fin.ext h2.symm
    have hq : q.val = _ := h0
    have hz : ((ix3 z a b : (⟨3, ![1, 512, 256]⟩ : Shape).Idx) 0).val = z.val := rfl
    pointwise [k0_pay21, k0_pay22, k0_pay23, pay28_apply]
    unfold hcol
    refine Finset.sum_congr rfl fun k _ => (mul_comm _ _).trans (congrArg (fun w => hrow x0 x1 x2 x3 w k * x6 (ix3 0 k ⟨1024 + a.val, by omega⟩)) (Fin.ext ?_))
    simp only []
    omega

theorem block16 (q : Fin 4) (j s : Fin 128) : out0_16 x0 x1 x2 x3 x4 x5 x6 x7 (ix3 q j s)
    = hcol x0 x1 x2 x3 x6 ⟨128 * q.val + s.val, by omega⟩ ⟨3200 + j.val, by omega⟩ := by
  unfold out0_16
  canon_tiles x h
  all_goals
    obtain ⟨z, a, b, rfl⟩ : ∃ (z : Fin 1) (a b : Fin 128), x = ix3 z a b := ⟨x 0, x 1, x 2, ValueIdx.eq_ix3 x⟩
    obtain rfl : a = j := Fin.ext h1.symm
    obtain rfl : b = s := Fin.ext h2.symm
    have hq : q.val = _ := h0
    have hz : ((ix3 z a b : (⟨3, ![1, 128, 128]⟩ : Shape).Idx) 0).val = z.val := rfl
    pointwise [k0_pay1, k0_pay2, k0_pay24, k0_pay25, k0_pay26, k0_pay27, pay28_apply]
    unfold hcol
    refine Finset.sum_congr rfl fun k _ => (mul_comm _ _).trans (congrArg (fun w => hrow x0 x1 x2 x3 w k * x6 (ix3 0 k ⟨3200 + a.val, by omega⟩)) (Fin.ext ?_))
    simp only []
    omega

end Blocks

end Cert.Proj

end
-- ==== Proof.ProjKernel.lean ====
module

public import Idealize.ShloMosaic.Lib.Pipeline.ValueKit
public import proofs.«01_k».proof.Proof.Gen.Kernel4Ideal.Value
public import proofs.«01_k».proof.Proof.ProjPay

@[expose] public section

set_option maxRecDepth 16384

noncomputable section

/-! The nine arrays the projection kernel leaves, read off its run block by block. -/

namespace Cert.Proj

open Idealize.ShloMosaic Cert.Merge Cert.Kernel4Ideal Cert.Kernel4Ideal.Gen

open Idealize.ShloMosaic.TcCoe

/-- The rotation of a coordinate, both halves by one formula: the partner's half is signed by the table. -/
theorem rot_signed (z : Fin 64 → EReal) (cos sin : Fin 32 → EReal) (e : Fin 64) :
    z e * cos ⟨e.val % 32, by omega⟩
      + (if e.val < 32 then z ⟨(e.val + 32) % 64, by omega⟩ else z ⟨(e.val + 32) % 64, by omega⟩)
        * (if e.val < 32 then -sin ⟨e.val % 32, by omega⟩ else sin ⟨e.val % 32, by omega⟩)
      = rot z cos sin e := by
  unfold rot
  by_cases h : e.val < 32
  · have e1 : (⟨e.val % 32, by omega⟩ : Fin 32) = ⟨e.val, h⟩ := Fin.ext (by simp only []; omega)
    have e2 : (⟨(e.val + 32) % 64, by omega⟩ : Fin 64) = ⟨e.val + 32, by omega⟩ := Fin.ext (by simp only []; omega)
    rw [if_pos h, if_pos h, dif_pos h, e1, e2, mul_neg, sub_eq_add_neg]
  · have e1 : (⟨e.val % 32, by omega⟩ : Fin 32) = ⟨e.val - 32, by omega⟩ := Fin.ext (by simp only []; omega)
    have e2 : (⟨(e.val + 32) % 64, by omega⟩ : Fin 64) = ⟨e.val - 32, by omega⟩ := Fin.ext (by simp only []; omega)
    rw [if_neg h, if_neg h, dif_neg h, e1, e2]

/-- The sine table at position `p` and lane `l`: negated in the first half of every 64 lanes. -/
def signed (f : (⟨2, ![8192, 32]⟩ : Shape).Idx → EReal) (p : Fin 8192) (l : Fin 128) : EReal :=
  if l.val % 64 < 32 then -f (ix2 p ⟨l.val % 32, by omega⟩) else f (ix2 p ⟨l.val % 32, by omega⟩)

variable (m : (ℓ : Loc nD τ sig) → Buf (Elt Ideal) ℓ) (c : Dev nD) (t : Fin cfg0.N)

theorem val_lt (t : Fin cfg0.N) : t.val < 64 := lt_of_lt_of_eq t.isLt N_0

/-- Row `r` of the block of grid point `t`. -/
def row (t : Fin cfg0.N) (r : Fin 512) : Fin 32768 := ⟨512 * t.val + r.val, by have := val_lt t; omega⟩
theorem idx0 : ∀ t : Fin cfg0.N, win0_0.index t = ![t.val, 0] := by decide +kernel
theorem idx1 : ∀ t : Fin cfg0.N, win0_1.index t = ![t.val / 16, 0, 0] := by decide +kernel
theorem idx2 : ∀ t : Fin cfg0.N, win0_2.index t = ![t.val / 16, 0, 0] := by decide +kernel
theorem idx3 : ∀ t : Fin cfg0.N, win0_3.index t = ![0, 0] := by decide +kernel
theorem idx4 : ∀ t : Fin cfg0.N, win0_4.index t = ![t.val % 16, 0] := by decide +kernel
theorem idx5 : ∀ t : Fin cfg0.N, win0_5.index t = ![t.val % 16, 0] := by decide +kernel
theorem idx6 : ∀ t : Fin cfg0.N, win0_6.index t = ![0, 0, 0] := by decide +kernel
theorem idx7 : ∀ t : Fin cfg0.N, win0_7.index t = ![0, 0, 0] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val, 0] := by decide +kernel
theorem idx13 : ∀ t : Fin cfg0.N, win0_13.index t = ![t.val, 0] := by decide +kernel
theorem idx14 : ∀ t : Fin cfg0.N, win0_14.index t = ![t.val, 0] := by decide +kernel
theorem idx15 : ∀ t : Fin cfg0.N, win0_15.index t = ![t.val, 0, 0] := by decide +kernel
theorem idx16 : ∀ t : Fin cfg0.N, win0_16.index t = ![t.val, 0, 0] := by decide +kernel

theorem row_val (r : Fin 512) : (row t r).val = 512 * t.val + r.val := rfl

theorem bat_val (r : Fin 512) : (bat (row t r)).val = t.val / 16 := by
  show (512 * t.val + r.val) / 8192 = t.val / 16
  omega

theorem pos_val (r : Fin 512) : (pos (row t r)).val = 512 * (t.val % 16) + r.val := by
  show (512 * t.val + r.val) % 8192 = 512 * (t.val % 16) + r.val
  omega

theorem src0 (n : Fin 32768) (k : Fin 1024) :
    V m c main_v13 (ix2 n k) = m ((c : Thread nD τ).loc main_arg0) (ix3 (bat n) (pos n) k) := by
  entry_read
  pointwise
  rfl

theorem in0 (r : Fin 512) (k : Fin 1024) :
    iblk m c 0 t (ix2 r k) = m ((c : Thread nD τ).loc main_arg0) (ix3 (bat (row t r)) (pos (row t r)) k) := by
  rw [← src0 m c]
  blk_ext [iblk, row_val, idx0 t]

theorem src1 (b : Fin 4) (k : Fin 1024) :
    V m c main_v15 (ix3 ⟨b.val, by omega⟩ 0 k) = m ((c : Thread nD τ).loc main_arg1) (ix3 b 0 k) := by
  entry_read
  pointwise

theorem in1 (r : Fin 512) (k : Fin 1024) :
    iblk m c 1 t (ix3 0 0 k) = m ((c : Thread nD τ).loc main_arg1) (ix3 (bat (row t r)) 0 k) := by
  rw [← src1 m c]
  blk_ext [iblk, bat_val, idx1 t]

theorem src2 (b : Fin 4) (k : Fin 1024) :
    V m c main_v17 (ix3 ⟨b.val, by omega⟩ 0 k) = m ((c : Thread nD τ).loc main_arg2) (ix3 b 0 k) := by
  entry_read
  pointwise

theorem in2 (r : Fin 512) (k : Fin 1024) :
    iblk m c 2 t (ix3 0 0 k) = m ((c : Thread nD τ).loc main_arg2) (ix3 (bat (row t r)) 0 k) := by
  rw [← src2 m c]
  blk_ext [iblk, bat_val, idx2 t]

theorem src3 (k : Fin 1024) : V m c main_v20 (ix2 0 k) = m ((c : Thread nD τ).loc main_arg5) (ix2 0 k) := by
  entry_read
  pointwise

theorem in3 (k : Fin 1024) : iblk m c 3 t (ix2 0 k) = m ((c : Thread nD τ).loc main_arg5) (ix2 0 k) := by
  rw [← src3 m c]
  blk_ext [iblk, idx3 t]

theorem src6 (i : Fin 1024) (k : Fin 6400) : V m c main_v8 (ix3 0 i k) = m ((c : Thread nD τ).loc main_arg6) (ix3 0 i k) := by
  entry_read
  pointwise

theorem in6 (i : Fin 1024) (k : Fin 6400) : iblk m c 6 t (ix3 0 i k) = m ((c : Thread nD τ).loc main_arg6) (ix3 0 i k) := by
  rw [← src6 m c]
  blk_ext [iblk, idx6 t]

/-- The doubled key weights: each head's 64 columns twice. -/
theorem src7 (i : Fin 1024) (k : Fin 256) :
    V m c main_v12 (ix3 0 i k) = m ((c : Thread nD τ).loc main_arg6) (ix3 0 i ⟨3072 + (k.val / 128 * 64 + k.val % 64), by omega⟩) := by
  entry_read
  pointwise

theorem in7 (i : Fin 1024) (k : Fin 256) :
    iblk m c 7 t (ix3 0 i k) = m ((c : Thread nD τ).loc main_arg6) (ix3 0 i ⟨3072 + (k.val / 128 * 64 + k.val % 64), by omega⟩) := by
  rw [← src7 m c]
  blk_ext [iblk, idx7 t]

theorem src4 (p : Fin 8192) (l : Fin 128) :
    V m c main_v2 (ix2 p l) = m ((c : Thread nD τ).loc main_arg3) (ix2 p ⟨l.val % 32, by omega⟩) := by
  entry_read
  pointwise

theorem in4 (r : Fin 512) (l : Fin 128) :
    iblk m c 4 t (ix2 r l) = m ((c : Thread nD τ).loc main_arg3) (ix2 (pos (row t r)) ⟨l.val % 32, by omega⟩) := by
  rw [← src4 m c]
  blk_ext [iblk, pos_val, idx4 t]

theorem src5 (p : Fin 8192) (l : Fin 128) :
    V m c main_v7 (ix2 p l) = signed (m ((c : Thread nD τ).loc main_arg4)) p l := by
  entry_read
  pointwise
  unfold signed
  have e : ∀ (f : (⟨2, ![8192, 32]⟩ : Shape).Idx → EReal) (a b : Fin 32), a = b → -f (ix2 p a) = -f (ix2 p b) := fun f a b h => by rw [h]
  have e' : ∀ (f : (⟨2, ![8192, 32]⟩ : Shape).Idx → EReal) (a b : Fin 32), a = b → f (ix2 p a) = f (ix2 p b) := fun f a b h => by rw [h]
  by_cases h : l.val % 64 < 32
  · rw [dif_pos h, if_pos h]
    refine e _ _ _ (Fin.ext ?_)
    show l.val % 64 = l.val % 32
    omega
  · rw [dif_neg h, if_neg h]
    refine e' _ _ _ (Fin.ext ?_)
    show l.val % 64 - 32 = l.val % 32
    omega

theorem in5 (r : Fin 512) (l : Fin 128) :
    iblk m c 5 t (ix2 r l) = signed (m ((c : Thread nD τ).loc main_arg4)) (pos (row t r)) l := by
  rw [← src5 m c]
  blk_ext [iblk, pos_val, idx5 t]

/-- A token's product with a column of the weights, in the block of grid point `t`. -/
theorem hcol_eq (r : Fin 512) (j : Fin 6400) :
    hcol (iblk m c 0 t) (iblk m c 1 t) (iblk m c 2 t) (iblk m c 3 t) (iblk m c 6 t) r j = col (m ((c : Thread nD τ).loc main_arg0)) (m ((c : Thread nD τ).loc main_arg1)) (m ((c : Thread nD τ).loc main_arg2)) (m ((c : Thread nD τ).loc main_arg5)) (m ((c : Thread nD τ).loc main_arg6)) (bat (row t r)) (pos (row t r)) j := by
  unfold hcol hrow
  simp only [in0, in1 m c t r, in2 m c t r, in3, in6]
  rfl

/-- The same for the doubled key weights. -/
theorem kcol_eq (r : Fin 512) (j : Fin 256) :
    kcol (iblk m c 0 t) (iblk m c 1 t) (iblk m c 2 t) (iblk m c 3 t) (iblk m c 7 t) r j
      = col (m ((c : Thread nD τ).loc main_arg0)) (m ((c : Thread nD τ).loc main_arg1)) (m ((c : Thread nD τ).loc main_arg2)) (m ((c : Thread nD τ).loc main_arg5)) (m ((c : Thread nD τ).loc main_arg6)) (bat (row t r)) (pos (row t r)) ⟨3072 + (j.val / 128 * 64 + j.val % 64), by omega⟩ := by
  unfold kcol hrow
  simp only [in0, in1 m c t r, in2 m c t r, in3, in7]
  rfl

/-- The nine result arrays on core `c`. -/
def segArr (a w : ℕ) (h : a + w ≤ 6400) : (⟨2, ![32768, w]⟩ : Shape).Idx → EReal := seg (m ((c : Thread nD τ).loc main_arg0)) (m ((c : Thread nD τ).loc main_arg1)) (m ((c : Thread nD τ).loc main_arg2)) (m ((c : Thread nD τ).loc main_arg5)) (m ((c : Thread nD τ).loc main_arg6)) a w h

def queriesArr : (⟨2, ![32768, 512]⟩ : Shape).Idx → EReal := queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

def keysArr : (⟨2, ![32768, 256]⟩ : Shape).Idx → EReal := keys (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

def valuesAArr : (⟨3, ![128, 512, 256]⟩ : Shape).Idx → EReal := valuesA (m ((c : Thread nD τ).loc main_arg0)) (m ((c : Thread nD τ).loc main_arg1)) (m ((c : Thread nD τ).loc main_arg2)) (m ((c : Thread nD τ).loc main_arg5)) (m ((c : Thread nD τ).loc main_arg6))

def valuesCArr : (⟨3, ![256, 128, 128]⟩ : Shape).Idx → EReal := valuesC (m ((c : Thread nD τ).loc main_arg0)) (m ((c : Thread nD τ).loc main_arg1)) (m ((c : Thread nD τ).loc main_arg2)) (m ((c : Thread nD τ).loc main_arg5)) (m ((c : Thread nD τ).loc main_arg6))

theorem array8 : (dats m 0 c).arrAt 8 cfg0.N = segArr m c 0 512 (by norm_num) := by
  refine (dats m 0 c).arrAt_eq_of_covers 8 _ (by decide +kernel) fun t hf y => ?_
  blk_simp
  rw [after0_8]
  obtain ⟨r, j, rfl⟩ : ∃ (r : Fin 512) (j : Fin 512), y = ix2 r j := ⟨y 0, y 1, ValueIdx.eq_ix2 y⟩
  refine (block8 _ _ _ _ _ _ _ _ r j).trans ((hcol_eq m c t r _).trans ?_)
  refine (rfl : _ = segArr m c 0 512 (by norm_num) (ix2 (row t r) j)).trans ?_
  blk_ext [row_val, idx8 t]

theorem array9 : (dats m 0 c).arrAt 9 cfg0.N = segArr m c 512 512 (by norm_num) := by
  refine (dats m 0 c).arrAt_eq_of_covers 9 _ (by decide +kernel) fun t hf y => ?_
  blk_simp
  rw [after0_9]
  obtain ⟨r, j, rfl⟩ : ∃ (r : Fin 512) (j : Fin 512), y = ix2 r j := ⟨y 0, y 1, ValueIdx.eq_ix2 y⟩
  refine (block9 _ _ _ _ _ _ _ _ r j).trans ((hcol_eq m c t r _).trans ?_)
  refine (rfl : _ = segArr m c 512 512 (by norm_num) (ix2 (row t r) j)).trans ?_
  blk_ext [row_val, idx9 t]

theorem array10 : (dats m 0 c).arrAt 10 cfg0.N = segArr m c 1536 512 (by norm_num) := by
  refine (dats m 0 c).arrAt_eq_of_covers 10 _ (by decide +kernel) fun t hf y => ?_
  blk_simp
  rw [after0_10]
  obtain ⟨r, j, rfl⟩ : ∃ (r : Fin 512) (j : Fin 512), y = ix2 r j := ⟨y 0, y 1, ValueIdx.eq_ix2 y⟩
  refine (block10 _ _ _ _ _ _ _ _ r j).trans ((hcol_eq m c t r _).trans ?_)
  refine (rfl : _ = segArr m c 1536 512 (by norm_num) (ix2 (row t r) j)).trans ?_
  blk_ext [row_val, idx10 t]

theorem array11 : (dats m 0 c).arrAt 11 cfg0.N = segArr m c 2048 512 (by norm_num) := by
  refine (dats m 0 c).arrAt_eq_of_covers 11 _ (by decide +kernel) fun t hf y => ?_
  blk_simp
  rw [after0_11]
  obtain ⟨r, j, rfl⟩ : ∃ (r : Fin 512) (j : Fin 512), y = ix2 r j := ⟨y 0, y 1, ValueIdx.eq_ix2 y⟩
  refine (block11 _ _ _ _ _ _ _ _ r j).trans ((hcol_eq m c t r _).trans ?_)
  refine (rfl : _ = segArr m c 2048 512 (by norm_num) (ix2 (row t r) j)).trans ?_
  blk_ext [row_val, idx11 t]

theorem array14 : (dats m 0 c).arrAt 14 cfg0.N = segArr m c 3328 3072 (by norm_num) := by
  refine (dats m 0 c).arrAt_eq_of_covers 14 _ (by decide +kernel) fun t hf y => ?_
  blk_simp
  rw [after0_14]
  obtain ⟨r, j, rfl⟩ : ∃ (r : Fin 512) (j : Fin 3072), y = ix2 r j := ⟨y 0, y 1, ValueIdx.eq_ix2 y⟩
  refine (block14 _ _ _ _ _ _ _ _ r j).trans ((hcol_eq m c t r _).trans ?_)
  refine (rfl : _ = segArr m c 3328 3072 (by norm_num) (ix2 (row t r) j)).trans ?_
  blk_ext [row_val, idx14 t]

theorem block12_eq (r : Fin 512) (j : Fin 512) :
    out0_12 (iblk m c 0 t) (iblk m c 1 t) (iblk m c 2 t) (iblk m c 3 t) (iblk m c 4 t) (iblk m c 5 t) (iblk m c 6 t) (iblk m c 7 t) (ix2 r j)
      = queriesArr m c (ix2 (row t r) j) := by
  rw [block12]
  simp only [hcol_eq, in4, in5, signed]
  refine Eq.trans ?_ (rot_signed (fun d => col (m ((c : Thread nD τ).loc main_arg0)) (m ((c : Thread nD τ).loc main_arg1)) (m ((c : Thread nD τ).loc main_arg2)) (m ((c : Thread nD τ).loc main_arg5)) (m ((c : Thread nD τ).loc main_arg6)) (bat (row t r)) (pos (row t r)) ⟨2560 + j.val / 64 * 64 + d.val, by omega⟩)
    (fun f => m ((c : Thread nD τ).loc main_arg3) (ix2 (pos (row t r)) f)) (fun f => m ((c : Thread nD τ).loc main_arg4) (ix2 (pos (row t r)) f))
    ⟨j.val % 64, by omega⟩)
  have e1 : ∀ h, (⟨j.val % 128 % 32, h⟩ : Fin 32) = ⟨j.val % 64 % 32, by omega⟩ := fun h => Fin.ext (by simp only []; omega)
  have e2 : j.val % 128 % 64 = j.val % 64 := by omega
  simp only [e1, e2]
  refine congrArg₂ (· + ·) (congrArg (· * _) (congrArg _ (Fin.ext ?_))) (congrArg (· * _) ?_)
  · simp only []
    omega
  · by_cases h : j.val % 64 < 32
    · rw [if_pos h, if_pos h]
      exact congrArg _ (Fin.ext (by simp only []; omega))
    · rw [if_neg h, if_neg h]
      exact congrArg _ (Fin.ext (by simp only []; omega))

theorem array12 : (dats m 0 c).arrAt 12 cfg0.N = queriesArr m c := by
  refine (dats m 0 c).arrAt_eq_of_covers 12 _ (by decide +kernel) fun t hf y => ?_
  blk_simp
  rw [after0_12]
  obtain ⟨r, j, rfl⟩ : ∃ (r : Fin 512) (j : Fin 512), y = ix2 r j := ⟨y 0, y 1, ValueIdx.eq_ix2 y⟩
  refine (block12_eq m c t r j).trans ?_
  blk_ext [row_val, idx12 t]

theorem block13_eq (r : Fin 512) (j : Fin 256) :
    out0_13 (iblk m c 0 t) (iblk m c 1 t) (iblk m c 2 t) (iblk m c 3 t) (iblk m c 4 t) (iblk m c 5 t) (iblk m c 6 t) (iblk m c 7 t) (ix2 r j)
      = keysArr m c (ix2 (row t r) j) := by
  rw [block13]
  simp only [kcol_eq, in4, in5, signed]
  refine Eq.trans ?_ (rot_signed (fun d => col (m ((c : Thread nD τ).loc main_arg0)) (m ((c : Thread nD τ).loc main_arg1)) (m ((c : Thread nD τ).loc main_arg2)) (m ((c : Thread nD τ).loc main_arg5)) (m ((c : Thread nD τ).loc main_arg6)) (bat (row t r)) (pos (row t r)) ⟨3072 + j.val / 128 * 64 + d.val, by omega⟩)
    (fun f => m ((c : Thread nD τ).loc main_arg3) (ix2 (pos (row t r)) f)) (fun f => m ((c : Thread nD τ).loc main_arg4) (ix2 (pos (row t r)) f))
    ⟨j.val % 64, by omega⟩)
  have e1 : ∀ h, (⟨j.val % 128 % 32, h⟩ : Fin 32) = ⟨j.val % 64 % 32, by omega⟩ := fun h => Fin.ext (by simp only []; omega)
  have e2 : j.val % 128 % 64 = j.val % 64 := by omega
  simp only [e1, e2]
  refine congrArg₂ (· + ·) (congrArg (· * _) (congrArg _ (Fin.ext ?_))) (congrArg (· * _) ?_)
  · simp only []
    omega
  · by_cases h : j.val % 64 < 32
    · rw [if_pos h, if_pos h]
      exact congrArg _ (Fin.ext (by simp only []; omega))
    · rw [if_neg h, if_neg h]
      exact congrArg _ (Fin.ext (by simp only []; omega))

theorem array13 : (dats m 0 c).arrAt 13 cfg0.N = keysArr m c := by
  refine (dats m 0 c).arrAt_eq_of_covers 13 _ (by decide +kernel) fun t hf y => ?_
  blk_simp
  rw [after0_13]
  obtain ⟨r, j, rfl⟩ : ∃ (r : Fin 512) (j : Fin 256), y = ix2 r j := ⟨y 0, y 1, ValueIdx.eq_ix2 y⟩
  refine (block13_eq m c t r j).trans ?_
  blk_ext [row_val, idx13 t]

/-- Block `q` of the blocks of 256 tokens which grid point `t` leaves. -/
def grp15 (t : Fin cfg0.N) (q : Fin 2) : Fin 128 := ⟨2 * t.val + q.val, by have := val_lt t; omega⟩

theorem grp15_val (q : Fin 2) : (grp15 t q).val = 2 * t.val + q.val := rfl

theorem block15_eq (q : Fin 2) (j : Fin 512) (s : Fin 256) :
    out0_15 (iblk m c 0 t) (iblk m c 1 t) (iblk m c 2 t) (iblk m c 3 t) (iblk m c 4 t) (iblk m c 5 t) (iblk m c 6 t) (iblk m c 7 t) (ix3 q j s)
      = valuesAArr m c (ix3 (grp15 t q) j s) := by
  have ht := val_lt t
  rw [block15, hcol_eq]
  have e : row t ⟨256 * q.val + s.val, by omega⟩ = ⟨256 * (grp15 t q).val + s.val, by rw [grp15_val]; omega⟩ :=
    Fin.ext (by rw [row_val]; simp only [grp15_val]; omega)
  rw [e]
  rfl

theorem array15 : (dats m 0 c).arrAt 15 cfg0.N = valuesAArr m c := by
  refine (dats m 0 c).arrAt_eq_of_covers 15 _ (by decide +kernel) fun t hf y => ?_
  blk_simp
  rw [after0_15]
  obtain ⟨q, j, s, rfl⟩ : ∃ (q : Fin 2) (j : Fin 512) (s : Fin 256), y = ix3 q j s := ⟨y 0, y 1, y 2, ValueIdx.eq_ix3 y⟩
  refine (block15_eq m c t q j s).trans ?_
  blk_ext [grp15_val, idx15 t]

/-- Block `q` of the blocks of 128 tokens which grid point `t` leaves. -/
def grp16 (t : Fin cfg0.N) (q : Fin 4) : Fin 256 := ⟨4 * t.val + q.val, by have := val_lt t; omega⟩

theorem grp16_val (q : Fin 4) : (grp16 t q).val = 4 * t.val + q.val := rfl

theorem block16_eq (q : Fin 4) (j : Fin 128) (s : Fin 128) :
    out0_16 (iblk m c 0 t) (iblk m c 1 t) (iblk m c 2 t) (iblk m c 3 t) (iblk m c 4 t) (iblk m c 5 t) (iblk m c 6 t) (iblk m c 7 t) (ix3 q j s)
      = valuesCArr m c (ix3 (grp16 t q) j s) := by
  have ht := val_lt t
  rw [block16, hcol_eq]
  have e : row t ⟨128 * q.val + s.val, by omega⟩ = ⟨128 * (grp16 t q).val + s.val, by rw [grp16_val]; omega⟩ :=
    Fin.ext (by rw [row_val]; simp only [grp16_val]; omega)
  rw [e]
  rfl

theorem array16 : (dats m 0 c).arrAt 16 cfg0.N = valuesCArr m c := by
  refine (dats m 0 c).arrAt_eq_of_covers 16 _ (by decide +kernel) fun t hf y => ?_
  blk_simp
  rw [after0_16]
  obtain ⟨q, j, s, rfl⟩ : ∃ (q : Fin 4) (j : Fin 128) (s : Fin 128), y = ix3 q j s := ⟨y 0, y 1, y 2, ValueIdx.eq_ix3 y⟩
  refine (block16_eq m c t q j s).trans ?_
  blk_ext [grp16_val, idx16 t]

end Cert.Proj

end
-- ==== Proof.ProjRef.lean ====
module

public import Idealize.ShloMosaic.Lib.Pipeline.ValueKit
public import proofs.«01_k».proof.Proof.Gen.Reference4Ideal.Read
public import proofs.«01_k».proof.Proof.ProjModel

@[expose] public section

set_option maxRecDepth 16384

noncomputable section

/-! The reference's nine results, stage by stage, at an index. -/

namespace Cert.Proj

open Idealize.ShloMosaic Cert.Merge Cert.Reference4Ideal Cert.Reference4Ideal.Read
open scoped BigOperators

variable (x0 : (⟨S4x8192x1024, .f32⟩ : BufTy).Contents (Elt Ideal)) (x1 x2 : (⟨S4x1x1024, .f32⟩ : BufTy).Contents (Elt Ideal))
  (x3 x4 : (⟨S8192x32, .f32⟩ : BufTy).Contents (Elt Ideal)) (x5 : (⟨S4x1024, .f32⟩ : BufTy).Contents (Elt Ideal))
  (x6 : (⟨S4x1024x6400, .f32⟩ : BufTy).Contents (Elt Ideal))

theorem ref_normed (b : Fin 4) (t : Fin 8192) (j : Fin 1024) : val_main_v20 (F := Ideal) x0 x1 x2 x5 (ix3 b t j) = normed x0 x1 x2 x5 b t j := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem ref_col (b : Fin 4) (t : Fin 8192) (j : Fin 6400) : val_main_v23 (F := Ideal) x0 x1 x2 x5 x6 (ix3 b t j) = col x0 x1 x2 x5 x6 b t j := by
  pointwise [val_main_v23, val_main_v22, val_main_v21, ref_normed]
  rfl

theorem ref72 : val_main_v72 (F := Ideal) x0 x1 x2 x5 x6 = seg x0 x1 x2 x5 x6 0 512 (by norm_num) := by
  funext y
  obtain ⟨i, j, rfl⟩ : ∃ (i : Fin 32768) (j : Fin 512), y = ix2 i j := ⟨y 0, y 1, ValueIdx.eq_ix2 y⟩
  pointwise [val_main_v72, val_main_v71, val_main_v24, ref_col]
  exact congrArg (col x0 x1 x2 x5 x6 _ _) (Fin.ext (Nat.zero_add _).symm)

theorem ref74 : val_main_v74 (F := Ideal) x0 x1 x2 x5 x6 = seg x0 x1 x2 x5 x6 512 512 (by norm_num) := by
  funext y
  obtain ⟨i, j, rfl⟩ : ∃ (i : Fin 32768) (j : Fin 512), y = ix2 i j := ⟨y 0, y 1, ValueIdx.eq_ix2 y⟩
  pointwise [val_main_v74, val_main_v73, val_main_v25, ref_col]
  rfl

theorem ref75 : val_main_v75 (F := Ideal) x0 x1 x2 x5 x6 = seg x0 x1 x2 x5 x6 1536 512 (by norm_num) := by
  funext y
  obtain ⟨i, j, rfl⟩ : ∃ (i : Fin 32768) (j : Fin 512), y = ix2 i j := ⟨y 0, y 1, ValueIdx.eq_ix2 y⟩
  pointwise [val_main_v75, val_main_v27, ref_col]
  rfl

theorem ref76 : val_main_v76 (F := Ideal) x0 x1 x2 x5 x6 = seg x0 x1 x2 x5 x6 2048 512 (by norm_num) := by
  funext y
  obtain ⟨i, j, rfl⟩ : ∃ (i : Fin 32768) (j : Fin 512), y = ix2 i j := ⟨y 0, y 1, ValueIdx.eq_ix2 y⟩
  pointwise [val_main_v76, val_main_v28, ref_col]
  rfl

theorem ref81 : val_main_v81 (F := Ideal) x0 x1 x2 x5 x6 = seg x0 x1 x2 x5 x6 3328 3072 (by norm_num) := by
  funext y
  obtain ⟨i, j, rfl⟩ : ∃ (i : Fin 32768) (j : Fin 3072), y = ix2 i j := ⟨y 0, y 1, ValueIdx.eq_ix2 y⟩
  pointwise [val_main_v81, val_main_v32, ref_col]
  rfl

theorem ref_query (b : Fin 4) (t : Fin 8192) (h : Fin 8) (d : Fin 64) : val_main_v48 (F := Ideal) x0 x1 x2 x3 x4 x5 x6 (ix4 b t h d)
    = rot (fun e => col x0 x1 x2 x5 x6 b t ⟨2560 + (h.val * 64 + e.val), by omega⟩) (fun f => x3 (ix2 t f)) (fun f => x4 (ix2 t f)) d := by
  pointwise [val_main_v48, val_main_v47, val_main_v46, val_main_v45, val_main_v44, val_main_v43, val_main_v42, val_main_v41, val_main_v40, val_main_v39, val_main_v38, val_main_v37, val_main_v36, val_main_v35, val_main_v34, val_main_v33, val_main_v29, ref_col]
  unfold rot
  by_cases hd : d.val < 32
  · rw [dif_pos hd, dif_pos hd]
    refine congrArg₂ (· - ·) rfl (congrArg (· * _) (congrArg (col x0 x1 x2 x5 x6 b t) (Fin.ext ?_)))
    simp only []
    omega
  · rw [dif_neg hd, dif_neg hd]
    refine congrArg₂ (· + ·) (congrArg (· * _) (congrArg (col x0 x1 x2 x5 x6 b t) (Fin.ext ?_))) rfl
    simp only []
    omega

theorem ref_key (b : Fin 4) (t : Fin 8192) (h : Fin 2) (d : Fin 64) : val_main_v64 (F := Ideal) x0 x1 x2 x3 x4 x5 x6 (ix4 b t h d)
    = rot (fun e => col x0 x1 x2 x5 x6 b t ⟨3072 + (h.val * 64 + e.val), by omega⟩) (fun f => x3 (ix2 t f)) (fun f => x4 (ix2 t f)) d := by
  pointwise [val_main_v64, val_main_v63, val_main_v62, val_main_v61, val_main_v60, val_main_v59, val_main_v58, val_main_v57, val_main_v56, val_main_v55, val_main_v54, val_main_v53, val_main_v52, val_main_v51, val_main_v50, val_main_v49, val_main_v30, ref_col]
  unfold rot
  by_cases hd : d.val < 32
  · rw [dif_pos hd, dif_pos hd]
    refine congrArg₂ (· - ·) rfl (congrArg (· * _) (congrArg (col x0 x1 x2 x5 x6 b t) (Fin.ext ?_)))
    simp only []
    omega
  · rw [dif_neg hd, dif_neg hd]
    refine congrArg₂ (· + ·) (congrArg (· * _) (congrArg (col x0 x1 x2 x5 x6 b t) (Fin.ext ?_))) rfl
    simp only []
    omega

theorem ref78 : val_main_v78 (F := Ideal) x0 x1 x2 x3 x4 x5 x6 = queries x0 x1 x2 x3 x4 x5 x6 := by
  funext y
  obtain ⟨i, j, rfl⟩ : ∃ (i : Fin 32768) (j : Fin 512), y = ix2 i j := ⟨y 0, y 1, ValueIdx.eq_ix2 y⟩
  pointwise [val_main_v78, val_main_v77, ref_query]
  have e : ∀ (e : Fin 64) (h : _) (h' : _), (⟨2560 + (j.val / 64 * 64 + e.val), h⟩ : Fin 6400) = ⟨2560 + j.val / 64 * 64 + e.val, h'⟩ :=
    fun e h h' => Fin.ext (Nat.add_assoc _ _ _).symm
  exact congrArg (fun z => rot z _ _ _) (funext fun d => congrArg (col x0 x1 x2 x5 x6 _ _) (e d _ (by omega)))

theorem ref80 : val_main_v80 (F := Ideal) x0 x1 x2 x3 x4 x5 x6 = keys x0 x1 x2 x3 x4 x5 x6 := by
  funext y
  obtain ⟨i, j, rfl⟩ : ∃ (i : Fin 32768) (j : Fin 256), y = ix2 i j := ⟨y 0, y 1, ValueIdx.eq_ix2 y⟩
  pointwise [val_main_v80, val_main_v79, val_main_v66, val_main_v65, ref_key]
  have e : ∀ (e : Fin 64) (h : _) (h' : _), (⟨3072 + (j.val / 128 * 64 + e.val), h⟩ : Fin 6400) = ⟨3072 + j.val / 128 * 64 + e.val, h'⟩ :=
    fun e h h' => Fin.ext (Nat.add_assoc _ _ _).symm
  exact congrArg (fun z => rot z _ _ _) (funext fun d => congrArg (col x0 x1 x2 x5 x6 _ _) (e d _ (by omega)))

theorem ref82 : val_main_v82 (F := Ideal) x0 x1 x2 x5 x6 = valuesA x0 x1 x2 x5 x6 := by
  funext y
  obtain ⟨q, j, s, rfl⟩ : ∃ (q : Fin 128) (j : Fin 512) (s : Fin 256), y = ix3 q j s := ⟨y 0, y 1, y 2, ValueIdx.eq_ix3 y⟩
  pointwise [val_main_v82, val_main_v68, val_main_v67, val_main_v26, ref_col]
  refine congrArg₂ (fun u v => col x0 x1 x2 x5 x6 u v _) (Fin.ext ?_) (Fin.ext ?_)
  · show q.val / 32 = (256 * q.val + s.val) / 8192
    omega
  · show q.val % 32 * 256 + s.val = (256 * q.val + s.val) % 8192
    omega

theorem ref83 : val_main_v83 (F := Ideal) x0 x1 x2 x5 x6 = valuesC x0 x1 x2 x5 x6 := by
  funext y
  obtain ⟨q, j, s, rfl⟩ : ∃ (q : Fin 256) (j : Fin 128) (s : Fin 128), y = ix3 q j s := ⟨y 0, y 1, y 2, ValueIdx.eq_ix3 y⟩
  pointwise [val_main_v83, val_main_v70, val_main_v69, val_main_v31, ref_col]
  refine congrArg₂ (fun u v => col x0 x1 x2 x5 x6 u v _) (Fin.ext ?_) (Fin.ext ?_)
  · show q.val / 64 = (128 * q.val + s.val) / 8192
    omega
  · show q.val % 64 * 128 + s.val = (128 * q.val + s.val) % 8192
    omega

end Cert.Proj

end
-- ==== Proof.ProjClaim.lean ====
module

public import proofs.«01_k».proof.Defs
public import proofs.«01_k».proof.Proof.Gen.Kernel4.Frame
public import proofs.«01_k».proof.Proof.ProjKernel
public import proofs.«01_k».proof.Proof.ProjRef

@[expose] public section

set_option maxHeartbeats 1000000

noncomputable section

/-! The claims about the layer's input projection: its own program, the program with the ideal arithmetic, and the reference. -/

namespace Cert.Proj

open Idealize.ShloMosaic Idealize.SL.Sem

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) := fun m ρ _ => Cert.Kernel4Ideal.Gen.frame m ρ

theorem frame_reference : Cert.quiescent_Reference4Ideal (hReference4Ideal := Cert.Reference4Ideal.Gen.facts) := fun m ρ _ =>
  (θ_run Cert.Reference4Ideal.defs _ _).mono (fun r h => ⟨fun c => (h c).2.2.2.2.2.2.2.2.2, sem_eq_zero_of_no_sems (by decide) r.2⟩)
    (Cert.Reference4Ideal.Value.run (F := Ideal) m ρ)

theorem algebraic : Cert.algebraic_Kernel4Ideal_Reference4Ideal (hKernel4Ideal := Cert.Kernel4Ideal.Gen.facts) (hReference4Ideal := Cert.Reference4Ideal.Gen.facts) := by
  intro m ρ m' ρ' _ hagree
  refine ⟨fun c => segArr m c 0 512 (by norm_num), fun c => segArr m c 512 512 (by norm_num), fun c => segArr m c 1536 512 (by norm_num), fun c => segArr m c 2048 512 (by norm_num), fun c => queriesArr m c, fun c => keysArr m c, fun c => segArr m c 3328 3072 (by norm_num), fun c => valuesAArr m c, fun c => valuesCArr m c, ?_, ?_⟩
  · refine (θ_run Cert.Kernel4Ideal.defs _ _).mono (fun _ h c => ?_) (Cert.Kernel4Ideal.Value.run_blocks (F := Ideal) m ρ)
    obtain ⟨r0, r1, r2, r3, r4, r5, r6, r7, r8, hr⟩ := h c
    exact ⟨r0.trans (array8 m c), r1.trans (array9 m c), r2.trans (array10 m c), r3.trans (array11 m c), r4.trans (array12 m c), r5.trans (array13 m c), r6.trans (array14 m c), r7.trans (array15 m c), r8.trans (array16 m c), hr⟩
  · refine (θ_run Cert.Reference4Ideal.defs _ _).mono (fun _ h c => ?_) (Cert.Reference4Ideal.Value.run (F := Ideal) m' ρ')
    obtain ⟨r0, r1, r2, r3, r4, r5, r6, r7, r8, hr⟩ := h c
    obtain ⟨h0, h1, h2, h3, h4, h5, h6⟩ := hagree c
    refine ⟨r0.trans ?_, r1.trans ?_, r2.trans ?_, r3.trans ?_, r4.trans ?_, r5.trans ?_, r6.trans ?_, r7.trans ?_, r8.trans ?_, hr⟩
    · refine (Cert.Reference4Ideal.Read.val_main_v72_eq (F := Ideal) _ _ _ _ _).trans ((ref72 _ _ _ _ _).trans ?_)
      unfold segArr
      rw [h0, h1, h2, h5, h6]
    · refine (Cert.Reference4Ideal.Read.val_main_v74_eq (F := Ideal) _ _ _ _ _).trans ((ref74 _ _ _ _ _).trans ?_)
      unfold segArr
      rw [h0, h1, h2, h5, h6]
    · refine (Cert.Reference4Ideal.Read.val_main_v75_eq (F := Ideal) _ _ _ _ _).trans ((ref75 _ _ _ _ _).trans ?_)
      unfold segArr
      rw [h0, h1, h2, h5, h6]
    · refine (Cert.Reference4Ideal.Read.val_main_v76_eq (F := Ideal) _ _ _ _ _).trans ((ref76 _ _ _ _ _).trans ?_)
      unfold segArr
      rw [h0, h1, h2, h5, h6]
    · refine (Cert.Reference4Ideal.Read.val_main_v78_eq (F := Ideal) m' c).trans ((ref78 _ _ _ _ _ _ _).trans ?_)
      unfold queriesArr
      rw [h0, h1, h2, h3, h4, h5, h6]
    · refine (Cert.Reference4Ideal.Read.val_main_v80_eq (F := Ideal) m' c).trans ((ref80 _ _ _ _ _ _ _).trans ?_)
      unfold keysArr
      rw [h0, h1, h2, h3, h4, h5, h6]
    · refine (Cert.Reference4Ideal.Read.val_main_v81_eq (F := Ideal) _ _ _ _ _).trans ((ref81 _ _ _ _ _).trans ?_)
      unfold segArr
      rw [h0, h1, h2, h5, h6]
    · refine (Cert.Reference4Ideal.Read.val_main_v82_eq (F := Ideal) _ _ _ _ _).trans ((ref82 _ _ _ _ _).trans ?_)
      unfold valuesAArr
      rw [h0, h1, h2, h5, h6]
    · refine (Cert.Reference4Ideal.Read.val_main_v83_eq (F := Ideal) _ _ _ _ _).trans ((ref83 _ _ _ _ _).trans ?_)
      unfold valuesCArr
      rw [h0, h1, h2, h5, h6]

theorem preserves : Cert.preserves_Kernel4_Kernel4Ideal := trivial

end Cert.Proj

end
-- ==== Proof.SwaPay.lean ====
module

public import proofs.«01_k».proof.Proof.Gen.KernelIdeal.Value
public import Idealize.ShloMosaic.Lib.Pipeline.ValueKit

@[expose] public section

set_option maxRecDepth 16384

noncomputable section

/-! One tile of the windowed attention's grid point as a term over what it loads, and the sixty-four stores of a grid
    point as one family of tiles. -/

namespace Cert.Swa

open Cert.KernelIdeal Cert.KernelIdeal.Gen Idealize.ShloMosaic Idealize.ShloMosaic.TcCoe Idealize.SL.Sem

/-- The lanes of the even head of a pair, kept. -/
def even (q : FVec Ideal S128x128 .bf16) : FVec Ideal S128x128 .bf16 :=
  select (broadcastTo S128x128 (shapeCast S1x128 k0_pay6 shapeCasts_S1x128_S1x128) broadcasts_S1x128_S128x128) q
    (broadcast S128x128 (Scalar.ofBits (F := Ideal) .bf16 0x0000#16))

/-- The lanes of the odd head of a pair, kept. -/
def odd (q : FVec Ideal S128x128 .bf16) : FVec Ideal S128x128 .bf16 :=
  select (broadcastTo S128x128 (shapeCast S1x128 (xori k0_pay6 (constantI S1x128 1 1#1)) shapeCasts_S1x128_S1x128) broadcasts_S1x128_S128x128) q
    (broadcast S128x128 (Scalar.ofBits (F := Ideal) .bf16 0x0000#16))

/-- The scores of a block's four query heads (two pairs) against the window's keys and the context's. -/
def scores (qa qb : FVec Ideal S128x128 .bf16) (kw : FVec Ideal S384x128 .bf16) (kc : FVec Ideal S256x128 .bf16) : FVec Ideal S640x512 .f32 :=
  matmul dot_S640x128_S512x128_S640x512_1_1_0_0_n_n none
    (concatenate S640x128 0 [⟨S384x128, kw⟩, ⟨S256x128, kc⟩] concatenates_S384x128_S256x128_S640x128_d0)
    (concatenate S512x128 0 [⟨S128x128, even qa⟩, ⟨S128x128, odd qa⟩, ⟨S128x128, even qb⟩, ⟨S128x128, odd qb⟩] concatenates_S128x128_S128x128_S128x128_S128x128_S512x128_d0)
    (constant S640x512 .f32 0x00000000#32)

/-- The window's mask: the named infinity where the band array is positive, zero elsewhere, once per head. -/
def bias (band : FVec Ideal S384x128 .f32) : FVec Ideal S384x512 .f32 :=
  let b : FVec Ideal S384x128 .f32 := select (cmpf .ogt band (broadcast S384x128 (Scalar.ofBits (F := Ideal) .f32 0x00000000#32)))
    (broadcast S384x128 (Named.named (F := Ideal) κ "mask" 0xF149F2CA#32)) (broadcast S384x128 (Scalar.ofBits (F := Ideal) .f32 0x00000000#32))
  concatenate S384x512 1 [⟨S384x128, b⟩, ⟨S384x128, b⟩, ⟨S384x128, b⟩, ⟨S384x128, b⟩] concatenates_S384x128_S384x128_S384x128_S384x128_S384x512_d1

/-- The logits of the window. -/
def logitsW (s : FVec Ideal S640x512 .f32) (band : FVec Ideal S384x128 .f32) : FVec Ideal S384x512 .f32 :=
  addf (extractStridedSlice S384x512 ![0, 0] s slices_S640x512_o0_0_S384x512) (bias band)

/-- The logits of the context. -/
def logitsC (s : FVec Ideal S640x512 .f32) : FVec Ideal S256x512 .f32 :=
  extractStridedSlice S256x512 ![384, 0] s slices_S640x512_o384_0_S256x512

/-- The largest logit of each column, the sink among them. -/
def colMax (lw : FVec Ideal S384x512 .f32) (lc : FVec Ideal S256x512 .f32) (sk : FVec Ideal S1x512 .f32) : FVec Ideal S1x512 .f32 :=
  maximumf (maximumf sk (shapeCast S1x512 (multiReduction (F := Ideal) .maximumf [0] S512 lw 0xFF800000#32 reduces_S384x512_S512 (.inl rfl) rfl) shapeCasts_S512_S1x512))
    (shapeCast S1x512 (multiReduction (F := Ideal) .maximumf [0] S512 lc 0xFF800000#32 reduces_S256x512_S512 (.inl rfl) rfl) shapeCasts_S512_S1x512)

/-- The window's weights before the division. -/
def expW (lw : FVec Ideal S384x512 .f32) (mx : FVec Ideal S1x512 .f32) : FVec Ideal S384x512 .bf16 :=
  truncf .bf16 (exp2 (subf lw (broadcastTo S384x512 mx broadcasts_S1x512_S384x512))) bitsLt_bf16_f32

/-- The context's weights before the division. -/
def expC (lc : FVec Ideal S256x512 .f32) (mx : FVec Ideal S1x512 .f32) : FVec Ideal S256x512 .bf16 :=
  truncf .bf16 (exp2 (subf lc (broadcastTo S256x512 mx broadcasts_S1x512_S256x512))) bitsLt_bf16_f32

/-- A block of values above sixteen rows of ones. -/
def withOnes (v : FVec Ideal S64x128 .bf16) : FVec Ideal S80x128 .bf16 :=
  concatenate S80x128 0 [⟨S64x128, v⟩, ⟨S16x128, broadcast S16x128 (Scalar.ofBits (F := Ideal) .bf16 0x3F80#16)⟩] concatenates_S64x128_S16x128_S80x128_d0

/-- A block of values, with the ones, times its rows of the weights. -/
def part (v : FVec Ideal S64x128 .bf16) (p : FVec Ideal S128x512 .bf16) : FVec Ideal S80x512 .f32 :=
  matmul dot_S80x128_S128x512_S80x512_1_0_0_1_n_n none (withOnes v) p (constant S80x512 .f32 0x00000000#32)

/-- The five blocks of values weighted and added. -/
def acc (pw : FVec Ideal S384x512 .bf16) (pc : FVec Ideal S256x512 .bf16) (v0 v1 v2 c0 c1 : FVec Ideal S64x128 .bf16) : FVec Ideal S80x512 .f32 :=
  addf (addf (addf (addf (part v0 (extractStridedSlice S128x512 ![0, 0] pw slices_S384x512_o0_0_S128x512))
    (part v1 (extractStridedSlice S128x512 ![128, 0] pw slices_S384x512_o128_0_S128x512)))
    (part v2 (extractStridedSlice S128x512 ![256, 0] pw slices_S384x512_o256_0_S128x512)))
    (part c0 (extractStridedSlice S128x512 ![0, 0] pc slices_S256x512_o0_0_S128x512)))
    (part c1 (extractStridedSlice S128x512 ![128, 0] pc slices_S256x512_o128_0_S128x512))

/-- The rows of the values over the row of the ones and the sink. -/
def normalized (a : FVec Ideal S80x512 .f32) (sk mx : FVec Ideal S1x512 .f32) : FVec Ideal S64x512 .f32 :=
  mulf (extractStridedSlice S64x512 ![0, 0] a slices_S80x512_o0_0_S64x512)
    (broadcastTo S64x512 (divf (broadcast S1x512 (Scalar.ofBits (F := Ideal) .f32 0x3F800000#32))
      (addf (extractStridedSlice S1x512 ![64, 0] a slices_S80x512_o64_0_S1x512) (exp2 (subf sk mx)))) broadcasts_S1x512_S64x512)

/-- The four heads of a group over one block of queries. -/
def tile (s : FVec Ideal S640x512 .f32) (band : FVec Ideal S384x128 .f32) (v0 v1 v2 c0 c1 : FVec Ideal S64x128 .bf16)
    (sk : FVec Ideal S1x512 .f32) : FVec Ideal S64x512 .f32 :=
  let mx := colMax (logitsW s band) (logitsC s) sk
  normalized (acc (expW (logitsW s band) mx) (expC (logitsC s) mx) v0 v1 v2 c0 c1) sk mx

variable (i : grid0.Coords) (x0 : Vec Ideal S1024x512 .bf16) (x1 : Vec Ideal S8192x256 .bf16) (x2 : Vec Ideal S64x128x128 .bf16)
  (x3 : Vec Ideal S256x256 .bf16) (x4 : Vec Ideal S2x128x128 .bf16) (x5 : Vec Ideal S3x384x128 .f32) (x6 : Vec Ideal S2x8x512 .f32)

/-- The scaled queries of block `u`. -/
def qBlock (u : Fin 8) : FVec Ideal S128x512 .bf16 :=
  extractStridedSlice S128x512 ![128 * u.val, 0]
    (k0_pay7 (View.ld x0 (Rect.unit (s := S1024x512) ![0, 0] S1024x512.size inb_S1024x512_S1024x512_0_0)))
    (by revert u; decide)

/-- The window of keys of block `u`. -/
def kWin (u : Fin 8) : FVec Ideal S384x256 .bf16 :=
  k0_pay9 (View.ld x1 (Rect.unit (s := S8192x256) (k0_off1 i (BitVec.ofNat 32 u.val)) S384x256.size (k0_off1_inb i u)))

/-- The band array of block `u`. -/
def bandOf (u : Fin 8) : FVec Ideal S384x128 .f32 :=
  shapeCast S384x128 (View.ld x5 (Rect.unit (s := S3x384x128) (k0_off2 i (BitVec.ofNat 32 u.val)) S1x384x128.size (k0_off2_inb i u)))
    shapeCasts_S1x384x128_S384x128

/-- Group 0 of block `u`. -/
def tile0 (u : Fin 8) : FVec Ideal S64x512 .f32 :=
  tile (scores (extractStridedSlice S128x128 ![0, 0] (qBlock x0 u) slices_S128x512_o0_0_S128x128)
      (extractStridedSlice S128x128 ![0, 128] (qBlock x0 u) slices_S128x512_o0_128_S128x128)
      (extractStridedSlice S384x128 ![0, 0] (kWin i x1 u) slices_S384x256_o0_0_S384x128)
      (shapeCast S256x128 (View.ld x3 (Rect.unit (s := S256x256) ![0, 0] S256x128.size inb_S256x256_S256x128_0_0)) shapeCasts_S256x128_S256x128))
    (bandOf i x5 u)
    (shapeCast S64x128 (View.ld x2 (Rect.unit (s := S64x128x128) (k0_off3 i (BitVec.ofNat 32 u.val) 0#32) S1x64x128.size (k0_off3_inb i u 0))) shapeCasts_S1x64x128_S64x128)
    (shapeCast S64x128 (View.ld x2 (Rect.unit (s := S64x128x128) (k0_off3 i (BitVec.ofNat 32 u.val) 1#32) S1x64x128.size (k0_off3_inb i u 1))) shapeCasts_S1x64x128_S64x128)
    (shapeCast S64x128 (View.ld x2 (Rect.unit (s := S64x128x128) (k0_off3 i (BitVec.ofNat 32 u.val) 2#32) S1x64x128.size (k0_off3_inb i u 2))) shapeCasts_S1x64x128_S64x128)
    (shapeCast S64x128 (View.ld x4 (Rect.unit (s := S2x128x128) ![0, 0, 0] S1x64x128.size inb_S2x128x128_S1x64x128_0_0_0)) shapeCasts_S1x64x128_S64x128)
    (shapeCast S64x128 (View.ld x4 (Rect.unit (s := S2x128x128) ![1, 0, 0] S1x64x128.size inb_S2x128x128_S1x64x128_1_0_0)) shapeCasts_S1x64x128_S64x128)
    (extractStridedSlice S1x512 ![0, 0] (shapeCast S8x512 (extractStridedSlice S1x8x512 ![0, 0, 0]
      (k0_pay8 (View.ld x6 (Rect.unit (s := S2x8x512) ![0, 0, 0] S2x8x512.size inb_S2x8x512_S2x8x512_0_0_0)))
      slices_S2x8x512_o0_0_0_S1x8x512) shapeCasts_S1x8x512_S8x512) slices_S8x512_o0_0_S1x512)

/-- Group 1 of block `u`. -/
def tile1 (u : Fin 8) : FVec Ideal S64x512 .f32 :=
  tile (scores (extractStridedSlice S128x128 ![0, 256] (qBlock x0 u) slices_S128x512_o0_256_S128x128)
      (extractStridedSlice S128x128 ![0, 384] (qBlock x0 u) slices_S128x512_o0_384_S128x128)
      (extractStridedSlice S384x128 ![0, 128] (kWin i x1 u) slices_S384x256_o0_128_S384x128)
      (shapeCast S256x128 (View.ld x3 (Rect.unit (s := S256x256) ![0, 128] S256x128.size inb_S256x256_S256x128_0_128)) shapeCasts_S256x128_S256x128))
    (bandOf i x5 u)
    (shapeCast S64x128 (View.ld x2 (Rect.unit (s := S64x128x128) (k0_off4 i (BitVec.ofNat 32 u.val) 0#32) S1x64x128.size (k0_off4_inb i u 0))) shapeCasts_S1x64x128_S64x128)
    (shapeCast S64x128 (View.ld x2 (Rect.unit (s := S64x128x128) (k0_off4 i (BitVec.ofNat 32 u.val) 1#32) S1x64x128.size (k0_off4_inb i u 1))) shapeCasts_S1x64x128_S64x128)
    (shapeCast S64x128 (View.ld x2 (Rect.unit (s := S64x128x128) (k0_off4 i (BitVec.ofNat 32 u.val) 2#32) S1x64x128.size (k0_off4_inb i u 2))) shapeCasts_S1x64x128_S64x128)
    (shapeCast S64x128 (View.ld x4 (Rect.unit (s := S2x128x128) ![0, 64, 0] S1x64x128.size inb_S2x128x128_S1x64x128_0_64_0)) shapeCasts_S1x64x128_S64x128)
    (shapeCast S64x128 (View.ld x4 (Rect.unit (s := S2x128x128) ![1, 64, 0] S1x64x128.size inb_S2x128x128_S1x64x128_1_64_0)) shapeCasts_S1x64x128_S64x128)
    (extractStridedSlice S1x512 ![0, 0] (shapeCast S8x512 (extractStridedSlice S1x8x512 ![1, 0, 0]
      (k0_pay8 (View.ld x6 (Rect.unit (s := S2x8x512) ![0, 0, 0] S2x8x512.size inb_S2x8x512_S2x8x512_0_0_0)))
      slices_S2x8x512_o1_0_0_S1x8x512) shapeCasts_S1x8x512_S8x512) slices_S8x512_o0_0_S1x512)

/-- Head `r` of a tile, as it is stored. -/
def headOf (T : FVec Ideal S64x512 .f32) (r : Fin 4) : FVec Ideal S64x128 .bf16 :=
  truncf .bf16 (extractStridedSlice S64x128 ![0, 128 * r.val] T (by revert r; decide)) bitsLt_bf16_f32

/-- What the store of head `7 - k` of block `u` writes. -/
def storeVal (u k : Fin 8) : FVec Ideal S64x128 .bf16 :=
  match k with
  | 0 => headOf (tile1 i x0 x1 x2 x3 x4 x5 x6 u) 3
  | 1 => headOf (tile1 i x0 x1 x2 x3 x4 x5 x6 u) 2
  | 2 => headOf (tile1 i x0 x1 x2 x3 x4 x5 x6 u) 1
  | 3 => headOf (tile1 i x0 x1 x2 x3 x4 x5 x6 u) 0
  | 4 => headOf (tile0 i x0 x1 x2 x3 x4 x5 x6 u) 3
  | 5 => headOf (tile0 i x0 x1 x2 x3 x4 x5 x6 u) 2
  | 6 => headOf (tile0 i x0 x1 x2 x3 x4 x5 x6 u) 1
  | 7 => headOf (tile0 i x0 x1 x2 x3 x4 x5 x6 u) 0

/-- Where the store of head `7 - k` of block `u` writes. -/
def storeRect (u k : Fin 8) : Rect S512x1024 :=
  Rect.unit (s := S512x1024) ![64 * (7 - k.val), 128 * u.val] S64x128.size (by revert u k; decide)

/-- The eight stores of block `u`, last first. -/
def stores (u : Fin 8) : List (View.Piece (Elt Ideal) S512x1024 .bf16) :=
  List.ofFn fun k : Fin 8 => ⟨storeRect u k, storeVal i x0 x1 x2 x3 x4 x5 x6 u k⟩

/-- The stores of a grid point. -/
theorem pieces_eq (c : Dev nD) (arg2 : Memref sig .tc .vmem S1024x512 .bf16) (harg2 : arg2.IsWhole) (arg3 : Memref sig .tc .vmem S8192x256 .bf16) (harg3 : arg3.IsWhole) (arg4 : Memref sig .tc .vmem S64x128x128 .bf16) (harg4 : arg4.IsWhole) (arg5 : Memref sig .tc .vmem S256x256 .bf16) (harg5 : arg5.IsWhole) (arg6 : Memref sig .tc .vmem S2x128x128 .bf16) (harg6 : arg6.IsWhole) (arg7 : Memref sig .tc .vmem S3x384x128 .f32) (harg7 : arg7.IsWhole) (arg8 : Memref sig .tc .vmem S2x8x512 .f32) (harg8 : arg8.IsWhole) (arg9 : Memref sig .tc .vmem S512x1024 .bf16) (harg9 : arg9.IsWhole) :
    (kernelRun0_A c i arg2 harg2 arg3 harg3 arg4 harg4 arg5 harg5 arg6 harg6 arg7 harg7 arg8 harg8 arg9 harg9 x0 x1 x2 x3 x4 x5 x6).1
      = (stores i x0 x1 x2 x3 x4 x5 x6 7 ++ stores i x0 x1 x2 x3 x4 x5 x6 6 ++ stores i x0 x1 x2 x3 x4 x5 x6 5 ++ stores i x0 x1 x2 x3 x4 x5 x6 4)
        ++ (stores i x0 x1 x2 x3 x4 x5 x6 3 ++ stores i x0 x1 x2 x3 x4 x5 x6 2 ++ stores i x0 x1 x2 x3 x4 x5 x6 1 ++ stores i x0 x1 x2 x3 x4 x5 x6 0) := by
  have h : (kernelRun0_A c i arg2 harg2 arg3 harg3 arg4 harg4 arg5 harg5 arg6 harg6 arg7 harg7 arg8 harg8 arg9 harg9 x0 x1 x2 x3 x4 x5 x6).1
      = (fun x0 x1 x2 x3 x4 x5 x6 => (stores i x0 x1 x2 x3 x4 x5 x6 7 ++ stores i x0 x1 x2 x3 x4 x5 x6 6 ++ stores i x0 x1 x2 x3 x4 x5 x6 5 ++ stores i x0 x1 x2 x3 x4 x5 x6 4)
        ++ (stores i x0 x1 x2 x3 x4 x5 x6 3 ++ stores i x0 x1 x2 x3 x4 x5 x6 2 ++ stores i x0 x1 x2 x3 x4 x5 x6 1 ++ stores i x0 x1 x2 x3 x4 x5 x6 0))
        (arg2.view.read (Elt Ideal) (harg2.unread x0)) (arg3.view.read (Elt Ideal) (harg3.unread x1)) (arg4.view.read (Elt Ideal) (harg4.unread x2))
        (arg5.view.read (Elt Ideal) (harg5.unread x3)) (arg6.view.read (Elt Ideal) (harg6.unread x4)) (arg7.view.read (Elt Ideal) (harg7.unread x5))
        (arg8.view.read (Elt Ideal) (harg8.unread x6)) := by
    sl_kernel_rfl
  rw [h]
  simp only [Memref.IsWhole.read_unread]

end Cert.Swa
-- ==== Proof.SwaMath.lean ====
module

public import Idealize.ShloMosaic.Lib.Pipeline.ValueKit

@[expose] public section

noncomputable section

/-! The attention of one query: the weighted sum of the values, with real weights; and how the kernel's row and the
    reference's row come to it. Any shift of the logits by a real number cancels, so neither needs the largest logit
    itself, only that it is a real number. -/

namespace Cert.Swa

open Idealize.ShloMosaic
open scoped BigOperators

/-- `w` is the base-two weight of the logit `x`. -/
def IsTwo (x : EReal) (w : ℝ) : Prop := (x = ⊥ ∧ w = 0) ∨ ∃ r : ℝ, x = (r : EReal) ∧ w = Real.rpow 2 r

/-- `w` is the natural weight of the logit `x`. -/
def IsExp (x : EReal) (w : ℝ) : Prop := (x = ⊥ ∧ w = 0) ∨ ∃ r : ℝ, x = (r : EReal) ∧ w = Real.exp r

theorem IsTwo.nonneg {x : EReal} {w : ℝ} (h : IsTwo x w) : 0 ≤ w := by
  rcases h with ⟨-, rfl⟩ | ⟨r, -, rfl⟩
  · exact le_rfl
  · exact Real.rpow_nonneg (by norm_num) r

theorem IsExp.nonneg {x : EReal} {w : ℝ} (h : IsExp x w) : 0 ≤ w := by
  rcases h with ⟨-, rfl⟩ | ⟨r, -, rfl⟩
  · exact le_rfl
  · exact (Real.exp_pos r).le

theorem IsTwo.ne_top {x : EReal} {w : ℝ} (h : IsTwo x w) : x < ⊤ := by
  rcases h with ⟨rfl, -⟩ | ⟨r, rfl, -⟩
  · exact bot_lt_top
  · exact EReal.coe_lt_top r

theorem IsExp.ne_top {x : EReal} {w : ℝ} (h : IsExp x w) : x < ⊤ := by
  rcases h with ⟨rfl, -⟩ | ⟨r, rfl, -⟩
  · exact bot_lt_top
  · exact EReal.coe_lt_top r

/-- A base-two logit is a natural one over `log 2`. -/
theorem isTwo_of_scaled (r : ℝ) : IsTwo ((r * (Real.log 2)⁻¹ : ℝ) : EReal) (Real.exp r) := by
  refine Or.inr ⟨_, rfl, ?_⟩
  have h2 : Real.log 2 ≠ 0 := (Real.log_pos (by norm_num)).ne'
  show Real.exp r = (2 : ℝ) ^ (r * (Real.log 2)⁻¹)
  rw [Real.rpow_def_of_pos (by norm_num)]
  congr 1
  field_simp

theorem IsTwo.shift {x : EReal} {w : ℝ} (h : IsTwo x w) (m : ℝ) :
    Ideal.exp2 (x - (m : EReal)) = ((w * Real.rpow 2 (-m) : ℝ) : EReal) := by
  rcases h with ⟨rfl, rfl⟩ | ⟨r, rfl, rfl⟩
  · rw [EReal.bot_sub]; simp
  · rw [← EReal.coe_sub, Ideal.exp2_coe]
    congr 1
    show (2 : ℝ) ^ (r - m) = (2 : ℝ) ^ r * (2 : ℝ) ^ (-m)
    rw [← Real.rpow_add (by norm_num)]
    rfl

theorem IsExp.shift {x : EReal} {w : ℝ} (h : IsExp x w) (m : ℝ) :
    Ideal.exp (x - (m : EReal)) = ((w * Real.exp (-m) : ℝ) : EReal) := by
  rcases h with ⟨rfl, rfl⟩ | ⟨r, rfl, rfl⟩
  · rw [EReal.bot_sub]; simp
  · rw [← EReal.coe_sub, Ideal.exp_coe, sub_eq_add_neg, Real.exp_add]

/-- A real factor that is not negative passes through a sum. -/
theorem sum_mul_real {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem add_mul_real (a b : EReal) (r : ℝ) (hr : 0 ≤ r) : (a + b) * (r : EReal) = a * (r : EReal) + b * (r : EReal) :=
  EReal.right_distrib_of_nonneg_of_ne_top (by exact_mod_cast hr) (EReal.coe_ne_top r) _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of logits, one of which is real, is real. -/
theorem real_of_bounds {m : EReal} {s : ℝ} (h : (s : EReal) ≤ m) (h' : m < ⊤) : ∃ r : ℝ, m = (r : EReal) := by
  refine ⟨m.toReal, (EReal.coe_toReal h'.ne ?_).symm⟩
  intro hb
  rw [hb] at h
  exact absurd h (not_le.mpr (EReal.bot_lt_coe s))

theorem fold_lt_top {ι : Type*} (s : Finset ι) (f : ι → EReal) (b : EReal) (hb : b < ⊤) (h : ∀ i, f i < ⊤) :
    Finset.fold max b f s < ⊤ := by
  rw [Finset.fold_max_lt]
  exact ⟨hb, fun i _ => h i⟩

/-- A row of 384 in three runs of 128. -/
theorem sum_three {M : Type*} [AddCommMonoid M] (f : Fin 384 → M) :
    ∑ i, f i = (∑ i : Fin 128, f ⟨i.val, by omega⟩ + ∑ i : Fin 128, f ⟨128 + i.val, by omega⟩) + ∑ i : Fin 128, f ⟨256 + i.val, by omega⟩ := by
  have h1 := Fin.sum_univ_add (a := 256) (b := 128) f
  have h2 := Fin.sum_univ_add (a := 128) (b := 128) fun i : Fin 256 => f (Fin.castAdd 128 i)
  rw [h1, h2]
  rfl

/-- A row of 256 in two runs of 128. -/
theorem sum_two {M : Type*} [AddCommMonoid M] (f : Fin 256 → M) :
    ∑ i, f i = ∑ i : Fin 128, f ⟨i.val, by omega⟩ + ∑ i : Fin 128, f ⟨128 + i.val, by omega⟩ := by
  rw [Fin.sum_univ_add (a := 128) (b := 128) f]
  rfl

/-- What the weights add up to. -/
def wsum (w : Fin 384 → ℝ) (wc : Fin 256 → ℝ) (ws : ℝ) : ℝ := ∑ i, w i + ∑ i, wc i + ws

/-- The weighted sum of the values of a window and of the context. -/
def row (w : Fin 384 → ℝ) (wc : Fin 256 → ℝ) (ws : ℝ) (v : Fin 384 → EReal) (vc : Fin 256 → EReal) : EReal :=
  ∑ i, v i * ((w i / wsum w wc ws : ℝ) : EReal) + ∑ i, vc i * ((wc i / wsum w wc ws : ℝ) : EReal)

/-- The kernel's largest logit. -/
def kmax (x : Fin 384 → EReal) (y : Fin 256 → EReal) (sk : EReal) : EReal :=
  max (max sk (Finset.fold max (Ideal.ofBits .f32 4286578688#32) x Finset.univ)) (Finset.fold max (Ideal.ofBits .f32 4286578688#32) y Finset.univ)

theorem neg_inf : Ideal.ofBits .f32 4286578688#32 = (⊥ : EReal) := by
  simp [Ideal.ofBits, Ideal.ieee]

theorem kmax_real (x : Fin 384 → EReal) (y : Fin 256 → EReal) (s : ℝ) (hx : ∀ i, x i < ⊤) (hy : ∀ i, y i < ⊤) :
    ∃ r : ℝ, kmax x y (s : EReal) = (r : EReal) := by
  refine real_of_bounds (s := s) ((le_max_left _ _).trans (le_max_left _ _)) ?_
  unfold kmax
  rw [neg_inf]
  exact max_lt (max_lt (EReal.coe_lt_top s) (fold_lt_top _ _ _ bot_lt_top hx)) (fold_lt_top _ _ _ bot_lt_top hy)

/-- The kernel's accumulated row: values (or ones) times the weights, in five runs. -/
def kacc (v : Fin 384 → EReal) (vc : Fin 256 → EReal) (p : Fin 384 → EReal) (pc : Fin 256 → EReal) : EReal :=
  (((∑ i : Fin 128, v ⟨i.val, by omega⟩ * p ⟨i.val, by omega⟩ + ∑ i : Fin 128, v ⟨128 + i.val, by omega⟩ * p ⟨128 + i.val, by omega⟩)
    + ∑ i : Fin 128, v ⟨256 + i.val, by omega⟩ * p ⟨256 + i.val, by omega⟩)
    + ∑ i : Fin 128, vc ⟨i.val, by omega⟩ * pc ⟨i.val, by omega⟩)
    + ∑ i : Fin 128, vc ⟨128 + i.val, by omega⟩ * pc ⟨128 + i.val, by omega⟩

theorem kacc_eq (v : Fin 384 → EReal) (vc : Fin 256 → EReal) (p : Fin 384 → EReal) (pc : Fin 256 → EReal) :
    kacc v vc p pc = ∑ i, v i * p i + ∑ i, vc i * pc i := by
  unfold kacc
  rw [sum_three fun i => v i * p i, sum_two fun i => vc i * pc i]
  simp only [add_assoc]

/-- The division by a sum of weights, shifted alike. -/
theorem quot (w d t : ℝ) (ht : 0 < t) : (w * t) * (1 / (d * t)) = w / d := by
  have := ht.ne'
  rcases eq_or_ne d 0 with rfl | hd
  · simp
  · field_simp

/-- The kernel's row is the weighted sum of the values. -/
theorem kernel_row (x : Fin 384 → EReal) (y : Fin 256 → EReal) (s : ℝ) (w : Fin 384 → ℝ) (wc : Fin 256 → ℝ) (ws : ℝ)
    (v : Fin 384 → EReal) (vc : Fin 256 → EReal) (hx : ∀ i, IsTwo (x i) (w i)) (hy : ∀ i, IsTwo (y i) (wc i)) (hs : IsTwo (s : EReal) ws) :
    kacc v vc (fun i => Ideal.exp2 (x i - kmax x y s)) (fun i => Ideal.exp2 (y i - kmax x y s))
      * Ideal.div 1 (kacc (fun _ => 1) (fun _ => 1) (fun i => Ideal.exp2 (x i - kmax x y s)) (fun i => Ideal.exp2 (y i - kmax x y s))
          + Ideal.exp2 ((s : EReal) - kmax x y s))
      = row w wc ws v vc := by
  obtain ⟨m, hm⟩ := kmax_real x y s (fun i => (hx i).ne_top) fun i => (hy i).ne_top
  rw [hm, kacc_eq, kacc_eq]
  simp only [(hx _).shift m, (hy _).shift m, hs.shift m, one_mul]
  have hM : (0 : ℝ) < Real.rpow 2 (-m) := Real.rpow_pos_of_pos (by norm_num) _
  generalize Real.rpow 2 (-m) = M at hM
  have hws : 0 < ws := by
    rcases hs with ⟨h, -⟩ | ⟨r, -, rfl⟩
    · exact absurd h (EReal.coe_ne_bot s)
    · exact Real.rpow_pos_of_pos (by norm_num) r
  have hD : 0 < wsum w wc ws :=
    add_pos_of_nonneg_of_pos (add_nonneg (Finset.sum_nonneg fun i _ => (hx i).nonneg) (Finset.sum_nonneg fun i _ => (hy i).nonneg)) hws
  rw [← coe_sum, ← coe_sum, ← EReal.coe_add, ← EReal.coe_add, ← Finset.sum_mul, ← Finset.sum_mul, ← add_mul, ← add_mul]
  show _ * Ideal.div 1 ((wsum w wc ws * M : ℝ) : EReal) = _
  rw [Ideal.div_coe (mul_pos hD hM).ne', one_mul, add_mul_real _ _ _ (one_div_nonneg.mpr (mul_pos hD hM).le),
    sum_mul_real _ _ _ (one_div_nonneg.mpr (mul_pos hD hM).le), sum_mul_real _ _ _ (one_div_nonneg.mpr (mul_pos hD hM).le)]
  unfold row
  simp only [mul_assoc, ← EReal.coe_mul]
  simp only [← mul_assoc, quot _ _ _ hM]

/-- The reference's row is the weighted sum of the values, whatever real number `m` the logits are shifted by. -/
theorem reference_row (x : Fin 384 → EReal) (y : Fin 256 → EReal) (s m : ℝ) (w : Fin 384 → ℝ) (wc : Fin 256 → ℝ)
    (v : Fin 384 → EReal) (vc : Fin 256 → EReal) (hx : ∀ i, IsExp (x i) (w i)) (hy : ∀ i, IsExp (y i) (wc i)) (D : EReal)
    (hD : D = ∑ i, Ideal.exp (x i - (m : EReal)) + ∑ i, Ideal.exp (y i - (m : EReal)) + Ideal.exp ((s : EReal) - (m : EReal))) :
    ∑ i, Ideal.div (Ideal.exp (x i - (m : EReal))) D * v i + ∑ i, Ideal.div (Ideal.exp (y i - (m : EReal))) D * vc i
      = row w wc (Real.exp s) v vc := by
  have hs : IsExp (s : EReal) (Real.exp s) := Or.inr ⟨s, rfl, rfl⟩
  simp only [(hx _).shift m, (hy _).shift m, hs.shift m] at hD ⊢
  have hM : (0 : ℝ) < Real.exp (-m) := Real.exp_pos _
  generalize Real.exp (-m) = M at hM hD ⊢
  rw [← coe_sum, ← coe_sum, ← EReal.coe_add, ← EReal.coe_add, ← Finset.sum_mul, ← Finset.sum_mul, ← add_mul, ← add_mul] at hD
  have hP : 0 < wsum w wc (Real.exp s) :=
    add_pos_of_nonneg_of_pos (add_nonneg (Finset.sum_nonneg fun i _ => (hx i).nonneg) (Finset.sum_nonneg fun i _ => (hy i).nonneg)) (Real.exp_pos s)
  change D = ((wsum w wc (Real.exp s) * M : ℝ) : EReal) at hD
  subst hD
  simp only [Ideal.div_coe (mul_pos hP hM).ne', ← EReal.coe_mul, quot _ _ _ hM]
  unfold row
  simp only [mul_comm]

/-! ### Windows -/

/-- Key `s` is within the window of query `t`. -/
def near (t : Fin 8192) (s : ℕ) : Prop := t.val ≤ s + 128 ∧ s ≤ t.val + 128

instance (t : Fin 8192) (s : ℕ) : Decidable (near t s) := by unfold near; infer_instance

/-- A sum over a window of 384 positions that starts at `base`, of terms that vanish off the keys near `t`, is the sum
    over the keys near `t`. -/
theorem window_sum {M : Type*} [AddCommMonoid M] (base : ℤ) (t : Fin 8192) (lo : base ≤ 0 ∨ base + 128 ≤ t.val)
    (hi : (8192 : ℤ) ≤ base + 384 ∨ (t.val : ℤ) + 128 < base + 384)
    (f : Fin 384 → M) (H : Fin 8192 → M) (hf : ∀ (i : Fin 384) (s : Fin 8192), (s.val : ℤ) = base + i.val → near t s.val → f i = H s)
    (hz : ∀ i : Fin 384, (∀ s : Fin 8192, (s.val : ℤ) = base + i.val → ¬ near t s.val) → f i = 0) :
    ∑ i, f i = ∑ s, if near t s.val then H s else 0 := by
  classical
  rw [← Finset.sum_filter]
  rw [← Finset.sum_filter_of_ne (p := fun i : Fin 384 => ∃ s : Fin 8192, (s.val : ℤ) = base + i.val ∧ near t s.val) (f := f)
    (fun i _ hne => by by_contra hc; exact hne (hz i fun s hs hn => hc ⟨s, hs, hn⟩))]
  refine Finset.sum_bij' (fun i hi => (⟨(base + i.val).toNat, ?_⟩ : Fin 8192)) (fun s hs => (⟨((s.val : ℤ) - base).toNat, ?_⟩ : Fin 384)) ?_ ?_ ?_ ?_ ?_
  · obtain ⟨s, hs, -⟩ := (Finset.mem_filter.mp hi).2
    have := s.isLt
    omega
  · have hn := (Finset.mem_filter.mp hs).2
    unfold near at hn
    have := s.isLt
    omega
  · intro i hi
    obtain ⟨s, hs, hn⟩ := (Finset.mem_filter.mp hi).2
    refine Finset.mem_filter.mpr ⟨Finset.mem_univ _, ?_⟩
    have e : (base + i.val).toNat = s.val := by omega
    show near t (base + i.val).toNat
    rw [e]
    exact hn
  · intro s hs
    have hn := (Finset.mem_filter.mp hs).2
    refine Finset.mem_filter.mpr ⟨Finset.mem_univ _, s, ?_, hn⟩
    unfold near at hn
    have := s.isLt
    show (s.val : ℤ) = base + (((s.val : ℤ) - base).toNat : ℕ)
    omega
  · intro i hi
    obtain ⟨s, hs, hn⟩ := (Finset.mem_filter.mp hi).2
    refine Fin.ext ?_
    show (((base + i.val).toNat : ℤ) - base).toNat = i.val
    omega
  · intro s hs
    have hn := (Finset.mem_filter.mp hs).2
    unfold near at hn
    have := s.isLt
    refine Fin.ext ?_
    show (base + (((s.val : ℤ) - base).toNat : ℕ)).toNat = s.val
    omega
  · intro i hi
    obtain ⟨s, hs, hn⟩ := (Finset.mem_filter.mp hi).2
    have e : (⟨(base + i.val).toNat, by have := s.isLt; omega⟩ : Fin 8192) = s := Fin.ext (by show (base + i.val).toNat = s.val; omega)
    exact (hf i s hs hn).trans (congrArg H e.symm)

/-- The attention of query `t` over the keys near it, the context and the sink. -/
def attend (t : Fin 8192) (L : Fin 8192 → ℝ) (Lc : Fin 256 → ℝ) (sk : ℝ) (v : Fin 8192 → EReal) (vc : Fin 256 → EReal) : EReal :=
  let D : ℝ := (∑ s, if near t s.val then Real.exp (L s) else 0) + ∑ i, Real.exp (Lc i) + Real.exp sk
  (∑ s, if near t s.val then v s * ((Real.exp (L s) / D : ℝ) : EReal) else 0) + ∑ i, vc i * ((Real.exp (Lc i) / D : ℝ) : EReal)

/-- A row over a window is the attention over the keys near the query. -/
theorem row_attend (base : ℤ) (t : Fin 8192) (lo : base ≤ 0 ∨ base + 128 ≤ t.val)
    (hi : (8192 : ℤ) ≤ base + 384 ∨ (t.val : ℤ) + 128 < base + 384) (L : Fin 8192 → ℝ) (Lc : Fin 256 → ℝ) (sk : ℝ)
    (v : Fin 8192 → EReal) (vc : Fin 256 → EReal) (w : Fin 384 → ℝ) (u : Fin 384 → EReal)
    (hw : ∀ (i : Fin 384) (s : Fin 8192), (s.val : ℤ) = base + i.val → near t s.val → w i = Real.exp (L s) ∧ u i = v s)
    (hz : ∀ i : Fin 384, (∀ s : Fin 8192, (s.val : ℤ) = base + i.val → ¬ near t s.val) → w i = 0) :
    row w (fun i => Real.exp (Lc i)) (Real.exp sk) u vc = attend t L Lc sk v vc := by
  unfold row wsum attend
  rw [window_sum base t lo hi w (fun s => Real.exp (L s)) (fun i s hs hn => (hw i s hs hn).1) hz]
  generalize (∑ s : Fin 8192, if near t s.val then Real.exp (L s) else 0) + ∑ i, Real.exp (Lc i) + Real.exp sk = D
  rw [window_sum base t lo hi (fun i => u i * ((w i / D : ℝ) : EReal)) (fun s => v s * ((Real.exp (L s) / D : ℝ) : EReal))
    (fun i s hs hn => by rw [(hw i s hs hn).1, (hw i s hs hn).2]) (fun i h => by rw [hz i h]; simp)]

/-- A head's group of keys and values. -/
def grp (h : Fin 8) : Fin 2 := ⟨h.val / 4, by omega⟩

/-- The windowed attention of every head over the keys near a token and the context's, with the head's sink among the weights. -/
def att (Q : Fin 4 → Fin 8192 → Fin 8 → Fin 64 → EReal) (K W : Fin 4 → Fin 8192 → Fin 2 → Fin 64 → EReal)
    (Kc Wc : Fin 4 → Fin 256 → Fin 2 → Fin 64 → EReal) (Sk : Fin 8 → EReal) (b : Fin 4) (t : Fin 8192) (h : Fin 8) (d : Fin 64) : EReal :=
  attend t (fun s => (∑ e, (Q b t h e).toReal * (K b s (grp h) e).toReal) / 8) (fun i => (∑ e, (Q b t h e).toReal * (Kc b i (grp h) e).toReal) / 8)
    (Sk h).toReal (fun s => W b s (grp h) d) (fun i => Wc b i (grp h) d)

end Cert.Swa
-- ==== Proof.SwaTile.lean ====
module

public import proofs.«01_k».proof.Proof.SwaPay
public import proofs.«01_k».proof.Proof.SwaMath

@[expose] public section

set_option maxRecDepth 16384

noncomputable section

/-! A tile, element by element. -/

namespace Cert.Swa

open Cert.KernelIdeal Cert.KernelIdeal.Gen Idealize.ShloMosaic Idealize.ShloMosaic.TcCoe Idealize.SL.Sem
open scoped BigOperators

theorem lane_lt : ∀ l : Fin 128, IntOp.cmpi CmpIPredicate.slt (BitVec.ofNat 32 l.val) 64#32 = if l.val < 64 then 1#1 else 0#1 := by
  decide +kernel

theorem even_apply (q : FVec Ideal S128x128 .bf16) (p l : Fin 128) : even q (ix2 p l) = if l.val < 64 then q (ix2 p l) else 0 := by
  unfold even
  pointwise [k0_pay6]
  rw [lane_lt]
  by_cases h : l.val < 64
  · rw [if_pos h, if_pos h]; rfl
  · rw [if_neg h, if_neg h]; rfl

theorem odd_apply (q : FVec Ideal S128x128 .bf16) (p l : Fin 128) : odd q (ix2 p l) = if l.val < 64 then 0 else q (ix2 p l) := by
  unfold odd
  pointwise [k0_pay6]
  rw [lane_lt]
  by_cases h : l.val < 64
  · rw [if_pos h, if_pos h]; rfl
  · rw [if_neg h, if_neg h]; rfl

/-- Head `r` of a group: of the two pairs' lanes, its own half of its pair's. -/
def sel (qa qb : FVec Ideal S128x128 .bf16) (r : Fin 4) : FVec Ideal S128x128 .bf16 :=
  match r with
  | 0 => even qa
  | 1 => odd qa
  | 2 => even qb
  | 3 => odd qb

/-- Column `128 r + p` of a group's tile: query `p` of head `r`. -/
def col (r : Fin 4) (p : Fin 128) : Fin 512 := ⟨128 * r.val + p.val, by omega⟩

theorem col_two (p : Fin 128) : ¬ (256 + p.val < 128) ∧ ¬ (256 + p.val - 128 < 128) ∧ 256 + p.val - 128 - 128 = p.val := by omega

theorem col_three (p : Fin 128) : ¬ (384 + p.val < 128) ∧ ¬ (384 + p.val - 128 < 128) ∧ ¬ (384 + p.val - 128 - 128 < 128)
    ∧ 384 + p.val - 128 - 128 - 128 = p.val := by omega

section

variable (qa qb : FVec Ideal S128x128 .bf16) (kw : FVec Ideal S384x128 .bf16) (kc : FVec Ideal S256x128 .bf16) (r : Fin 4) (p : Fin 128)

theorem scores_win (n : Fin 384) : scores qa qb kw kc (ix2 ⟨n.val, by omega⟩ (col r p)) = ∑ l : Fin 128, kw (ix2 n l) * sel qa qb r (ix2 p l) := by
  unfold scores col
  fin_cases r <;> (pointwise; simp [sel, col_two, col_three])

theorem scores_ctx (n : Fin 256) : scores qa qb kw kc (ix2 ⟨384 + n.val, by omega⟩ (col r p)) = ∑ l : Fin 128, kc (ix2 n l) * sel qa qb r (ix2 p l) := by
  unfold scores col
  fin_cases r <;> (pointwise; simp [sel, col_two, col_three])

theorem mask_value : Named.named (F := Ideal) κ "mask" (φ := .f32) 0xF149F2CA#32 = (⊥ : EReal) :=
  IdealRules.named_const.ideal_named_scalar _ _ _ _ rfl

theorem bias_apply (b : FVec Ideal S384x128 .f32) (n : Fin 384) : bias b (ix2 n (col r p)) = if 0 < b (ix2 n p) then ⊥ else 0 := by
  unfold bias col
  fin_cases r <;> (pointwise; simp [mask_value, col_two, col_three])

end

/-- A tile at an index: the kernel's row over the column's logits. -/
theorem tile_apply (s : FVec Ideal S640x512 .f32) (band : FVec Ideal S384x128 .f32) (v0 v1 v2 c0 c1 : FVec Ideal S64x128 .bf16)
    (sk : FVec Ideal S1x512 .f32) (d : Fin 64) (j : Fin 512) (x : Fin 384 → EReal) (y : Fin 256 → EReal) (v : Fin 384 → EReal) (vc : Fin 256 → EReal)
    (hx : ∀ i : Fin 384, s (ix2 ⟨i.val, by omega⟩ j) + bias band (ix2 i j) = x i) (hy : ∀ i : Fin 256, s (ix2 ⟨384 + i.val, by omega⟩ j) = y i)
    (h0 : ∀ i : Fin 128, v0 (ix2 d i) = v ⟨i.val, by omega⟩) (h1 : ∀ i : Fin 128, v1 (ix2 d i) = v ⟨128 + i.val, by omega⟩)
    (h2 : ∀ i : Fin 128, v2 (ix2 d i) = v ⟨256 + i.val, by omega⟩)
    (h3 : ∀ i : Fin 128, c0 (ix2 d i) = vc ⟨i.val, by omega⟩) (h4 : ∀ i : Fin 128, c1 (ix2 d i) = vc ⟨128 + i.val, by omega⟩) :
    tile s band v0 v1 v2 c0 c1 sk (ix2 d j)
      = kacc v vc (fun i => Ideal.exp2 (x i - kmax x y (sk (ix2 0 j)))) (fun i => Ideal.exp2 (y i - kmax x y (sk (ix2 0 j))))
        * Ideal.div 1 (kacc (fun _ => 1) (fun _ => 1) (fun i => Ideal.exp2 (x i - kmax x y (sk (ix2 0 j)))) (fun i => Ideal.exp2 (y i - kmax x y (sk (ix2 0 j))))
            + Ideal.exp2 (sk (ix2 0 j) - kmax x y (sk (ix2 0 j)))) := by
  have ex : ∀ i : Fin 384, logitsW s band (ix2 i j) = x i := fun i => by
    rw [← hx i]; unfold logitsW; pointwise
  have ey : ∀ i : Fin 256, logitsC s (ix2 i j) = y i := fun i => by
    rw [← hy i]; unfold logitsC; pointwise
  have em : colMax (logitsW s band) (logitsC s) sk (ix2 0 j) = kmax x y (sk (ix2 0 j)) := by
    unfold colMax kmax
    pointwise
    simp only [ex, ey]
  unfold tile
  generalize hm : colMax (logitsW s band) (logitsC s) sk = mx at em
  have ep : ∀ i : Fin 384, expW (logitsW s band) mx (ix2 i j) = Ideal.exp2 (x i - kmax x y (sk (ix2 0 j))) := fun i => by
    unfold expW; pointwise; rw [ex, em]; rfl
  have ec : ∀ i : Fin 256, expC (logitsC s) mx (ix2 i j) = Ideal.exp2 (y i - kmax x y (sk (ix2 0 j))) := fun i => by
    unfold expC; pointwise; rw [ey, em]; rfl
  generalize expW (logitsW s band) mx = pw at ep
  generalize expC (logitsC s) mx = pc at ec
  have ea : ∀ (f : Fin 80) (u : Fin 384 → EReal) (uc : Fin 256 → EReal),
      (∀ i : Fin 128, withOnes v0 (ix2 f i) = u ⟨i.val, by omega⟩) → (∀ i : Fin 128, withOnes v1 (ix2 f i) = u ⟨128 + i.val, by omega⟩) →
      (∀ i : Fin 128, withOnes v2 (ix2 f i) = u ⟨256 + i.val, by omega⟩) → (∀ i : Fin 128, withOnes c0 (ix2 f i) = uc ⟨i.val, by omega⟩) →
      (∀ i : Fin 128, withOnes c1 (ix2 f i) = uc ⟨128 + i.val, by omega⟩) →
      acc pw pc v0 v1 v2 c0 c1 (ix2 f j) = kacc u uc (fun i => Ideal.exp2 (x i - kmax x y (sk (ix2 0 j)))) (fun i => Ideal.exp2 (y i - kmax x y (sk (ix2 0 j)))) := by
    intro f u uc e0 e1 e2 e3 e4
    unfold acc part kacc
    pointwise
    simp only [e0, e1, e2, e3, e4, ← ep, ← ec]
  unfold normalized
  pointwise
  rw [ea ⟨d.val, by omega⟩ v vc, ea 64 (fun _ => 1) (fun _ => 1), em]
  · rfl
  all_goals (intro i; unfold withOnes; pointwise)
  · exact h0 i
  · exact h1 i
  · exact h2 i
  · exact h3 i
  · exact h4 i

end Cert.Swa
-- ==== Proof.SwaBlock.lean ====
module

public import proofs.«01_k».proof.Proof.SwaTile
public import proofs.«01_k».proof.Proof.SwaMath

@[expose] public section

set_option maxRecDepth 16384

noncomputable section

/-! A tile of the windowed attention over real queries, keys and sinks: the weighted sum of its values. -/

namespace Cert.Swa

open Cert.KernelIdeal Cert.KernelIdeal.Gen Idealize.ShloMosaic

/-- Lane `d` of half `e` of a pair of heads. -/
def lane (e : Fin 2) (d : Fin 64) : Fin 128 := ⟨64 * e.val + d.val, by omega⟩

/-- A sum over a pair's lanes, the other head's lanes being zero. -/
theorem sel_sum (f : Fin 128 → EReal) (qa qb : FVec Ideal S128x128 .bf16) (p : Fin 128) (z : Fin 4 → Fin 64 → EReal)
    (ha : ∀ (e : Fin 2) (d : Fin 64), qa (ix2 p (lane e d)) = z ⟨e.val, by omega⟩ d)
    (hb : ∀ (e : Fin 2) (d : Fin 64), qb (ix2 p (lane e d)) = z ⟨2 + e.val, by omega⟩ d) (r : Fin 4) :
    ∑ l : Fin 128, f l * sel qa qb r (ix2 p l) = ∑ d : Fin 64, f (lane ⟨r.val % 2, by omega⟩ d) * z r d := by
  rw [Fin.sum_univ_add (a := 64) (b := 64)]
  have lo : ∀ d : Fin 64, (Fin.castAdd 64 d : Fin 128) = lane 0 d := fun d => Fin.ext (by simp [lane]; try omega)
  have hi : ∀ d : Fin 64, (Fin.natAdd 64 d : Fin 128) = lane 1 d := fun d => Fin.ext (by simp [lane]; try omega)
  have l0 : ∀ d : Fin 64, ((lane 0 d).val < 64) := fun d => by simp [lane]
  have l1 : ∀ d : Fin 64, ¬ ((lane 1 d).val < 64) := fun d => by simp [lane]
  simp only [lo, hi]
  fin_cases r <;> simp [sel, even_apply, odd_apply, l0, l1, ha, hb]

theorem log_256 : (Real.log 256)⁻¹ = (Real.log 2)⁻¹ / 8 := by
  have : (256 : ℝ) = 2 ^ 8 := by norm_num
  rw [this, Real.log_pow]
  push_cast
  rw [mul_inv]
  ring

/-- A score over the scaled queries is the natural logit over `log 2`. -/
theorem dot_scaled (k q : Fin 64 → ℝ) :
    ∑ d : Fin 64, (k d : EReal) * ((q d : EReal) * (((Real.log 256)⁻¹ : ℝ) : EReal))
      = (((∑ d, q d * k d) / 8 * (Real.log 2)⁻¹ : ℝ) : EReal) := by
  simp only [← EReal.coe_mul, ← coe_sum]
  congr 1
  rw [log_256, Finset.sum_div, Finset.sum_mul]
  exact Finset.sum_congr rfl fun d _ => by ring

variable (qa qb : FVec Ideal S128x128 .bf16) (kw : FVec Ideal S384x128 .bf16) (kc : FVec Ideal S256x128 .bf16)
  (band : FVec Ideal S384x128 .f32) (v0 v1 v2 c0 c1 : FVec Ideal S64x128 .bf16) (sk : FVec Ideal S1x512 .f32)

/-- The tile over real queries, keys and sinks. -/
theorem tile_row (q : Fin 4 → Fin 128 → Fin 64 → ℝ) (k : Fin 384 → Fin 64 → ℝ) (ck : Fin 256 → Fin 64 → ℝ) (s : Fin 4 → ℝ)
    (far : Fin 384 → Fin 128 → Prop) [∀ n p, Decidable (far n p)]
    (v : Fin 64 → Fin 384 → EReal) (vc : Fin 64 → Fin 256 → EReal)
    (ha : ∀ (p : Fin 128) (e : Fin 2) (d : Fin 64), qa (ix2 p (lane e d)) = (q ⟨e.val, by omega⟩ p d : EReal) * (((Real.log 256)⁻¹ : ℝ) : EReal))
    (hb : ∀ (p : Fin 128) (e : Fin 2) (d : Fin 64), qb (ix2 p (lane e d)) = (q ⟨2 + e.val, by omega⟩ p d : EReal) * (((Real.log 256)⁻¹ : ℝ) : EReal))
    (hk : ∀ (n : Fin 384) (e : Fin 2) (d : Fin 64), kw (ix2 n (lane e d)) = (k n d : EReal))
    (hc : ∀ (n : Fin 256) (e : Fin 2) (d : Fin 64), kc (ix2 n (lane e d)) = (ck n d : EReal))
    (hband : ∀ (n : Fin 384) (p : Fin 128), 0 < band (ix2 n p) ↔ far n p)
    (hs : ∀ (r : Fin 4) (p : Fin 128), sk (ix2 0 (col r p)) = ((s r * (Real.log 2)⁻¹ : ℝ) : EReal))
    (h0 : ∀ (d : Fin 64) (i : Fin 128), v0 (ix2 d i) = v d ⟨i.val, by omega⟩) (h1 : ∀ (d : Fin 64) (i : Fin 128), v1 (ix2 d i) = v d ⟨128 + i.val, by omega⟩)
    (h2 : ∀ (d : Fin 64) (i : Fin 128), v2 (ix2 d i) = v d ⟨256 + i.val, by omega⟩)
    (h3 : ∀ (d : Fin 64) (i : Fin 128), c0 (ix2 d i) = vc d ⟨i.val, by omega⟩) (h4 : ∀ (d : Fin 64) (i : Fin 128), c1 (ix2 d i) = vc d ⟨128 + i.val, by omega⟩)
    (d : Fin 64) (r : Fin 4) (p : Fin 128) :
    tile (scores qa qb kw kc) band v0 v1 v2 c0 c1 sk (ix2 d (col r p))
      = row (fun n => if far n p then 0 else Real.exp ((∑ e, q r p e * k n e) / 8)) (fun n => Real.exp ((∑ e, q r p e * ck n e) / 8))
          (Real.exp (s r)) (v d) (vc d) := by
  have hx : ∀ n : Fin 384, scores qa qb kw kc (ix2 ⟨n.val, by omega⟩ (col r p)) + bias band (ix2 n (col r p))
      = if far n p then (⊥ : EReal) else (((∑ e, q r p e * k n e) / 8 * (Real.log 2)⁻¹ : ℝ) : EReal) := by
    intro n
    rw [scores_win, sel_sum (fun l => kw (ix2 n l)) qa qb p (fun r d => (q r p d : EReal) * (((Real.log 256)⁻¹ : ℝ) : EReal)) (ha p) (hb p) r, bias_apply]
    simp only [hk, hband]
    rw [dot_scaled]
    by_cases h : far n p
    · rw [if_pos h, if_pos h, EReal.add_bot]
    · rw [if_neg h, if_neg h, add_zero]
  have hy : ∀ n : Fin 256, scores qa qb kw kc (ix2 ⟨384 + n.val, by omega⟩ (col r p))
      = (((∑ e, q r p e * ck n e) / 8 * (Real.log 2)⁻¹ : ℝ) : EReal) := by
    intro n
    rw [scores_ctx, sel_sum (fun l => kc (ix2 n l)) qa qb p (fun r d => (q r p d : EReal) * (((Real.log 256)⁻¹ : ℝ) : EReal)) (ha p) (hb p) r]
    simp only [hc]
    rw [dot_scaled]
  rw [tile_apply _ band v0 v1 v2 c0 c1 sk d (col r p) _ _ (v d) (vc d) hx hy (h0 d) (h1 d) (h2 d) (h3 d) (h4 d), hs]
  refine kernel_row _ _ _ _ _ _ _ _ ?_ (fun n => isTwo_of_scaled _) (isTwo_of_scaled _)
  intro n
  by_cases h : far n p
  · rw [if_pos h, if_pos h]; exact Or.inl ⟨rfl, rfl⟩
  · rw [if_neg h, if_neg h]; exact isTwo_of_scaled _

end Cert.Swa
-- ==== Proof.SwaSrc.lean ====
module

public import Idealize.ShloMosaic.Lib.Pipeline.ValueKit
public import proofs.«01_k».proof.Proof.Gen.KernelIdeal.Value

@[expose] public section

set_option maxRecDepth 16384

noncomputable section

/-! What the attention's windows hold, from the argument arrays. -/

namespace Cert.Swa

open Idealize.ShloMosaic Cert.KernelIdeal Cert.KernelIdeal.Gen

open Idealize.ShloMosaic.TcCoe

variable (m : (ℓ : Loc nD τ sig) → Buf (Elt Ideal) ℓ) (c : Dev nD) (t : Fin cfg0.N)

/-- Token `s` of batch row `b`. -/
def tok (b : Fin 4) (s : Fin 8192) : Fin 32768 := ⟨8192 * b.val + s.val, by omega⟩

/-- Feature `d` of head `h`. -/
def feat (h : Fin 8) (d : Fin 64) : Fin 512 := ⟨64 * h.val + d.val, by omega⟩

theorem val_lt (t : Fin cfg0.N) : t.val < 32 := lt_of_lt_of_eq t.isLt N_0

theorem idx0 : ∀ t : Fin cfg0.N, win0_0.index t = ![t.val, 0] := by decide +kernel
theorem idx1 : ∀ t : Fin cfg0.N, win0_1.index t = ![t.val / 8, 0] := by decide +kernel
theorem idx2 : ∀ t : Fin cfg0.N, win0_2.index t = ![t.val / 8, 0, 0] := by decide +kernel
theorem idx3 : ∀ t : Fin cfg0.N, win0_3.index t = ![t.val / 8, 0] := by decide +kernel
theorem idx4 : ∀ t : Fin cfg0.N, win0_4.index t = ![t.val / 8, 0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, t.val] := by decide +kernel

theorem src0 (n : Fin 32768) (k : Fin 512) :
    V m c main_v1 (ix2 n k) = m ((c : Thread nD τ).loc main_arg0) (ix4 ⟨n.val / 8192, by omega⟩ ⟨n.val % 8192, by omega⟩ ⟨k.val / 64, by omega⟩ ⟨k.val % 64, by omega⟩) := by
  simp only [V, hostOps0, hostOps0_1, hostOps0_2, List.flatten_cons, List.flatten_nil, List.cons_append, List.nil_append, List.append_nil]
  after_results_simp
  pointwise

theorem src1 (n : Fin 32768) (k : Fin 256) :
    V m c main_v5 (ix2 n k) = m ((c : Thread nD τ).loc main_arg1) (ix4 ⟨n.val / 8192, by omega⟩ ⟨n.val % 8192, by omega⟩ ⟨k.val / 128, by omega⟩ ⟨k.val % 64, by omega⟩) := by
  simp only [V, hostOps0, hostOps0_1, hostOps0_2, List.flatten_cons, List.flatten_nil, List.cons_append, List.nil_append, List.append_nil]
  after_results_simp
  pointwise

theorem src2 (n : Fin 256) (k l : Fin 128) :
    V m c main_v8 (ix3 n k l) = m ((c : Thread nD τ).loc main_arg2) (ix4 ⟨n.val / 64, by omega⟩ ⟨n.val % 64 * 128 + l.val, by omega⟩ ⟨k.val / 64, by omega⟩ ⟨k.val % 64, by omega⟩) := by
  simp only [V, hostOps0, hostOps0_1, hostOps0_2, List.flatten_cons, List.flatten_nil, List.cons_append, List.nil_append, List.append_nil]
  after_results_simp
  pointwise

theorem src3 (n : Fin 1024) (k : Fin 256) :
    V m c main_v12 (ix2 n k) = m ((c : Thread nD τ).loc main_arg3) (ix4 ⟨n.val / 256, by omega⟩ ⟨n.val % 256, by omega⟩ ⟨k.val / 128, by omega⟩ ⟨k.val % 64, by omega⟩) := by
  simp only [V, hostOps0, hostOps0_1, hostOps0_2, List.flatten_cons, List.flatten_nil, List.cons_append, List.nil_append, List.append_nil]
  after_results_simp
  pointwise

theorem src4 (n : Fin 8) (k l : Fin 128) :
    V m c main_v15 (ix3 n k l) = m ((c : Thread nD τ).loc main_arg4) (ix4 ⟨n.val / 2, by omega⟩ ⟨n.val % 2 * 128 + l.val, by omega⟩ ⟨k.val / 64, by omega⟩ ⟨k.val % 64, by omega⟩) := by
  simp only [V, hostOps0, hostOps0_1, hostOps0_2, List.flatten_cons, List.flatten_nil, List.cons_append, List.nil_append, List.append_nil]
  after_results_simp
  pointwise

theorem abs_le : ∀ d : Fin 768, IntOp.cmpi CmpIPredicate.sle (IntOp.absi (BitVec.ofNat 32 d.val - 383#32)) 128#32
    = if 255 ≤ d.val ∧ d.val ≤ 511 then 1#1 else 0#1 := by
  decide +kernel

theorem band_bit (n : Fin 3) (k : Fin 384) (l : Fin 128) :
    IntOp.cmpi CmpIPredicate.sle (IntOp.absi (IntOp.subi (IntOp.subi (BitVec.ofNat 32 k.val) (IntOp.muli (BitVec.ofNat 32 n.val) 128#32)) (BitVec.ofNat 32 l.val))) 128#32
      = if k.val ≤ 128 * n.val + l.val + 128 ∧ 128 * n.val + l.val ≤ k.val + 128 then 1#1 else 0#1 := by
  have e : IntOp.subi (IntOp.subi (BitVec.ofNat 32 k.val) (IntOp.muli (BitVec.ofNat 32 n.val) 128#32)) (BitVec.ofNat 32 l.val)
      = BitVec.ofNat 32 (k.val + 383 - 128 * n.val - l.val) - 383#32 := by
    show BitVec.ofNat 32 k.val - BitVec.ofNat 32 n.val * 128#32 - BitVec.ofNat 32 l.val = _
    apply BitVec.eq_of_toNat_eq
    simp only [BitVec.toNat_sub, BitVec.toNat_mul, BitVec.toNat_ofNat]
    omega
  rw [e, abs_le ⟨k.val + 383 - 128 * n.val - l.val, by omega⟩]
  refine if_congr ?_ rfl rfl
  show 255 ≤ k.val + 383 - 128 * n.val - l.val ∧ k.val + 383 - 128 * n.val - l.val ≤ 511 ↔ _
  omega

theorem src5 (n : Fin 3) (k : Fin 384) (l : Fin 128) :
    (V m c main_v26 : S3x384x128.Idx → EReal) (ix3 n k l) = if k.val ≤ 128 * n.val + l.val + 128 ∧ 128 * n.val + l.val ≤ k.val + 128 then (0 : EReal) else (1 : EReal) := by
  simp only [V, hostOps0, hostOps0_1, hostOps0_2, List.flatten_cons, List.flatten_nil, List.cons_append, List.nil_append, List.append_nil]
  after_results_simp
  change select (cmpi .sle (absi (subi (subi (iotaInDim S3x384x128 32 1) (muli (iotaInDim S3x384x128 32 0) (broadcastInDim S3x384x128 ![] bcast_S_S3x384x128 (constantI S_ 32 128#32)))) (iotaInDim S3x384x128 32 2)))
    (broadcastInDim S3x384x128 ![] bcast_S_S3x384x128 (constantI S_ 32 128#32)))
    (broadcastInDim S3x384x128 ![] bcast_S_S3x384x128 (constant (F := Ideal) S_ FTy.f32 0#32))
    (broadcastInDim S3x384x128 ![] bcast_S_S3x384x128 (constant (F := Ideal) S_ FTy.f32 1065353216#32)) (ix3 n k l) = _
  pointwise
  rw [band_bit]
  by_cases h : k.val ≤ 128 * n.val + l.val + 128 ∧ 128 * n.val + l.val ≤ k.val + 128
  · rw [if_pos h, if_pos h]; rfl
  · rw [if_neg h, if_neg h]; rfl

theorem src6 (n : Fin 2) (k : Fin 8) (l : Fin 512) :
    V m c main_v31 (ix3 n k l) = m ((c : Thread nD τ).loc main_arg5) (ix1 ⟨n.val * 4 + l.val / 128, by omega⟩) := by
  simp only [V, hostOps0, hostOps0_1, hostOps0_2, List.flatten_cons, List.flatten_nil, List.cons_append, List.nil_append, List.append_nil]
  after_results_simp
  pointwise

section

/-- Queries, by batch row, token, head and feature. -/
def Q (b : Fin 4) (s : Fin 8192) (h : Fin 8) (d : Fin 64) : EReal := m ((c : Thread nD τ).loc main_arg0) (ix4 b s h d)
/-- Keys, by batch row, token, group and feature. -/
def K (b : Fin 4) (s : Fin 8192) (g : Fin 2) (d : Fin 64) : EReal := m ((c : Thread nD τ).loc main_arg1) (ix4 b s g d)
/-- Values, by batch row, token, group and feature. -/
def W (b : Fin 4) (s : Fin 8192) (g : Fin 2) (d : Fin 64) : EReal := m ((c : Thread nD τ).loc main_arg2) (ix4 b s g d)
/-- Keys of the context. -/
def Kc (b : Fin 4) (s : Fin 256) (g : Fin 2) (d : Fin 64) : EReal := m ((c : Thread nD τ).loc main_arg3) (ix4 b s g d)
/-- Values of the context. -/
def Wc (b : Fin 4) (s : Fin 256) (g : Fin 2) (d : Fin 64) : EReal := m ((c : Thread nD τ).loc main_arg4) (ix4 b s g d)
/-- The heads' sinks. -/
def Sk (h : Fin 8) : EReal := m ((c : Thread nD τ).loc main_arg5) (ix1 h)

/-- The batch row of a grid point. -/
def bat (t : Fin cfg0.N) : Fin 4 := ⟨t.val / 8, by have := val_lt t; omega⟩

theorem in0 (p : Fin 1024) (h : Fin 8) (d : Fin 64) :
    iblk m c 0 t (ix2 p (feat h d)) = Q m c (bat t) ⟨1024 * (t.val % 8) + p.val, by omega⟩ h d := by
  have ht := val_lt t
  have e : iblk m c 0 t (ix2 p (feat h d)) = V m c main_v1 (ix2 ⟨1024 * t.val + p.val, by omega⟩ (feat h d)) := by
    blk_ext [iblk, idx0 t]
  rw [e, src0]
  unfold Q bat feat
  congr 2 <;> (refine Fin.ext ?_; dsimp only; omega)

theorem in1 (n : Fin 8192) (g e : Fin 2) (d : Fin 64) :
    iblk m c 1 t (ix2 n ⟨128 * g.val + (64 * e.val + d.val), by omega⟩) = K m c (bat t) n g d := by
  have ht := val_lt t
  have e : iblk m c 1 t (ix2 n ⟨128 * g.val + (64 * e.val + d.val), by omega⟩) = V m c main_v5 (ix2 ⟨8192 * (t.val / 8) + n.val, by omega⟩ ⟨128 * g.val + (64 * e.val + d.val), by omega⟩) := by
    blk_ext [iblk, idx1 t]
  rw [e, src1]
  unfold K bat
  congr 2 <;> (refine Fin.ext ?_; dsimp only; omega)

theorem in2 (w : Fin 64) (g : Fin 2) (d : Fin 64) (l : Fin 128) :
    iblk m c 2 t (ix3 w ⟨64 * g.val + d.val, by omega⟩ l) = W m c (bat t) ⟨128 * w.val + l.val, by omega⟩ g d := by
  have ht := val_lt t
  have e : iblk m c 2 t (ix3 w ⟨64 * g.val + d.val, by omega⟩ l) = V m c main_v8 (ix3 ⟨64 * (t.val / 8) + w.val, by omega⟩ ⟨64 * g.val + d.val, by omega⟩ l) := by
    blk_ext [iblk, idx2 t]
  rw [e, src2]
  unfold W bat
  congr 2 <;> (refine Fin.ext ?_; dsimp only; omega)

theorem in3 (n : Fin 256) (g e : Fin 2) (d : Fin 64) :
    iblk m c 3 t (ix2 n ⟨128 * g.val + (64 * e.val + d.val), by omega⟩) = Kc m c (bat t) n g d := by
  have ht := val_lt t
  have e : iblk m c 3 t (ix2 n ⟨128 * g.val + (64 * e.val + d.val), by omega⟩) = V m c main_v12 (ix2 ⟨256 * (t.val / 8) + n.val, by omega⟩ ⟨128 * g.val + (64 * e.val + d.val), by omega⟩) := by
    blk_ext [iblk, idx3 t]
  rw [e, src3]
  unfold Kc bat
  congr 2 <;> (refine Fin.ext ?_; dsimp only; omega)

theorem in4 (w : Fin 2) (g : Fin 2) (d : Fin 64) (l : Fin 128) :
    iblk m c 4 t (ix3 w ⟨64 * g.val + d.val, by omega⟩ l) = Wc m c (bat t) ⟨128 * w.val + l.val, by omega⟩ g d := by
  have ht := val_lt t
  have e : iblk m c 4 t (ix3 w ⟨64 * g.val + d.val, by omega⟩ l) = V m c main_v15 (ix3 ⟨2 * (t.val / 8) + w.val, by omega⟩ ⟨64 * g.val + d.val, by omega⟩ l) := by
    blk_ext [iblk, idx4 t]
  rw [e, src4]
  unfold Wc bat
  congr 2 <;> (refine Fin.ext ?_; dsimp only; omega)

theorem in5 (n : Fin 3) (k : Fin 384) (l : Fin 128) :
    (iblk m c 5 t : S3x384x128.Idx → EReal) (ix3 n k l) = if k.val ≤ 128 * n.val + l.val + 128 ∧ 128 * n.val + l.val ≤ k.val + 128 then (0 : EReal) else (1 : EReal) := by
  rw [← src5 m c]
  blk_ext [iblk, idx5 t]

theorem in6 (n : Fin 2) (k : Fin 8) (l : Fin 512) :
    iblk m c 6 t (ix3 n k l) = Sk m c ⟨n.val * 4 + l.val / 128, by omega⟩ := by
  unfold Sk
  rw [← src6 m c n k l]
  blk_ext [iblk, idx6 t]

end

end Cert.Swa
-- ==== Proof.SwaLoad.lean ====
module

public import proofs.«01_k».proof.Proof.SwaBlock
public import proofs.«01_k».proof.Proof.SwaSrc

@[expose] public section

set_option maxRecDepth 16384

noncomputable section

/-! What a grid point's tiles load, and the tiles' values. -/

namespace Cert.Swa

open Cert.KernelIdeal Cert.KernelIdeal.Gen Idealize.ShloMosaic Idealize.ShloMosaic.TcCoe

/-- The first block of 128 keys of the window of a grid point's block `u`. -/
def win (t : Fin cfg0.N) (u : Fin 8) : ℕ := min 61 (8 * (t.val % 8) + u.val - 1)

/-- The row of the band array. -/
def row3 (t : Fin cfg0.N) (u : Fin 8) : ℕ := 8 * (t.val % 8) + u.val - win t u

theorem win_le (t : Fin cfg0.N) (u : Fin 8) : win t u ≤ 61 := Nat.min_le_left _ _

theorem row3_le (t : Fin cfg0.N) (u : Fin 8) : row3 t u ≤ 2 := by
  unfold row3 win; omega

theorem off1 : ∀ (t : Fin cfg0.N) (u : Fin 8), k0_off1 (grid0.coords t) (BitVec.ofNat 32 u.val) = ![128 * win t u, 0] := by decide +kernel
theorem off2 : ∀ (t : Fin cfg0.N) (u : Fin 8), k0_off2 (grid0.coords t) (BitVec.ofNat 32 u.val) = ![row3 t u, 0, 0] := by decide +kernel
theorem off3 : ∀ (t : Fin cfg0.N) (u : Fin 8) (j : Fin 3), k0_off3 (grid0.coords t) (BitVec.ofNat 32 u.val) (BitVec.ofNat 32 j.val) = ![win t u + j.val, 0, 0] := by
  decide +kernel
theorem off4 : ∀ (t : Fin cfg0.N) (u : Fin 8) (j : Fin 3), k0_off4 (grid0.coords t) (BitVec.ofNat 32 u.val) (BitVec.ofNat 32 j.val) = ![win t u + j.val, 64, 0] := by
  decide +kernel

section

variable (x0 : Vec Ideal S1024x512 .bf16) (x1 : Vec Ideal S8192x256 .bf16) (x2 : Vec Ideal S64x128x128 .bf16)
  (x3 : Vec Ideal S256x256 .bf16) (x4 : Vec Ideal S2x128x128 .bf16) (x5 : Vec Ideal S3x384x128 .f32) (x6 : Vec Ideal S2x8x512 .f32)
  (t : Fin cfg0.N) (u : Fin 8)

theorem scale_value : Named.named (F := Ideal) κ "qscale" (φ := .f32) 0x3E38AA3B#32 = (((Real.log 256)⁻¹ : ℝ) : EReal) :=
  IdealRules.named_const.ideal_named_scalar _ _ _ _ rfl

theorem log2e_value : Named.named (F := Ideal) κ "log2e" (φ := .f32) 0x3FB8AA3B#32 = (((Real.log 2)⁻¹ : ℝ) : EReal) :=
  IdealRules.named_const.ideal_named_scalar _ _ _ _ rfl

theorem qBlock_apply (p : Fin 128) (l : Fin 512) : qBlock x0 u (ix2 p l) = x0 (ix2 ⟨128 * u.val + p.val, by omega⟩ l) * (((Real.log 256)⁻¹ : ℝ) : EReal) := by
  unfold qBlock
  pointwise [k0_pay7]
  rw [scale_value]

theorem kWin_apply (n : Fin 384) (l : Fin 256) : kWin (grid0.coords t) x1 u (ix2 n l) = x1 (ix2 ⟨128 * win t u + n.val, by have := win_le t u; omega⟩ l) := by
  unfold kWin
  generalize k0_off1_inb (grid0.coords t) u = h
  revert h
  rw [off1]
  intro h
  pointwise [k0_pay9]

theorem bandCast (x : Vec Ideal S1x384x128 .f32) (n : Fin 384) (p : Fin 128) :
    shapeCast S384x128 x shapeCasts_S1x384x128_S384x128 (ix2 n p) = x (ix3 0 n p) := by
  pointwise

theorem bandOf_apply (n : Fin 384) (p : Fin 128) : bandOf (grid0.coords t) x5 u (ix2 n p) = x5 (ix3 ⟨row3 t u, by have := row3_le t u; omega⟩ n p) := by
  unfold bandOf
  rw [bandCast]
  refine View.ld_unit_apply_of _ _ _ _ _ _ ?_
  intro a
  refine Eq.trans ?_ (congrArg (fun z => z + _) (congrFun (off2 t u) a).symm)
  fin_cases a
  · rfl
  · exact (Nat.zero_add _).symm
  · exact (Nat.zero_add _).symm

theorem valCast (x : Vec Ideal S1x64x128 .bf16) (d : Fin 64) (l : Fin 128) :
    shapeCast S64x128 x shapeCasts_S1x64x128_S64x128 (ix2 d l) = x (ix3 0 d l) := by
  pointwise

theorem ld_values (off : Fin 3 → ℕ) (inb : ∀ a, off a + S1x64x128.size a ≤ S64x128x128.size a) (a b : ℕ) (ha : a < 64) (hb : b + 64 ≤ 128)
    (e : off = ![a, b, 0]) (d : Fin 64) (l : Fin 128) :
    shapeCast S64x128 (View.ld x2 (Rect.unit (s := S64x128x128) off S1x64x128.size inb)) shapeCasts_S1x64x128_S64x128 (ix2 d l)
      = x2 (ix3 ⟨a, ha⟩ ⟨b + d.val, by omega⟩ l) := by
  rw [valCast]
  refine View.ld_unit_apply_of _ _ _ _ _ _ ?_
  intro i
  refine Eq.trans ?_ (congrArg (fun z => z + _) (congrFun e i).symm)
  fin_cases i
  · rfl
  · rfl
  · exact (Nat.zero_add _).symm

theorem v3_apply (j : Fin 3) (d : Fin 64) (l : Fin 128) :
    shapeCast S64x128 (View.ld x2 (Rect.unit (s := S64x128x128) (k0_off3 (grid0.coords t) (BitVec.ofNat 32 u.val) (BitVec.ofNat 32 j.val)) S1x64x128.size (k0_off3_inb (grid0.coords t) u j))) shapeCasts_S1x64x128_S64x128 (ix2 d l)
      = x2 (ix3 ⟨win t u + j.val, by have := win_le t u; omega⟩ ⟨64 * (0 : Fin 2).val + d.val, by simp; omega⟩ l) :=
  ld_values x2 _ _ _ (64 * (0 : Fin 2).val) _ (by decide) (off3 t u j) d l

theorem v4_apply (j : Fin 3) (d : Fin 64) (l : Fin 128) :
    shapeCast S64x128 (View.ld x2 (Rect.unit (s := S64x128x128) (k0_off4 (grid0.coords t) (BitVec.ofNat 32 u.val) (BitVec.ofNat 32 j.val)) S1x64x128.size (k0_off4_inb (grid0.coords t) u j))) shapeCasts_S1x64x128_S64x128 (ix2 d l)
      = x2 (ix3 ⟨win t u + j.val, by have := win_le t u; omega⟩ ⟨64 * (1 : Fin 2).val + d.val, by simp; omega⟩ l) :=
  ld_values x2 _ _ _ (64 * (1 : Fin 2).val) _ (by decide) (off4 t u j) d l

theorem c0_apply (d : Fin 64) (l : Fin 128) :
    shapeCast S64x128 (View.ld x4 (Rect.unit (s := S2x128x128) ![0, 0, 0] S1x64x128.size inb_S2x128x128_S1x64x128_0_0_0)) shapeCasts_S1x64x128_S64x128 (ix2 d l)
      = x4 (ix3 0 ⟨64 * (0 : Fin 2).val + d.val, by simp; omega⟩ l) := by
  pointwise

theorem c1_apply (d : Fin 64) (l : Fin 128) :
    shapeCast S64x128 (View.ld x4 (Rect.unit (s := S2x128x128) ![1, 0, 0] S1x64x128.size inb_S2x128x128_S1x64x128_1_0_0)) shapeCasts_S1x64x128_S64x128 (ix2 d l)
      = x4 (ix3 1 ⟨64 * (0 : Fin 2).val + d.val, by simp; omega⟩ l) := by
  pointwise

theorem c2_apply (d : Fin 64) (l : Fin 128) :
    shapeCast S64x128 (View.ld x4 (Rect.unit (s := S2x128x128) ![0, 64, 0] S1x64x128.size inb_S2x128x128_S1x64x128_0_64_0)) shapeCasts_S1x64x128_S64x128 (ix2 d l)
      = x4 (ix3 0 ⟨64 * (1 : Fin 2).val + d.val, by simp; omega⟩ l) := by
  pointwise

theorem c3_apply (d : Fin 64) (l : Fin 128) :
    shapeCast S64x128 (View.ld x4 (Rect.unit (s := S2x128x128) ![1, 64, 0] S1x64x128.size inb_S2x128x128_S1x64x128_1_64_0)) shapeCasts_S1x64x128_S64x128 (ix2 d l)
      = x4 (ix3 1 ⟨64 * (1 : Fin 2).val + d.val, by simp; omega⟩ l) := by
  pointwise

theorem k0_apply (n : Fin 256) (l : Fin 128) :
    shapeCast S256x128 (View.ld x3 (Rect.unit (s := S256x256) ![0, 0] S256x128.size inb_S256x256_S256x128_0_0)) shapeCasts_S256x128_S256x128 (ix2 n l)
      = x3 (ix2 n ⟨128 * (0 : Fin 2).val + l.val, by simp; omega⟩) := by
  pointwise

theorem k1_apply (n : Fin 256) (l : Fin 128) :
    shapeCast S256x128 (View.ld x3 (Rect.unit (s := S256x256) ![0, 128] S256x128.size inb_S256x256_S256x128_0_128)) shapeCasts_S256x128_S256x128 (ix2 n l)
      = x3 (ix2 n ⟨128 * (1 : Fin 2).val + l.val, by simp; omega⟩) := by
  pointwise

theorem s0_apply (l : Fin 512) :
    extractStridedSlice S1x512 ![0, 0] (shapeCast S8x512 (extractStridedSlice S1x8x512 ![0, 0, 0]
      (k0_pay8 (View.ld x6 (Rect.unit (s := S2x8x512) ![0, 0, 0] S2x8x512.size inb_S2x8x512_S2x8x512_0_0_0)))
      slices_S2x8x512_o0_0_0_S1x8x512) shapeCasts_S1x8x512_S8x512) slices_S8x512_o0_0_S1x512 (ix2 0 l) = x6 (ix3 0 0 l) * (((Real.log 2)⁻¹ : ℝ) : EReal) := by
  pointwise [k0_pay8]
  rw [log2e_value]

theorem s1_apply (l : Fin 512) :
    extractStridedSlice S1x512 ![0, 0] (shapeCast S8x512 (extractStridedSlice S1x8x512 ![1, 0, 0]
      (k0_pay8 (View.ld x6 (Rect.unit (s := S2x8x512) ![0, 0, 0] S2x8x512.size inb_S2x8x512_S2x8x512_0_0_0)))
      slices_S2x8x512_o1_0_0_S1x8x512) shapeCasts_S1x8x512_S8x512) slices_S8x512_o0_0_S1x512 (ix2 0 l) = x6 (ix3 1 0 l) * (((Real.log 2)⁻¹ : ℝ) : EReal) := by
  pointwise [k0_pay8]
  rw [log2e_value]

end

end Cert.Swa
-- ==== Proof.SwaTiles.lean ====
module

public import proofs.«01_k».proof.Proof.SwaLoad

@[expose] public section

set_option maxRecDepth 16384

noncomputable section

/-! The tiles of a grid point are the attention. -/

namespace Cert.Swa

open Cert.KernelIdeal Cert.KernelIdeal.Gen Idealize.ShloMosaic Idealize.ShloMosaic.TcCoe

/-- Head `r` of group `g`. -/
def head (g : Fin 2) (r : Fin 4) : Fin 8 := ⟨4 * g.val + r.val, by omega⟩

/-- Token `p` of block `u` of a grid point. -/
def token (t : Fin cfg0.N) (u : Fin 8) (p : Fin 128) : Fin 8192 := ⟨1024 * (t.val % 8) + (128 * u.val + p.val), by omega⟩

variable (m : (ℓ : Loc nD τ sig) → Buf (Elt Ideal) ℓ) (c : Dev nD) (t : Fin cfg0.N)

variable (hQ : ∀ b s h d, ((Q m c b s h d).toReal : EReal) = Q m c b s h d) (hK : ∀ b s g d, ((K m c b s g d).toReal : EReal) = K m c b s g d)
  (hKc : ∀ b s g d, ((Kc m c b s g d).toReal : EReal) = Kc m c b s g d) (hSk : ∀ h, ((Sk m c h).toReal : EReal) = Sk m c h)

include hQ hK hKc hSk

omit hQ hK hKc hSk in
theorem band_pos (u : Fin 8) (n : Fin 384) (p : Fin 128) :
    (0 : EReal) < (iblk m c 5 t : S3x384x128.Idx → EReal) (ix3 ⟨row3 t u, by have := row3_le t u; omega⟩ n p)
      ↔ ¬ (n.val ≤ 128 * row3 t u + p.val + 128 ∧ 128 * row3 t u + p.val ≤ n.val + 128) := by
  rw [in5]
  by_cases h : n.val ≤ 128 * row3 t u + p.val + 128 ∧ 128 * row3 t u + p.val ≤ n.val + 128
  · rw [if_pos h]; simp [h]
  · rw [if_neg h]; simp only [h, not_false_iff, iff_true]; exact zero_lt_one

omit hK hKc hSk in
/-- The scaled queries of a pair of heads. -/
theorem qSlice (g e' : Fin 2) (u : Fin 8) (p : Fin 128) (e : Fin 2) (d : Fin 64) (x : EReal) (r : Fin 4) (hr : r.val = 2 * e'.val + e.val)
    (hx : x = qBlock (iblk m c 0 t) u (ix2 p ⟨256 * g.val + 128 * e'.val + (lane e d).val, by omega⟩)) :
    x = ((Q m c (bat t) (token t u p) (head g r) d).toReal : EReal) * (((Real.log 256)⁻¹ : ℝ) : EReal) := by
  rw [hQ, hx, qBlock_apply]
  refine congrArg (fun z => z * _) (Eq.trans ?_ (in0 m c t ⟨128 * u.val + p.val, by omega⟩ (head g r) d))
  exact congrArg (fun z => iblk m c 0 t (ix2 ⟨128 * u.val + p.val, by omega⟩ z)) (Fin.ext (by simp only [lane, feat, head]; omega))

omit hQ hK hKc hSk in
/-- The row over a block's window is the attention over the keys near the token. -/
theorem row_att (g : Fin 2) (u : Fin 8) (r : Fin 4) (p : Fin 128) (d : Fin 64) :
    row (fun n => if ¬ (n.val ≤ 128 * row3 t u + p.val + 128 ∧ 128 * row3 t u + p.val ≤ n.val + 128) then 0 else
        Real.exp ((∑ e, (Q m c (bat t) (token t u p) (head g r) e).toReal * (K m c (bat t) ⟨128 * win t u + n.val, by have := win_le t u; omega⟩ g e).toReal) / 8))
      (fun n => Real.exp ((∑ e, (Q m c (bat t) (token t u p) (head g r) e).toReal * (Kc m c (bat t) n g e).toReal) / 8))
      (Real.exp (Sk m c (head g r)).toReal) (fun n => W m c (bat t) ⟨128 * win t u + n.val, by have := win_le t u; omega⟩ g d) (fun n => Wc m c (bat t) n g d)
      = att (Q m c) (K m c) (W m c) (Kc m c) (Wc m c) (Sk m c) (bat t) (token t u p) (head g r) d := by
  have hw := win_le t u
  have hr := row3_le t u
  have e3 : row3 t u + win t u = 8 * (t.val % 8) + u.val := by unfold row3 win; omega
  have e4 : win t u = 61 ∧ 62 ≤ 8 * (t.val % 8) + u.val ∨ win t u + 1 = 8 * (t.val % 8) + u.val ∨ win t u = 0 ∧ 8 * (t.val % 8) + u.val = 0 := by unfold win; omega
  unfold att
  rw [show grp (head g r) = g from Fin.ext (by simp only [grp, head]; omega)]
  have htk : (token t u p).val = 128 * (8 * (t.val % 8) + u.val) + p.val := by simp only [token]; omega
  refine row_attend (128 * win t u : ℕ) (token t u p) (by omega) (by omega) _ _ _ _ _ _ _ ?_ ?_
  · intro i s hs hn
    unfold near at hn
    rw [if_neg (by rw [not_not]; omega)]
    have es : s = ⟨128 * win t u + i.val, by omega⟩ := Fin.ext (by push_cast at hs; show s.val = 128 * win t u + i.val; omega)
    rw [es]
    exact ⟨rfl, rfl⟩
  · intro i hi
    have hn := hi ⟨128 * win t u + i.val, by omega⟩ (by push_cast; rfl)
    unfold near at hn
    dsimp only at hn
    rw [if_pos (by omega)]

theorem tile0_att (u : Fin 8) (d : Fin 64) (r : Fin 4) (p : Fin 128) :
    tile0 (grid0.coords t) (iblk m c 0 t) (iblk m c 1 t) (iblk m c 2 t) (iblk m c 3 t) (iblk m c 4 t) (iblk m c 5 t) (iblk m c 6 t) u (ix2 d (col r p))
      = att (Q m c) (K m c) (W m c) (Kc m c) (Wc m c) (Sk m c) (bat t) (token t u p) (head 0 r) d := by
  have hw := win_le t u
  have hr := row3_le t u
  unfold tile0
  rw [tile_row _ _ _ _ _ _ _ _ _ _ _ (fun r p d => (Q m c (bat t) (token t u p) (head 0 r) d).toReal)
    (fun n d => (K m c (bat t) ⟨128 * win t u + n.val, by omega⟩ 0 d).toReal) (fun n d => (Kc m c (bat t) n 0 d).toReal)
    (fun r => (Sk m c (head 0 r)).toReal) (fun n p => ¬ (n.val ≤ 128 * row3 t u + p.val + 128 ∧ 128 * row3 t u + p.val ≤ n.val + 128))
    (fun d n => W m c (bat t) ⟨128 * win t u + n.val, by omega⟩ 0 d) (fun d n => Wc m c (bat t) n 0 d)
    (fun p e d => ?_) (fun p e d => ?_) (fun n e d => ?_) (fun n e d => ?_) (fun n p => ?_) (fun r p => ?_) (fun d i => ?_) (fun d i => ?_) (fun d i => ?_) (fun d i => ?_) (fun d i => ?_)]
  · exact row_att m c t 0 u r p d
  · refine qSlice m c t hQ 0 0 u p e d _ _ (by simp) ?_
    pointwise
  · refine qSlice m c t hQ 0 1 u p e d _ _ rfl ?_
    pointwise
  · refine (?_ : _ = kWin (grid0.coords t) (iblk m c 1 t) u (ix2 n ⟨128 * (0 : Fin 2).val + (lane e d).val, by simp; omega⟩)).trans ?_
    · pointwise
    · rw [hK, kWin_apply]
      exact in1 m c t ⟨128 * win t u + n.val, by omega⟩ 0 e d
  · rw [hKc, k0_apply]
    exact in3 m c t n 0 e d
  · rw [bandOf_apply]
    exact band_pos m c t u n p
  · rw [s0_apply, in6, EReal.coe_mul, hSk]
    exact congrArg (fun z => Sk m c z * _) (Fin.ext (by simp only [head, col]; omega))
  · refine (v3_apply (iblk m c 2 t) t u 0 d i).trans ((in2 m c t ⟨win t u + (0 : Fin 3).val, by simp; omega⟩ 0 d i).trans ?_)
    exact congrArg (fun z => W m c (bat t) z 0 d) (Fin.ext (by simp; try omega))
  · refine (v3_apply (iblk m c 2 t) t u 1 d i).trans ((in2 m c t ⟨win t u + (1 : Fin 3).val, by simp; omega⟩ 0 d i).trans ?_)
    exact congrArg (fun z => W m c (bat t) z 0 d) (Fin.ext (by simp; try omega))
  · refine (v3_apply (iblk m c 2 t) t u 2 d i).trans ((in2 m c t ⟨win t u + (2 : Fin 3).val, by simp; omega⟩ 0 d i).trans ?_)
    exact congrArg (fun z => W m c (bat t) z 0 d) (Fin.ext (by simp; try omega))
  · refine (c0_apply (iblk m c 4 t) d i).trans ((in4 m c t 0 0 d i).trans ?_)
    exact congrArg (fun z => Wc m c (bat t) z 0 d) (Fin.ext (by simp; try omega))
  · refine (c1_apply (iblk m c 4 t) d i).trans ((in4 m c t 1 0 d i).trans ?_)
    exact congrArg (fun z => Wc m c (bat t) z 0 d) (Fin.ext (by simp; try omega))

theorem tile1_att (u : Fin 8) (d : Fin 64) (r : Fin 4) (p : Fin 128) :
    tile1 (grid0.coords t) (iblk m c 0 t) (iblk m c 1 t) (iblk m c 2 t) (iblk m c 3 t) (iblk m c 4 t) (iblk m c 5 t) (iblk m c 6 t) u (ix2 d (col r p))
      = att (Q m c) (K m c) (W m c) (Kc m c) (Wc m c) (Sk m c) (bat t) (token t u p) (head 1 r) d := by
  have hw := win_le t u
  have hr := row3_le t u
  unfold tile1
  rw [tile_row _ _ _ _ _ _ _ _ _ _ _ (fun r p d => (Q m c (bat t) (token t u p) (head 1 r) d).toReal)
    (fun n d => (K m c (bat t) ⟨128 * win t u + n.val, by omega⟩ 1 d).toReal) (fun n d => (Kc m c (bat t) n 1 d).toReal)
    (fun r => (Sk m c (head 1 r)).toReal) (fun n p => ¬ (n.val ≤ 128 * row3 t u + p.val + 128 ∧ 128 * row3 t u + p.val ≤ n.val + 128))
    (fun d n => W m c (bat t) ⟨128 * win t u + n.val, by omega⟩ 1 d) (fun d n => Wc m c (bat t) n 1 d)
    (fun p e d => ?_) (fun p e d => ?_) (fun n e d => ?_) (fun n e d => ?_) (fun n p => ?_) (fun r p => ?_) (fun d i => ?_) (fun d i => ?_) (fun d i => ?_) (fun d i => ?_) (fun d i => ?_)]
  · exact row_att m c t 1 u r p d
  · refine qSlice m c t hQ 1 0 u p e d _ _ (by simp) ?_
    pointwise
  · refine qSlice m c t hQ 1 1 u p e d _ _ rfl ?_
    pointwise
  · refine (?_ : _ = kWin (grid0.coords t) (iblk m c 1 t) u (ix2 n ⟨128 * (1 : Fin 2).val + (lane e d).val, by simp; omega⟩)).trans ?_
    · pointwise
    · rw [hK, kWin_apply]
      exact in1 m c t ⟨128 * win t u + n.val, by omega⟩ 1 e d
  · rw [hKc, k1_apply]
    exact in3 m c t n 1 e d
  · rw [bandOf_apply]
    exact band_pos m c t u n p
  · rw [s1_apply, in6, EReal.coe_mul, hSk]
    exact congrArg (fun z => Sk m c z * _) (Fin.ext (by simp only [head, col]; omega))
  · refine (v4_apply (iblk m c 2 t) t u 0 d i).trans ((in2 m c t ⟨win t u + (0 : Fin 3).val, by simp; omega⟩ 1 d i).trans ?_)
    exact congrArg (fun z => W m c (bat t) z 1 d) (Fin.ext (by simp; try omega))
  · refine (v4_apply (iblk m c 2 t) t u 1 d i).trans ((in2 m c t ⟨win t u + (1 : Fin 3).val, by simp; omega⟩ 1 d i).trans ?_)
    exact congrArg (fun z => W m c (bat t) z 1 d) (Fin.ext (by simp; try omega))
  · refine (v4_apply (iblk m c 2 t) t u 2 d i).trans ((in2 m c t ⟨win t u + (2 : Fin 3).val, by simp; omega⟩ 1 d i).trans ?_)
    exact congrArg (fun z => W m c (bat t) z 1 d) (Fin.ext (by simp; try omega))
  · refine (c2_apply (iblk m c 4 t) d i).trans ((in4 m c t 0 1 d i).trans ?_)
    exact congrArg (fun z => Wc m c (bat t) z 1 d) (Fin.ext (by simp; try omega))
  · refine (c3_apply (iblk m c 4 t) d i).trans ((in4 m c t 1 1 d i).trans ?_)
    exact congrArg (fun z => Wc m c (bat t) z 1 d) (Fin.ext (by simp; try omega))

end Cert.Swa
-- ==== Proof.SwaKernel.lean ====
module

public import proofs.«01_k».proof.Proof.SwaTiles

@[expose] public section

set_option maxRecDepth 16384

noncomputable section

/-! The windowed attention's final array. -/

namespace Cert.Swa

open Cert.KernelIdeal Cert.KernelIdeal.Gen Idealize.ShloMosaic Idealize.ShloMosaic.TcCoe

theorem headOf_apply (T : FVec Ideal S64x512 .f32) (r : Fin 4) (d : Fin 64) (p : Fin 128) : headOf T r (ix2 d p) = T (ix2 d (col r p)) := by
  unfold headOf col
  fin_cases r <;> pointwise

theorem mem_stores (i : grid0.Coords) (x0 : Vec Ideal S1024x512 .bf16) (x1 : Vec Ideal S8192x256 .bf16) (x2 : Vec Ideal S64x128x128 .bf16)
    (x3 : Vec Ideal S256x256 .bf16) (x4 : Vec Ideal S2x128x128 .bf16) (x5 : Vec Ideal S3x384x128 .f32) (x6 : Vec Ideal S2x8x512 .f32)
    (pc : View.Piece (Elt Ideal) S512x1024 .bf16)
    (h : pc ∈ (stores i x0 x1 x2 x3 x4 x5 x6 7 ++ stores i x0 x1 x2 x3 x4 x5 x6 6 ++ stores i x0 x1 x2 x3 x4 x5 x6 5 ++ stores i x0 x1 x2 x3 x4 x5 x6 4)
        ++ (stores i x0 x1 x2 x3 x4 x5 x6 3 ++ stores i x0 x1 x2 x3 x4 x5 x6 2 ++ stores i x0 x1 x2 x3 x4 x5 x6 1 ++ stores i x0 x1 x2 x3 x4 x5 x6 0)) :
    ∃ u k : Fin 8, pc = ⟨storeRect u k, storeVal i x0 x1 x2 x3 x4 x5 x6 u k⟩ := by
  have key : ∀ u : Fin 8, pc ∈ stores i x0 x1 x2 x3 x4 x5 x6 u → ∃ u k : Fin 8, pc = ⟨storeRect u k, storeVal i x0 x1 x2 x3 x4 x5 x6 u k⟩ := by
    intro u hu
    unfold stores at hu
    obtain ⟨k, hk⟩ := (List.mem_ofFn' _ _).mp hu
    exact ⟨u, k, hk.symm⟩
  simp only [List.mem_append] at h
  rcases h with ((((h | h) | h) | h) | (((h | h) | h) | h)) <;> exact key _ h

variable (m : (ℓ : Loc nD τ sig) → Buf (Elt Ideal) ℓ) (c : Dev nD) (t : Fin cfg0.N)

/-- The attention as the array the kernel writes: features by tokens. -/
def result : S512x32768.Idx → EReal := fun y =>
  att (Q m c) (K m c) (W m c) (Kc m c) (Wc m c) (Sk m c) ⟨(y 1).val / 8192, Nat.div_lt_of_lt_mul (y 1).isLt⟩ ⟨(y 1).val % 8192, Nat.mod_lt _ (by decide)⟩
    ⟨(y 0).val / 64, Nat.div_lt_of_lt_mul (y 0).isLt⟩ ⟨(y 0).val % 64, Nat.mod_lt _ (by decide)⟩

variable (hQ : ∀ b s h d, ((Q m c b s h d).toReal : EReal) = Q m c b s h d) (hK : ∀ b s g d, ((K m c b s g d).toReal : EReal) = K m c b s g d)
  (hKc : ∀ b s g d, ((Kc m c b s g d).toReal : EReal) = Kc m c b s g d) (hSk : ∀ h, ((Sk m c h).toReal : EReal) = Sk m c h)

include hQ hK hKc hSk

theorem storeVal_apply (u k : Fin 8) (d : Fin 64) (p : Fin 128) :
    storeVal (grid0.coords t) (iblk m c 0 t) (iblk m c 1 t) (iblk m c 2 t) (iblk m c 3 t) (iblk m c 4 t) (iblk m c 5 t) (iblk m c 6 t) u k (ix2 d p)
      = att (Q m c) (K m c) (W m c) (Kc m c) (Wc m c) (Sk m c) (bat t) (token t u p) ⟨7 - k.val, by omega⟩ d := by
  fin_cases k
  · exact (headOf_apply _ _ _ _).trans (tile1_att m c t hQ hK hKc hSk u d 3 p)
  · exact (headOf_apply _ _ _ _).trans (tile1_att m c t hQ hK hKc hSk u d 2 p)
  · exact (headOf_apply _ _ _ _).trans (tile1_att m c t hQ hK hKc hSk u d 1 p)
  · exact (headOf_apply _ _ _ _).trans (tile1_att m c t hQ hK hKc hSk u d 0 p)
  · exact (headOf_apply _ _ _ _).trans (tile0_att m c t hQ hK hKc hSk u d 3 p)
  · exact (headOf_apply _ _ _ _).trans (tile0_att m c t hQ hK hKc hSk u d 2 p)
  · exact (headOf_apply _ _ _ _).trans (tile0_att m c t hQ hK hKc hSk u d 1 p)
  · exact (headOf_apply _ _ _ _).trans (tile0_att m c t hQ hK hKc hSk u d 0 p)

theorem block_eq (f : Fin 512) (j : Fin 1024) :
    outsAt0 m c t (ix2 f j) = att (Q m c) (K m c) (W m c) (Kc m c) (Wc m c) (Sk m c) (bat t) ⟨1024 * (t.val % 8) + j.val, by omega⟩
      ⟨f.val / 64, by omega⟩ ⟨f.val % 64, by omega⟩ := by
  unfold outsAt0 out0_A_7
  rw [View.read_writes_junk_eq_canon]
  refine View.canon_eq_of_allAt _ _ _ (cover0_A_7 ..) ?_
  rw [pieces_eq]
  intro pc hp x hx
  obtain ⟨u, k, rfl⟩ := mem_stores _ _ _ _ _ _ _ _ _ hp
  obtain ⟨d, p, rfl⟩ : ∃ (d : Fin 64) (p : Fin 128), x = ix2 d p := ⟨x 0, x 1, ValueIdx.eq_ix2 x⟩
  refine (storeVal_apply m c t hQ hK hKc hSk u k d p).trans ?_
  have h0 : f.val = 64 * (7 - k.val) + 1 * d.val := (congrArg (fun y : S512x1024.Idx => (y 0).val) hx).symm
  have h1 : j.val = 128 * u.val + 1 * p.val := (congrArg (fun y : S512x1024.Idx => (y 1).val) hx).symm
  congr 1 <;> refine Fin.ext ?_
  · show 1024 * (t.val % 8) + (128 * u.val + p.val) = 1024 * (t.val % 8) + j.val
    omega
  · show 7 - k.val = f.val / 64
    omega
  · show d.val = f.val % 64
    omega

theorem final : (dats m 0 c).arrAt 7 cfg0.N = result m c := by
  refine (dats m 0 c).arrAt_eq_of_covers 7 _ (by decide +kernel) fun t hf y => ?_
  blk_simp
  rw [after0_7]
  obtain ⟨f, j, rfl⟩ : ∃ (f : Fin 512) (j : Fin 1024), y = ix2 f j := ⟨y 0, y 1, ValueIdx.eq_ix2 y⟩
  refine (block_eq m c t hQ hK hKc hSk f j).trans ?_
  have ht := val_lt t
  have e : att (Q m c) (K m c) (W m c) (Kc m c) (Wc m c) (Sk m c) (bat t) ⟨1024 * (t.val % 8) + j.val, by omega⟩ ⟨f.val / 64, by omega⟩ ⟨f.val % 64, by omega⟩
      = result m c (ix2 f ⟨1024 * t.val + j.val, by omega⟩) := by
    unfold result bat
    congr 1 <;> refine Fin.ext ?_
    · show t.val / 8 = (1024 * t.val + j.val) / 8192
      omega
    · show 1024 * (t.val % 8) + j.val = (1024 * t.val + j.val) % 8192
      omega
  rw [e]
  blk_ext [idx7 t]

end Cert.Swa
-- ==== Proof.SwaRefRead.lean ====
module

public import Idealize.ShloMosaic.Lib.Pipeline.ValueKit
public import Idealize.ShloMosaic.Lib.ValueIdxRank6
public import Idealize.ShloMosaic.Lib.KernelVsHost
public import proofs.«01_k».proof.Proof.Gen.ReferenceIdeal.Read
public import proofs.«01_k».proof.Proof.SwaMath

@[expose] public section

noncomputable section

/-! What the reference's reshapes, pads and concatenations hold, element by element. -/

namespace Cert.Swa.Ref

open Idealize.ShloMosaic Cert.ReferenceIdeal Cert.ReferenceIdeal.Gen Cert.ReferenceIdeal.Read
open scoped BigOperators

/-- An array padded by a block of zeros at either end, at padded position `s`. -/
def padded (x : S4x8192x2x64.Idx → EReal) (b : Fin 4) (g : Fin 2) (e : Fin 64) (s : ℕ) : EReal :=
  if h : 128 ≤ s ∧ s < 8320 then x (ix4 b ⟨s - 128, by omega⟩ g e) else 0

theorem v0_at (x : S4x8192x8x64.Idx → EReal) (b : Fin 4) (n : Fin 64) (ρ : Fin 128) (g : Fin 2) (r : Fin 4) (e : Fin 64) :
    val_main_v0 (F := Ideal) x (ix6 b n ρ g r e) = x (ix4 b ⟨128 * n.val + ρ.val, by omega⟩ ⟨4 * g.val + r.val, by omega⟩ e) := by
  unfold val_main_v0
  refine shapeCast_apply x _ _ _ ?_
  rw [Shape.rowMajor_val_four, Shape.rowMajor_val_six]
  show ((b.val * 8192 + (128 * n.val + ρ.val)) * 8 + (4 * g.val + r.val)) * 64 + e.val
    = ((((b.val * 64 + n.val) * 128 + ρ.val) * 2 + g.val) * 4 + r.val) * 64 + e.val
  ring

theorem v41_at (x : S8.Idx → EReal) (g : Fin 2) (r : Fin 4) (z0 z1 z4 z5 : Fin 1) :
    val_main_v41 (F := Ideal) x (ix6 z0 z1 g r z4 z5) = x (ix1 ⟨4 * g.val + r.val, by omega⟩) := by
  unfold val_main_v41
  refine shapeCast_apply x _ _ _ ?_
  rw [Shape.rowMajor_val_one, Shape.rowMajor_val_six]
  show 4 * g.val + r.val = ((((z0.val * 1 + z1.val) * 2 + g.val) * 4 + r.val) * 1 + z4.val) * 1 + z5.val
  omega

theorem zero_word : FloatOps.sitofp (F := Ideal) .f32 (0#32 : BitVec 32) = (0 : EReal) := by
  show (((0#32 : BitVec 32).toInt : ℝ) : EReal) = 0
  simp

theorem pad_at (x : S4x8192x2x64.Idx → EReal) (v : S_.Idx → EReal) (hv : v (Shape.Idx.first h_S_) = 0)
    (b : Fin 4) (s : Fin 8448) (g : Fin 2) (e : Fin 64) :
    pad S4x8448x2x64 ![0, 128, 0, 0] ![0, 128, 0, 0] ![0, 0, 0, 0] x v pads_S4x8192x2x64_S4x8448x2x64_000_1281280_000_000 h_S_ (ix4 b s g e)
      = padded x b g e s.val := by
  unfold padded
  by_cases h : 128 ≤ s.val ∧ s.val < 8320
  · rw [dif_pos h]
    refine pad_apply_of_inside _ _ _ _ _ _ _ _ _ fun a => ?_
    fin_cases a
    · show b.val = 0 + b.val * 1
      omega
    · show s.val = 128 + (s.val - 128) * 1
      omega
    · show g.val = 0 + g.val * 1
      omega
    · show e.val = 0 + e.val * 1
      omega
  · rw [dif_neg h, ← hv]
    refine pad_apply_of_not_inside _ _ _ _ _ _ _ _ (1 : Fin 4) ?_
    show ¬(128 ≤ s.val ∧ (s.val - 128) % 1 = 0 ∧ (s.val - 128) / 1 < 8192)
    omega

theorem v1_at (x : S4x8192x2x64.Idx → EReal) (b : Fin 4) (s : Fin 8448) (g : Fin 2) (e : Fin 64) :
    val_main_v1 (F := Ideal) x (ix4 b s g e) = padded x b g e s.val :=
  pad_at x _ zero_word b s g e

theorem v7_at (x : S4x8192x2x64.Idx → EReal) (b : Fin 4) (s : Fin 8448) (g : Fin 2) (e : Fin 64) :
    val_main_v7 (F := Ideal) x (ix4 b s g e) = padded x b g e s.val :=
  pad_at x _ zero_word b s g e

theorem blocks_at (y : S4x8448x2x64.Idx → EReal) (b : Fin 4) (n : Fin 66) (ρ : Fin 128) (g : Fin 2) (e : Fin 64) :
    shapeCast S4x66x128x2x64 y shapeCasts_S4x8448x2x64_S4x66x128x2x64 (ix5 b n ρ g e) = y (ix4 b ⟨128 * n.val + ρ.val, by omega⟩ g e) := by
  refine shapeCast_apply y _ _ _ ?_
  rw [Shape.rowMajor_val_four, Shape.rowMajor_val_five]
  show ((b.val * 8448 + (128 * n.val + ρ.val)) * 2 + g.val) * 64 + e.val = (((b.val * 66 + n.val) * 128 + ρ.val) * 2 + g.val) * 64 + e.val
  ring

theorem v2_at (x : S4x8192x2x64.Idx → EReal) (b : Fin 4) (n : Fin 66) (ρ : Fin 128) (g : Fin 2) (e : Fin 64) :
    val_main_v2 (F := Ideal) x (ix5 b n ρ g e) = padded x b g e (128 * n.val + ρ.val) :=
  (blocks_at (val_main_v1 (F := Ideal) x) b n ρ g e).trans (v1_at x b _ g e)

theorem v8_at (x : S4x8192x2x64.Idx → EReal) (b : Fin 4) (n : Fin 66) (ρ : Fin 128) (g : Fin 2) (e : Fin 64) :
    val_main_v8 (F := Ideal) x (ix5 b n ρ g e) = padded x b g e (128 * n.val + ρ.val) :=
  (blocks_at (val_main_v7 (F := Ideal) x) b n ρ g e).trans (v7_at x b _ g e)

/-- Three neighbouring blocks side by side. -/
theorem three_at (y0 y1 y2 : S4x64x128x2x64.Idx → EReal) (x : S4x8192x2x64.Idx → EReal) (b : Fin 4) (n : Fin 64) (g : Fin 2) (e : Fin 64)
    (h0 : ∀ ρ : Fin 128, y0 (ix5 b n ρ g e) = padded x b g e (128 * n.val + ρ.val))
    (h1 : ∀ ρ : Fin 128, y1 (ix5 b n ρ g e) = padded x b g e (128 * (n.val + 1) + ρ.val))
    (h2 : ∀ ρ : Fin 128, y2 (ix5 b n ρ g e) = padded x b g e (128 * (n.val + 2) + ρ.val)) (i : Fin 384) :
    concatenate S4x64x384x2x64 2 [⟨S4x64x128x2x64, y0⟩, ⟨S4x64x128x2x64, y1⟩, ⟨S4x64x128x2x64, y2⟩]
      concatenates_S4x64x128x2x64_S4x64x128x2x64_S4x64x128x2x64_S4x64x384x2x64_d2 (ix5 b n i g e) = padded x b g e (128 * n.val + i.val) := by
  have side (ρ : Fin 128) : ∀ a : Fin 5, a ≠ 2 →
      ((ix5 b n ρ g e : S4x64x128x2x64.Idx) a).val = ((ix5 b n i g e : S4x64x384x2x64.Idx) a).val := by
    intro a ha
    fin_cases a
    · rfl
    · rfl
    · exact absurd rfl ha
    · rfl
    · rfl
  rcases (by omega : i.val < 128 ∨ (128 ≤ i.val ∧ i.val < 256) ∨ 256 ≤ i.val) with h | h | h
  · refine (concatenate_apply_piece (t := S4x64x384x2x64) 2 [⟨S4x64x128x2x64, y0⟩, ⟨S4x64x128x2x64, y1⟩, ⟨S4x64x128x2x64, y2⟩]
      concatenates_S4x64x128x2x64_S4x64x128x2x64_S4x64x128x2x64_S4x64x384x2x64_d2 (ix5 b n i g e) 0 (by show _ < 3; omega) S4x64x128x2x64 y0 rfl rfl 0 rfl (ix5 b n ⟨i.val, h⟩ g e) (side _) ?_).trans ?_
    · show 0 + i.val = i.val
      omega
    · exact h0 _
  · refine (concatenate_apply_piece (t := S4x64x384x2x64) 2 [⟨S4x64x128x2x64, y0⟩, ⟨S4x64x128x2x64, y1⟩, ⟨S4x64x128x2x64, y2⟩]
      concatenates_S4x64x128x2x64_S4x64x128x2x64_S4x64x128x2x64_S4x64x384x2x64_d2 (ix5 b n i g e) 1 (by show _ < 3; omega) S4x64x128x2x64 y1 rfl rfl 128 rfl (ix5 b n ⟨i.val - 128, by omega⟩ g e) (side _) ?_).trans ?_
    · show 128 + (i.val - 128) = i.val
      omega
    · rw [h1]
      congr 1
      show 128 * (n.val + 1) + (i.val - 128) = _
      omega
  · refine (concatenate_apply_piece (t := S4x64x384x2x64) 2 [⟨S4x64x128x2x64, y0⟩, ⟨S4x64x128x2x64, y1⟩, ⟨S4x64x128x2x64, y2⟩]
      concatenates_S4x64x128x2x64_S4x64x128x2x64_S4x64x128x2x64_S4x64x384x2x64_d2 (ix5 b n i g e) 2 (by show _ < 3; omega) S4x64x128x2x64 y2 rfl rfl 256 rfl (ix5 b n ⟨i.val - 256, by omega⟩ g e) (side _) ?_).trans ?_
    · show 256 + (i.val - 256) = i.val
      omega
    · rw [h2]
      congr 1
      show 128 * (n.val + 2) + (i.val - 256) = _
      omega

theorem v6_at (x : S4x8192x2x64.Idx → EReal) (b : Fin 4) (n : Fin 64) (i : Fin 384) (g : Fin 2) (e : Fin 64) :
    val_main_v6 (F := Ideal) x (ix5 b n i g e) = padded x b g e (128 * n.val + i.val) := by
  refine three_at _ _ _ x b n g e (fun ρ => ?_) (fun ρ => ?_) (fun ρ => ?_) i
  · refine (val_main_v3_apply (F := Ideal) x _).trans ?_
    refine Eq.trans (congrArg _ ?_) (v2_at x b ⟨n.val, by omega⟩ ρ g e)
    funext a
    fin_cases a <;> rfl
  · refine (val_main_v4_apply (F := Ideal) x _).trans ?_
    refine Eq.trans (congrArg _ ?_) (v2_at x b ⟨n.val + 1, by omega⟩ ρ g e)
    funext a
    fin_cases a <;> first | rfl | exact Fin.ext (Nat.add_comm _ _)
  · refine (val_main_v5_apply (F := Ideal) x _).trans ?_
    refine Eq.trans (congrArg _ ?_) (v2_at x b ⟨n.val + 2, by omega⟩ ρ g e)
    funext a
    fin_cases a <;> first | rfl | exact Fin.ext (Nat.add_comm _ _)

theorem v12_at (x : S4x8192x2x64.Idx → EReal) (b : Fin 4) (n : Fin 64) (i : Fin 384) (g : Fin 2) (e : Fin 64) :
    val_main_v12 (F := Ideal) x (ix5 b n i g e) = padded x b g e (128 * n.val + i.val) := by
  refine three_at _ _ _ x b n g e (fun ρ => ?_) (fun ρ => ?_) (fun ρ => ?_) i
  · refine (val_main_v9_apply (F := Ideal) x _).trans ?_
    refine Eq.trans (congrArg _ ?_) (v8_at x b ⟨n.val, by omega⟩ ρ g e)
    funext a
    fin_cases a <;> rfl
  · refine (val_main_v10_apply (F := Ideal) x _).trans ?_
    refine Eq.trans (congrArg _ ?_) (v8_at x b ⟨n.val + 1, by omega⟩ ρ g e)
    funext a
    fin_cases a <;> first | rfl | exact Fin.ext (Nat.add_comm _ _)
  · refine (val_main_v11_apply (F := Ideal) x _).trans ?_
    refine Eq.trans (congrArg _ ?_) (v8_at x b ⟨n.val + 2, by omega⟩ ρ g e)
    funext a
    fin_cases a <;> first | rfl | exact Fin.ext (Nat.add_comm _ _)

/-- Whether query `ρ` of block `n` attends to window position `i`. -/
def ok (n : Fin 64) (ρ : Fin 128) (i : Fin 384) : Prop :=
  (i.val ≤ ρ.val + 256 ∧ ρ.val ≤ i.val) ∧ 128 ≤ 128 * n.val + i.val ∧ 128 * n.val + i.val < 8320

instance (n : Fin 64) (ρ : Fin 128) (i : Fin 384) : Decidable (ok n ρ i) := by unfold ok; infer_instance

theorem abs_le : ∀ d : Fin 768, IntOp.cmpi CmpIPredicate.sle (IntOp.absi (BitVec.ofNat 32 d.val - 383#32)) 128#32
    = if 255 ≤ d.val ∧ d.val ≤ 511 then 1#1 else 0#1 := by
  decide +kernel

theorem inside : ∀ d : Fin 8448, IntOp.cmpi CmpIPredicate.sge (BitVec.ofNat 32 d.val - 128#32) 0#32
      = (if 128 ≤ d.val then 1#1 else 0#1)
    ∧ IntOp.cmpi CmpIPredicate.slt (BitVec.ofNat 32 d.val - 128#32) 8192#32 = (if d.val < 8320 then 1#1 else 0#1) := by
  decide +kernel

theorem v30_at (n : Fin 64) (ρ : Fin 128) (i : Fin 384) :
    val_main_v30 (F := Ideal) (ix3 n ρ i) = if ok n ρ i then 1#1 else 0#1 := by
  have e1 : IntOp.subi (IntOp.subi (BitVec.ofNat 32 i.val) 128#32) (BitVec.ofNat 32 ρ.val)
      = BitVec.ofNat 32 (i.val + 255 - ρ.val) - 383#32 := by
    show BitVec.ofNat 32 i.val - 128#32 - BitVec.ofNat 32 ρ.val = _
    apply BitVec.eq_of_toNat_eq
    simp only [BitVec.toNat_sub, BitVec.toNat_ofNat]
    omega
  have e2 : IntOp.addi (IntOp.muli (BitVec.ofNat 32 n.val) 128#32) (IntOp.subi (BitVec.ofNat 32 i.val) 128#32)
      = BitVec.ofNat 32 (128 * n.val + i.val) - 128#32 := by
    show BitVec.ofNat 32 n.val * 128#32 + (BitVec.ofNat 32 i.val - 128#32) = _
    apply BitVec.eq_of_toNat_eq
    simp only [BitVec.toNat_sub, BitVec.toNat_add, BitVec.toNat_mul, BitVec.toNat_ofNat]
    omega
  have a1 := abs_le ⟨i.val + 255 - ρ.val, by omega⟩
  have a2 := (inside ⟨128 * n.val + i.val, by omega⟩).1
  have a3 := (inside ⟨128 * n.val + i.val, by omega⟩).2
  rw [val_main_v30_apply, val_main_v27_apply, val_main_v24_apply, val_main_v26_apply, val_main_v29_apply, val_main_v22_apply,
    val_main_v21_apply, val_main_v20_apply, val_main_v19_apply, val_main_v16_apply, val_main_v13_apply, val_main_v14_apply,
    val_main_v17_apply, val_main_v15_apply, val_main_v18_apply, val_main_v23_apply, val_main_v25_apply, val_main_v28_apply]
  show IntOp.andi (IntOp.andi (IntOp.cmpi .sle (IntOp.absi (IntOp.subi (IntOp.subi (BitVec.ofNat 32 i.val) 128#32) (BitVec.ofNat 32 ρ.val))) 128#32)
      (IntOp.cmpi .sge (IntOp.addi (IntOp.muli (BitVec.ofNat 32 n.val) 128#32) (IntOp.subi (BitVec.ofNat 32 i.val) 128#32)) 0#32))
      (IntOp.cmpi .slt (IntOp.addi (IntOp.muli (BitVec.ofNat 32 n.val) 128#32) (IntOp.subi (BitVec.ofNat 32 i.val) 128#32)) 8192#32) = _
  rw [e1, e2, a1, a2, a3]
  have hb : ∀ (p q r : Prop) [Decidable p] [Decidable q] [Decidable r] [Decidable ((p ∧ q) ∧ r)],
      IntOp.andi (IntOp.andi (if p then 1#1 else 0#1) (if q then 1#1 else 0#1)) (if r then 1#1 else 0#1) = if (p ∧ q) ∧ r then 1#1 else 0#1 := by
    intro p q r _ _ _ _
    by_cases hp : p <;> by_cases hq : q <;> by_cases hr : r <;> simp [hp, hq, hr, IntOp.andi]
  rw [hb]
  refine if_congr ?_ rfl rfl
  unfold ok
  show ((255 ≤ i.val + 255 - ρ.val ∧ i.val + 255 - ρ.val ≤ 511) ∧ 128 ≤ 128 * n.val + i.val) ∧ 128 * n.val + i.val < 8320 ↔ _
  omega

end Cert.Swa.Ref

end
-- ==== Proof.SwaRef.lean ====
module

public import proofs.«01_k».proof.Proof.SwaRefRead

@[expose] public section

noncomputable section

/-! The reference's result is the windowed attention of its arguments. -/

namespace Cert.Swa.Ref

open Idealize.ShloMosaic Cert.ReferenceIdeal Cert.ReferenceIdeal.Gen Cert.ReferenceIdeal.Read
open scoped BigOperators

variable (x0 : S4x8192x8x64.Idx → EReal) (x1 x2 : S4x8192x2x64.Idx → EReal) (x3 x4 : S4x256x2x64.Idx → EReal) (x5 : S8.Idx → EReal)

/-- The token at row `ρ` of block `n`. -/
def at_ (n : Fin 64) (ρ : Fin 128) : Fin 8192 := ⟨128 * n.val + ρ.val, by omega⟩
/-- Head `r` of group `g`. -/
def hd (g : Fin 2) (r : Fin 4) : Fin 8 := ⟨4 * g.val + r.val, by omega⟩

variable (b : Fin 4) (n : Fin 64) (g : Fin 2) (r : Fin 4) (ρ : Fin 128)

theorem eighth : FloatOps.ofBits (F := Ideal) .f32 0x3E000000#32 = ((1 / 8 : ℝ) : EReal) := by
  show Ideal.ofBits .f32 0x3E000000#32 = _
  simp [Ideal.ofBits, Ideal.ieee]
  rw [← EReal.coe_mul]
  norm_num

theorem v31_at (i : Fin 384) :
    val_main_v31 (F := Ideal) x0 x1 (ix6 b n g i ρ r) = ∑ e : Fin 64, padded x1 b g e (128 * n.val + i.val) * x0 (ix4 b (at_ n ρ) (hd g r) e) := by
  refine (val_main_v31_apply x0 x1 _).trans (Finset.sum_congr rfl fun e _ => ?_)
  refine congr (congrArg _ ?_) ?_
  · refine Eq.trans (congrArg _ ?_) (v6_at x1 b n i g e)
    funext a
    fin_cases a <;> rfl
  · refine Eq.trans (congrArg _ ?_) (v0_at x0 b n ρ g r e)
    funext a
    fin_cases a <;> rfl

theorem v37_at (i : Fin 256) :
    val_main_v37 (F := Ideal) x0 x3 (ix6 b g i n ρ r) = ∑ e : Fin 64, x3 (ix4 b i g e) * x0 (ix4 b (at_ n ρ) (hd g r) e) := by
  refine (val_main_v37_apply x0 x3 _).trans (Finset.sum_congr rfl fun e _ => ?_)
  refine congr (congrArg _ ?_) ?_
  · refine congrArg x3 ?_
    funext a
    fin_cases a <;> rfl
  · refine Eq.trans (congrArg _ ?_) (v0_at x0 b n ρ g r e)
    funext a
    fin_cases a <;> rfl

theorem v36_at (i : Fin 384) :
    val_main_v36 (F := Ideal) x0 x1 (ix6 b n g r ρ i) = if ok n ρ i then
      (∑ e : Fin 64, padded x1 b g e (128 * n.val + i.val) * x0 (ix4 b (at_ n ρ) (hd g r) e)) * ((1 / 8 : ℝ) : EReal) else ⊥ := by
  have e1 : val_main_call2_v1 (F := Ideal) (ix6 b n g r ρ i) = if ok n ρ i then 1#1 else 0#1 := by
    refine (val_main_call2_v1_apply (F := Ideal) _).trans ((val_main_v35_apply (F := Ideal) _).trans ?_)
    refine Eq.trans (congrArg _ ?_) (v30_at n ρ i)
    funext a
    fin_cases a <;> rfl
  have e2 : val_main_v34 (F := Ideal) x0 x1 (ix6 b n g r ρ i)
      = (∑ e : Fin 64, padded x1 b g e (128 * n.val + i.val) * x0 (ix4 b (at_ n ρ) (hd g r) e)) * ((1 / 8 : ℝ) : EReal) := by
    refine (val_main_v34_apply (F := Ideal) x0 x1 _).trans ?_
    refine congr (congrArg (fun y z : EReal => y * z) ?_) ?_
    · refine (val_main_v32_apply (F := Ideal) x0 x1 _).trans ?_
      refine Eq.trans (congrArg _ ?_) (v31_at x0 x1 b n g r ρ i)
      funext a
      fin_cases a <;> rfl
    · exact (val_main_v33_apply (F := Ideal) _).trans eighth
  have e3 : val_main_call2_v2 (F := Ideal) (ix6 b n g r ρ i) = (⊥ : EReal) :=
    (val_main_call2_v2_apply (F := Ideal) _).trans neg_inf
  refine (val_main_v36_apply (F := Ideal) x0 x1 _).trans ?_
  rw [e1, e2, e3]
  by_cases h : ok n ρ i
  · rw [if_pos h, if_pos h]; rfl
  · rw [if_neg h, if_neg h]; rfl

theorem v40_at (i : Fin 256) :
    val_main_v40 (F := Ideal) x0 x3 (ix6 b n g r ρ i)
      = (∑ e : Fin 64, x3 (ix4 b i g e) * x0 (ix4 b (at_ n ρ) (hd g r) e)) * ((1 / 8 : ℝ) : EReal) := by
  refine (val_main_v40_apply (F := Ideal) x0 x3 _).trans ?_
  refine congr (congrArg (fun y z : EReal => y * z) ?_) ?_
  · refine (val_main_v38_apply (F := Ideal) x0 x3 _).trans ?_
    refine Eq.trans (congrArg _ ?_) (v37_at x0 x3 b n g r ρ i)
    funext a
    fin_cases a <;> rfl
  · exact (val_main_v39_apply (F := Ideal) _).trans eighth

theorem v42_at (z : Fin 1) : val_main_v42 (F := Ideal) x5 (ix6 b n g r ρ z) = x5 (ix1 (hd g r)) := by
  refine (val_main_v42_apply (F := Ideal) x5 _).trans ?_
  refine Eq.trans (congrArg _ ?_) (v41_at x5 g r 0 0 0 0)
  funext a
  fin_cases a <;> rfl

/-- The logits of a query: those of its window, of the context, and the sink. -/
def X (k : Fin 641) : EReal := val_main_v43 (F := Ideal) x0 x1 x3 x5 (ix6 b n g r ρ k)

theorem side {c : ℕ} (i : Fin c) (k : Fin 641) : ∀ a : Fin 6, a ≠ 5 →
    ((ix6 b n g r ρ i : (⟨6, ![4, 64, 2, 4, 128, c]⟩ : Shape).Idx) a).val = ((ix6 b n g r ρ k : S4x64x2x4x128x641.Idx) a).val := by
  intro a ha
  fin_cases a
  · rfl
  · rfl
  · rfl
  · rfl
  · rfl
  · exact absurd rfl ha

theorem X_window (i : Fin 384) : X x0 x1 x3 x5 b n g r ρ ⟨i.val, by omega⟩ = val_main_v36 (F := Ideal) x0 x1 (ix6 b n g r ρ i) := by
  unfold X val_main_v43
  refine concatenate_apply_piece (t := S4x64x2x4x128x641) 5 _ _ _ 0 (by show _ < 3; omega) S4x64x2x4x128x384 _ rfl rfl 0 rfl
    (ix6 b n g r ρ i) (side b n g r ρ i _) ?_
  show 0 + i.val = i.val
  omega

theorem X_ctx (i : Fin 256) : X x0 x1 x3 x5 b n g r ρ ⟨384 + i.val, by omega⟩ = val_main_v40 (F := Ideal) x0 x3 (ix6 b n g r ρ i) := by
  unfold X val_main_v43
  refine concatenate_apply_piece (t := S4x64x2x4x128x641) 5 _ _ _ 1 (by show _ < 3; omega) S4x64x2x4x128x256 _ rfl rfl 384 rfl
    (ix6 b n g r ρ i) (side b n g r ρ i _) ?_
  rfl

theorem X_sink : X x0 x1 x3 x5 b n g r ρ ⟨640, by omega⟩ = x5 (ix1 (hd g r)) := by
  refine Eq.trans ?_ (v42_at x5 b n g r ρ 0)
  unfold X val_main_v43
  refine concatenate_apply_piece (t := S4x64x2x4x128x641) 5 _ _ _ 2 (by show _ < 3; omega) S4x64x2x4x128x1 _ rfl rfl 640 rfl
    (ix6 b n g r ρ 0) (side b n g r ρ 0 _) ?_
  rfl

/-- The largest logit. -/
def M : EReal := val_main_v46 (F := Ideal) x0 x1 x3 x5 (ix5 b n g r ρ)

theorem M_eq : M x0 x1 x3 x5 b n g r ρ = max ⊥ (Finset.fold max ⊥ (X x0 x1 x3 x5 b n g r ρ) Finset.univ) := by
  unfold M
  refine (val_main_v46_apply (F := Ideal) x0 x1 x3 x5 _).trans ?_
  refine congr (congrArg (fun y z : EReal => max y z) ?_) ?_
  · exact (val_main_v45_apply (F := Ideal) _).trans neg_inf
  · unfold val_main_v44
    refine (Host.reduce_eq_fold_single (FloatOps.maximumf (F := Ideal) (φ := .f32)) (val_main_v43 (F := Ideal) x0 x1 x3 x5) _
      reducesTo_S4x64x2x4x128x641_S4x64x2x4x128_d5 (by decide) h_S_ _).trans ?_
    show Finset.fold max (Ideal.ofBits .f32 4286578688#32) _ Finset.univ = _
    rw [neg_inf]
    refine congrArg (fun f => Finset.fold max (⊥ : EReal) f (Finset.univ : Finset (Fin 641))) (funext fun k => ?_)
    show val_main_v43 (F := Ideal) x0 x1 x3 x5 _ = X x0 x1 x3 x5 b n g r ρ k
    unfold X
    refine congrArg _ (funext fun a => Fin.ext ?_)
    fin_cases a <;> rfl

theorem v50_at (k : Fin 641) : val_main_v50 (F := Ideal) x0 x1 x3 x5 (ix6 b n g r ρ k)
    = Ideal.exp (X x0 x1 x3 x5 b n g r ρ k - M x0 x1 x3 x5 b n g r ρ) := by
  refine (val_main_v50_apply (F := Ideal) x0 x1 x3 x5 _).trans ?_
  refine congrArg Ideal.exp ?_
  refine (val_main_v49_apply (F := Ideal) x0 x1 x3 x5 _).trans ?_
  refine congr (congrArg (fun y z : EReal => y - z) rfl) ?_
  refine (val_main_v48_apply (F := Ideal) x0 x1 x3 x5 _).trans ((val_main_v47_apply (F := Ideal) x0 x1 x3 x5 _).trans ?_)
  unfold M
  refine congrArg _ (funext fun a => ?_)
  fin_cases a <;> rfl

/-- The sum of the weights. -/
def D : EReal := val_main_v51 (F := Ideal) x0 x1 x3 x5 (ix5 b n g r ρ)

theorem D_eq : D x0 x1 x3 x5 b n g r ρ
    = (∑ i : Fin 384, Ideal.exp (X x0 x1 x3 x5 b n g r ρ ⟨i.val, by omega⟩ - M x0 x1 x3 x5 b n g r ρ)
      + ∑ i : Fin 256, Ideal.exp (X x0 x1 x3 x5 b n g r ρ ⟨384 + i.val, by omega⟩ - M x0 x1 x3 x5 b n g r ρ))
      + Ideal.exp (X x0 x1 x3 x5 b n g r ρ ⟨640, by omega⟩ - M x0 x1 x3 x5 b n g r ρ) := by
  unfold D
  refine (val_main_v51_apply x0 x1 x3 x5 _).trans ?_
  have hz : val_main_cst_10 (F := Ideal) (Shape.Idx.first h_S_) = (0 : EReal) := by
    show Ideal.ofBits .f32 0x00000000#32 = 0
    simp [Ideal.ofBits, Ideal.ieee]
  have hs : ∀ k : Fin 641, val_main_v50 (F := Ideal) x0 x1 x3 x5 (idx_main_v51 (ix5 b n g r ρ) k)
      = Ideal.exp (X x0 x1 x3 x5 b n g r ρ k - M x0 x1 x3 x5 b n g r ρ) := by
    intro k
    refine Eq.trans (congrArg _ ?_) (v50_at x0 x1 x3 x5 b n g r ρ k)
    funext a
    fin_cases a <;> rfl
  rw [hz, zero_add]
  refine (Finset.sum_congr rfl fun k _ => hs k).trans ?_
  have h1 := Fin.sum_univ_castSucc (n := 640) fun k : Fin 641 => Ideal.exp (X x0 x1 x3 x5 b n g r ρ k - M x0 x1 x3 x5 b n g r ρ)
  have h2 := Fin.sum_univ_add (a := 384) (b := 256) fun k : Fin 640 =>
    Ideal.exp (X x0 x1 x3 x5 b n g r ρ k.castSucc - M x0 x1 x3 x5 b n g r ρ)
  rw [h1, h2]
  rfl

theorem v54_at (k : Fin 641) : val_main_v54 (F := Ideal) x0 x1 x3 x5 (ix6 b n g r ρ k)
    = Ideal.div (Ideal.exp (X x0 x1 x3 x5 b n g r ρ k - M x0 x1 x3 x5 b n g r ρ)) (D x0 x1 x3 x5 b n g r ρ) := by
  refine (val_main_v54_apply (F := Ideal) x0 x1 x3 x5 _).trans ?_
  refine congr (congrArg Ideal.div (v50_at x0 x1 x3 x5 b n g r ρ k)) ?_
  refine (val_main_v53_apply (F := Ideal) x0 x1 x3 x5 _).trans ((val_main_v52_apply (F := Ideal) x0 x1 x3 x5 _).trans ?_)
  unfold D
  refine congrArg _ (funext fun a => ?_)
  fin_cases a <;> rfl

variable (d : Fin 64)

theorem v57_at : val_main_v57 (F := Ideal) x0 x1 x2 x3 x5 (ix6 b n g d r ρ) = ∑ i : Fin 384,
    Ideal.div (Ideal.exp (X x0 x1 x3 x5 b n g r ρ ⟨i.val, by omega⟩ - M x0 x1 x3 x5 b n g r ρ)) (D x0 x1 x3 x5 b n g r ρ)
      * padded x2 b g d (128 * n.val + i.val) := by
  refine (val_main_v57_apply x0 x1 x2 x3 x5 _).trans (Finset.sum_congr rfl fun i _ => ?_)
  refine Eq.trans ?_ (mul_comm _ _)
  refine congr (congrArg _ ?_) ?_
  · refine Eq.trans (congrArg _ ?_) (v12_at x2 b n i g d)
    funext a
    fin_cases a <;> rfl
  · refine (val_main_v55_apply (F := Ideal) x0 x1 x3 x5 _).trans ?_
    refine Eq.trans (congrArg _ ?_) (v54_at x0 x1 x3 x5 b n g r ρ ⟨i.val, by omega⟩)
    funext a
    fin_cases a <;> rfl

theorem v59_at : val_main_v59 (F := Ideal) x0 x1 x3 x4 x5 (ix6 b g d n r ρ) = ∑ i : Fin 256,
    Ideal.div (Ideal.exp (X x0 x1 x3 x5 b n g r ρ ⟨384 + i.val, by omega⟩ - M x0 x1 x3 x5 b n g r ρ)) (D x0 x1 x3 x5 b n g r ρ)
      * x4 (ix4 b i g d) := by
  refine (val_main_v59_apply x0 x1 x3 x4 x5 _).trans (Finset.sum_congr rfl fun i _ => ?_)
  refine Eq.trans ?_ (mul_comm _ _)
  refine congr (congrArg _ ?_) ?_
  · refine congrArg x4 ?_
    funext a
    fin_cases a <;> rfl
  · refine (val_main_v56_apply (F := Ideal) x0 x1 x3 x5 _).trans ?_
    refine Eq.trans (congrArg _ ?_) (v54_at x0 x1 x3 x5 b n g r ρ ⟨384 + i.val, by omega⟩)
    funext a
    fin_cases a <;> rfl

theorem v61_at : val_main_v61 (F := Ideal) x0 x1 x2 x3 x4 x5 (ix6 b n ρ g r d)
    = val_main_v57 (F := Ideal) x0 x1 x2 x3 x5 (ix6 b n g d r ρ) + val_main_v59 (F := Ideal) x0 x1 x3 x4 x5 (ix6 b g d n r ρ) := by
  refine (val_main_v61_apply (F := Ideal) x0 x1 x2 x3 x4 x5 _).trans ?_
  refine congr (congrArg (fun y z : EReal => y + z) ?_) ?_
  · refine (val_main_v58_apply (F := Ideal) x0 x1 x2 x3 x5 _).trans (congrArg _ (funext fun a => ?_))
    fin_cases a <;> rfl
  · refine (val_main_v60_apply (F := Ideal) x0 x1 x3 x4 x5 _).trans (congrArg _ (funext fun a => ?_))
    fin_cases a <;> rfl

theorem v64_at : val_main_v64 (F := Ideal) x0 x1 x2 x3 x4 x5
      (ix2 (⟨(4 * g.val + r.val) * 64 + d.val, by omega⟩ : Fin 512) (⟨b.val * 8192 + (128 * n.val + ρ.val), by omega⟩ : Fin 32768))
    = val_main_v61 (F := Ideal) x0 x1 x2 x3 x4 x5 (ix6 b n ρ g r d) := by
  refine (val_main_v64_apply (F := Ideal) x0 x1 x2 x3 x4 x5 _).trans ?_
  refine (val_main_v63_apply (F := Ideal) x0 x1 x2 x3 x4 x5 _).trans ?_
  unfold val_main_v62
  refine shapeCast_apply _ _ _ _ ?_
  rw [Shape.rowMajor_val_six, Shape.rowMajor_val_two]
  show ((((b.val * 64 + n.val) * 128 + ρ.val) * 2 + g.val) * 4 + r.val) * 64 + d.val
    = (b.val * 8192 + (128 * n.val + ρ.val)) * 512 + ((4 * g.val + r.val) * 64 + d.val)
  ring

/-- A logit of real numbers is real. -/
theorem logit (k q : Fin 64 → EReal) (hk : ∀ e, ((k e).toReal : EReal) = k e) (hq : ∀ e, ((q e).toReal : EReal) = q e) :
    (∑ e, k e * q e) * ((1 / 8 : ℝ) : EReal) = (((∑ e, (q e).toReal * (k e).toReal) / 8 : ℝ) : EReal) := by
  have h : ∀ e, k e * q e = (((q e).toReal * (k e).toReal : ℝ) : EReal) := fun e => by
    rw [EReal.coe_mul, hk, hq, mul_comm]
  rw [Finset.sum_congr rfl fun e _ => h e, ← coe_sum, ← EReal.coe_mul]
  congr 1
  ring

theorem padded_real (x : S4x8192x2x64.Idx → EReal) (hx : ∀ i, ((x i).toReal : EReal) = x i) (s : ℕ) (e : Fin 64) :
    ((padded x b g e s).toReal : EReal) = padded x b g e s := by
  unfold padded
  split
  · exact hx _
  · simp

theorem padded_token (x : S4x8192x2x64.Idx → EReal) (s : Fin 8192) (e : Fin 64) : padded x b g e (128 + s.val) = x (ix4 b s g e) := by
  unfold padded
  rw [dif_pos (by omega)]
  congr 2
  exact Fin.ext (Nat.add_sub_cancel_left ..)

section
variable (h0 : ∀ i, ((x0 i).toReal : EReal) = x0 i) (h1 : ∀ i, ((x1 i).toReal : EReal) = x1 i)
  (h3 : ∀ i, ((x3 i).toReal : EReal) = x3 i) (h5 : ∀ i, ((x5 i).toReal : EReal) = x5 i)

/-- The weight of a window position. -/
def weight (i : Fin 384) : ℝ := if ok n ρ i then
  Real.exp ((∑ e, (x0 (ix4 b (at_ n ρ) (hd g r) e)).toReal * (padded x1 b g e (128 * n.val + i.val)).toReal) / 8) else 0

include h0 h1 in
theorem window_weight (i : Fin 384) : IsExp (X x0 x1 x3 x5 b n g r ρ ⟨i.val, by omega⟩) (weight x0 x1 b n g r ρ i) := by
  rw [X_window, v36_at]
  unfold weight
  by_cases h : ok n ρ i
  · rw [if_pos h, if_pos h, logit _ _ (fun e => padded_real b g x1 h1 _ e) (fun e => h0 _)]
    exact Or.inr ⟨_, rfl, rfl⟩
  · rw [if_neg h, if_neg h]
    exact Or.inl ⟨rfl, rfl⟩

include h0 h3 in
theorem ctx_weight (i : Fin 256) : IsExp (X x0 x1 x3 x5 b n g r ρ ⟨384 + i.val, by omega⟩)
    (Real.exp ((∑ e, (x0 (ix4 b (at_ n ρ) (hd g r) e)).toReal * (x3 (ix4 b i g e)).toReal) / 8)) := by
  rw [X_ctx, v40_at, logit _ _ (fun e => h3 _) (fun e => h0 _)]
  exact Or.inr ⟨_, rfl, rfl⟩

include h0 h1 h3 h5 in
theorem M_real : ∃ m : ℝ, M x0 x1 x3 x5 b n g r ρ = (m : EReal) := by
  have hX : ∀ k, X x0 x1 x3 x5 b n g r ρ k < ⊤ := by
    intro k
    rcases (by omega : k.val < 384 ∨ (384 ≤ k.val ∧ k.val < 640) ∨ k.val = 640) with h | h | h
    · exact (window_weight x0 x1 x3 x5 b n g r ρ h0 h1 ⟨k.val, h⟩).ne_top
    · have := (ctx_weight x0 x1 x3 x5 b n g r ρ h0 h3 ⟨k.val - 384, by omega⟩).ne_top
      have e : (⟨384 + (k.val - 384), by omega⟩ : Fin 641) = k := Fin.ext (by show 384 + (k.val - 384) = k.val; omega)
      exact e ▸ this
    · have e : (⟨640, by omega⟩ : Fin 641) = k := Fin.ext h.symm
      rw [← e, X_sink, ← h5]
      exact EReal.coe_lt_top _
  rw [M_eq]
  refine real_of_bounds (s := (x5 (ix1 (hd g r))).toReal) ?_ (max_lt bot_lt_top (fold_lt_top _ _ _ bot_lt_top hX))
  rw [h5, ← X_sink x0 x1 x3 x5 b n g r ρ]
  refine le_trans ?_ (le_max_right _ _)
  rw [Finset.le_fold_max]
  exact Or.inr ⟨_, Finset.mem_univ _, le_rfl⟩

include h0 h1 h3 h5 in
theorem v61_att : val_main_v61 (F := Ideal) x0 x1 x2 x3 x4 x5 (ix6 b n ρ g r d)
    = att (fun b s h e => x0 (ix4 b s h e)) (fun b s g e => x1 (ix4 b s g e)) (fun b s g e => x2 (ix4 b s g e))
        (fun b s g e => x3 (ix4 b s g e)) (fun b s g e => x4 (ix4 b s g e)) (fun h => x5 (ix1 h)) b (at_ n ρ) (hd g r) d := by
  obtain ⟨m, hm⟩ := M_real x0 x1 x3 x5 b n g r ρ h0 h1 h3 h5
  have hD := D_eq x0 x1 x3 x5 b n g r ρ
  have hg : grp (hd g r) = g := Fin.ext (by show (4 * g.val + r.val) / 4 = g.val; omega)
  rw [v61_at, v57_at, v59_at]
  rw [hm] at hD ⊢
  rw [X_sink, ← h5] at hD
  refine (reference_row (fun i => X x0 x1 x3 x5 b n g r ρ ⟨i.val, by omega⟩) (fun i => X x0 x1 x3 x5 b n g r ρ ⟨384 + i.val, by omega⟩)
    _ m _ _ (fun i => padded x2 b g d (128 * n.val + i.val)) (fun i => x4 (ix4 b i g d))
    (window_weight x0 x1 x3 x5 b n g r ρ h0 h1) (ctx_weight x0 x1 x3 x5 b n g r ρ h0 h3) _ hD).trans ?_
  unfold att
  rw [hg]
  refine row_attend (128 * (n.val : ℤ) - 128) (at_ n ρ) ?_ ?_ _ _ _ _ _ _ _ ?_ ?_
  · right
    show 128 * (n.val : ℤ) - 128 + 128 ≤ ((128 * n.val + ρ.val : ℕ) : ℤ)
    omega
  · right
    show ((128 * n.val + ρ.val : ℕ) : ℤ) + 128 < 128 * (n.val : ℤ) - 128 + 384
    omega
  · intro i s hs hn
    have hn1 : 128 * n.val + ρ.val ≤ s.val + 128 := hn.1
    have hn2 : s.val ≤ 128 * n.val + ρ.val + 128 := hn.2
    have e : 128 * n.val + i.val = 128 + s.val := by omega
    have hok : ok n ρ i := by unfold ok; omega
    unfold weight
    rw [if_pos hok, e]
    constructor <;> simp only [padded_token]
  · intro i hi
    unfold weight
    refine if_neg fun hok => ?_
    unfold ok at hok
    refine hi ⟨128 * n.val + i.val - 128, by omega⟩ ?_ ?_
    · show ((128 * n.val + i.val - 128 : ℕ) : ℤ) = _
      omega
    · show 128 * n.val + ρ.val ≤ 128 * n.val + i.val - 128 + 128 ∧ 128 * n.val + i.val - 128 ≤ 128 * n.val + ρ.val + 128
      omega

include h0 h1 h3 h5 in
/-- The reference's result at feature `f` of column `y`. -/
theorem v64_att (f : Fin 512) (y : Fin 32768) : val_main_v64 (F := Ideal) x0 x1 x2 x3 x4 x5 (ix2 f y)
    = att (fun b s h e => x0 (ix4 b s h e)) (fun b s g e => x1 (ix4 b s g e)) (fun b s g e => x2 (ix4 b s g e))
        (fun b s g e => x3 (ix4 b s g e)) (fun b s g e => x4 (ix4 b s g e)) (fun h => x5 (ix1 h))
        ⟨y.val / 8192, by omega⟩ ⟨y.val % 8192, by omega⟩ ⟨f.val / 64, by omega⟩ ⟨f.val % 64, by omega⟩ := by
  have e := v64_at x0 x1 x2 x3 x4 x5 ⟨y.val / 8192, by omega⟩ ⟨y.val % 8192 / 128, by omega⟩ ⟨f.val / 64 / 4, by omega⟩ ⟨f.val / 64 % 4, by omega⟩
    ⟨y.val % 8192 % 128, by omega⟩ ⟨f.val % 64, by omega⟩
  rw [v61_att x0 x1 x2 x3 x4 x5 _ _ _ _ _ _ h0 h1 h3 h5] at e
  refine Eq.trans (congrArg _ ?_) (e.trans ?_)
  · funext a
    fin_cases a
    · refine Fin.ext ?_
      show f.val = (4 * (f.val / 64 / 4) + f.val / 64 % 4) * 64 + f.val % 64
      omega
    · refine Fin.ext ?_
      show y.val = y.val / 8192 * 8192 + (128 * (y.val % 8192 / 128) + y.val % 8192 % 128)
      omega
  · have ea : at_ ⟨y.val % 8192 / 128, by omega⟩ ⟨y.val % 8192 % 128, by omega⟩ = (⟨y.val % 8192, by omega⟩ : Fin 8192) :=
      Fin.ext (by show 128 * (y.val % 8192 / 128) + y.val % 8192 % 128 = y.val % 8192; omega)
    have eh : hd ⟨f.val / 64 / 4, by omega⟩ ⟨f.val / 64 % 4, by omega⟩ = (⟨f.val / 64, by omega⟩ : Fin 8) :=
      Fin.ext (by show 4 * (f.val / 64 / 4) + f.val / 64 % 4 = f.val / 64; omega)
    rw [ea, eh]

end

end Cert.Swa.Ref

end
-- ==== Proof.SwaClaim.lean ====
module

public import Idealize.ShloMosaic.Lib.ReduceAll
public import proofs.«01_k».proof.Defs
public import proofs.«01_k».proof.Proof.Gen.Kernel.Frame
public import proofs.«01_k».proof.Proof.Gen.KernelIdeal.Frame
public import proofs.«01_k».proof.Proof.SwaKernel
public import proofs.«01_k».proof.Proof.SwaRef

@[expose] public section

noncomputable section

/-! The claims about the windowed attention: its own program, the program with the ideal arithmetic, and the reference. -/

namespace Cert.Swa

open Idealize.ShloMosaic Idealize.SL.Sem

theorem pre_facts : Cert.Pre_finite.Facts where
  bcast_S_S4x8192x8x64 := by decide
  reducesTo_S4x8192x8x64_S_d0_1_2_3 := by decide
  h_S_ := by decide
  bcast_S_S4x8192x2x64 := by decide
  reducesTo_S4x8192x2x64_S_d0_1_2_3 := by decide
  bcast_S_S4x256x2x64 := by decide
  reducesTo_S4x256x2x64_S_d0_1_2_3 := by decide
  bcast_S_S8 := by decide
  reducesTo_S8_S_d0 := by decide

theorem bits_inf : Ideal.ofBits .f32 0x7F800000#32 = (⊤ : EReal) := by
  simp [Ideal.ofBits, Ideal.ieee]

/-- What is below the top and above the bottom is real. -/
theorem real_of_abs (x : EReal) (h : FloatOps.cmpf (F := Ideal) (φ := .f32) .olt (FloatOps.hostAbsf (F := Ideal) (φ := .f32) x) (Ideal.ofBits .f32 0x7F800000#32) = 1#1) :
    ((x.toReal : ℝ) : EReal) = x := by
  rw [bits_inf] at h
  induction x with
  | bot => exact absurd h (by simp [FloatOps.cmpf, FloatOps.hostAbsf, Ideal.cmp])
  | top => exact absurd h (by simp [FloatOps.cmpf, FloatOps.hostAbsf, Ideal.cmp])
  | coe r => rfl

theorem real_of_all {s : Shape} {axes : List (Fin s.rank)} (x : s.Idx → EReal) (hb : Cert.Pre_finite.S_.BroadcastsInDim s (![] : Fin 0 → Fin s.rank))
    (h : s.ReducesTo axes Cert.Pre_finite.S_) (hu : 0 < Cert.Pre_finite.S_.numel) (j : Cert.Pre_finite.S_.Idx)
    (e : Host.reduce IntOp.andi (cmpf (F := Ideal) (φ := .f32) .olt (Host.absf x) (broadcastInDim s ![] hb (constant Cert.Pre_finite.S_ .f32 0x7F800000#32)))
      (constantI Cert.Pre_finite.S_ 1 1#1) h hu j = 1#1) (i : s.Idx) : (((x i).toReal : ℝ) : EReal) = x i := by
  haveI : Subsingleton Cert.Pre_finite.S_.Idx := ⟨fun a b => funext fun k => k.elim0⟩
  exact real_of_abs _ (Host.reduce_andi_all _ _ h hu j e i)

/-- The precondition says that the queries, the keys, the context's keys and the sinks are real numbers. -/
theorem pre_real (m : (ℓ : Loc Cert.KernelIdeal.nD Cert.KernelIdeal.τ Cert.KernelIdeal.sig) → Buf (Elt Ideal) ℓ)
    (h : Cert.Pre_KernelIdeal_finite (hPre_finite := pre_facts) m) (c : Dev Cert.KernelIdeal.nD) :
    (∀ i : Cert.KernelIdeal.S4x8192x8x64.Idx, (((m ((c.tc : Thread Cert.KernelIdeal.nD Cert.KernelIdeal.τ).loc Cert.KernelIdeal.main_arg0) i : EReal).toReal : ℝ) : EReal) = m ((c.tc : Thread Cert.KernelIdeal.nD Cert.KernelIdeal.τ).loc Cert.KernelIdeal.main_arg0) i)
    ∧ (∀ i : Cert.KernelIdeal.S4x8192x2x64.Idx, (((m ((c.tc : Thread Cert.KernelIdeal.nD Cert.KernelIdeal.τ).loc Cert.KernelIdeal.main_arg1) i : EReal).toReal : ℝ) : EReal) = m ((c.tc : Thread Cert.KernelIdeal.nD Cert.KernelIdeal.τ).loc Cert.KernelIdeal.main_arg1) i)
    ∧ (∀ i : Cert.KernelIdeal.S4x256x2x64.Idx, (((m ((c.tc : Thread Cert.KernelIdeal.nD Cert.KernelIdeal.τ).loc Cert.KernelIdeal.main_arg3) i : EReal).toReal : ℝ) : EReal) = m ((c.tc : Thread Cert.KernelIdeal.nD Cert.KernelIdeal.τ).loc Cert.KernelIdeal.main_arg3) i)
    ∧ (∀ i : Cert.KernelIdeal.S8.Idx, (((m ((c.tc : Thread Cert.KernelIdeal.nD Cert.KernelIdeal.τ).loc Cert.KernelIdeal.main_arg5) i : EReal).toReal : ℝ) : EReal) = m ((c.tc : Thread Cert.KernelIdeal.nD Cert.KernelIdeal.τ).loc Cert.KernelIdeal.main_arg5) i) := by
  have e := congrFun (h c) ix0
  obtain ⟨e1, e5⟩ := IntOp.andi_eq_one.1 e
  obtain ⟨e2, e3⟩ := IntOp.andi_eq_one.1 e1
  obtain ⟨e0, e1⟩ := IntOp.andi_eq_one.1 e2
  exact ⟨fun i => real_of_all _ _ _ _ _ e0 i, fun i => real_of_all _ _ _ _ _ e1 i, fun i => real_of_all _ _ _ _ _ e3 i, fun i => real_of_all _ _ _ _ _ e5 i⟩

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) := fun m ρ _ => Cert.KernelIdeal.Gen.frame m ρ

theorem frame_ideal_pre : Cert.quiescent_KernelIdeal_pre_finite (hKernelIdeal := Cert.KernelIdeal.Gen.facts) (hPre_finite := pre_facts) :=
  fun m ρ _ => Cert.KernelIdeal.Gen.frame m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite (hReferenceIdeal := Cert.ReferenceIdeal.Gen.facts) (hPre_finite := pre_facts) :=
  fun m ρ _ => frame_reference m ρ trivial

theorem preserves : Cert.preserves_Kernel_KernelIdeal :=
  ⟨IdealRules.named_const.statement Cert.KernelIdeal.κ "qscale" .f32 0x3E38AA3B#32 (((Real.log 256)⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl⟩

theorem algebraic : Cert.algebraic_KernelIdeal_ReferenceIdeal_pre_finite (hKernelIdeal := Cert.KernelIdeal.Gen.facts)
    (hReferenceIdeal := Cert.ReferenceIdeal.Gen.facts) (hPre_finite := pre_facts) := by
  intro m ρ m' ρ' hpre hagree
  refine ⟨fun c => result m c, ?_, ?_⟩
  · refine (θ_run Cert.KernelIdeal.defs _ _).mono (fun _ h c => ⟨(h c).1.trans ?_, (h c).2⟩) (Cert.KernelIdeal.Value.run_blocks (F := Ideal) m ρ)
    obtain ⟨f0, f1, f3, f5⟩ := pre_real m hpre c
    exact final m c (fun _ _ _ _ => f0 _) (fun _ _ _ _ => f1 _) (fun _ _ _ _ => f3 _) (fun _ => f5 _)
  · refine (θ_run Cert.ReferenceIdeal.defs _ _).mono (fun _ h c => ⟨(h c).1.trans ?_, (h c).2⟩) (Cert.ReferenceIdeal.Value.run (F := Ideal) m' ρ')
    obtain ⟨f0, f1, f3, f5⟩ := pre_real m hpre c
    obtain ⟨h0, h1, h2, h3, h4, h5⟩ := hagree c
    rw [Cert.ReferenceIdeal.Read.val_main_v64_eq, h0, h1, h2, h3, h4, h5]
    funext y
    rw [ValueIdx.eq_ix2 y]
    exact Ref.v64_att _ _ _ _ _ _ f0 f1 f3 f5 (y 0) (y 1)

end Cert.Swa

end
-- ==== Proof.lean ====
module

public import proofs.«01_k».proof.Defs
public import proofs.«01_k».proof.Proof.CtxLayerClaim
public import proofs.«01_k».proof.Proof.CtxProjClaim
public import proofs.«01_k».proof.Proof.LayerClaim
public import proofs.«01_k».proof.Proof.MergeClaim
public import proofs.«01_k».proof.Proof.ProjClaim
public import proofs.«01_k».proof.Proof.SwaClaim

@[expose] public section

noncomputable section

namespace Cert.Proof

theorem claim : Cert.Claim := ⟨Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel2.Gen.facts, Cert.Kernel2Ideal.Gen.facts, Cert.Reference2Ideal.Gen.facts,
  Cert.Kernel.Gen.facts, Cert.KernelIdeal.Gen.facts, Cert.ReferenceIdeal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Swa.pre_facts,
  Cert.Layer.frame_kernel, Cert.Layer.frame_ideal, Cert.Layer.frame_reference,
  Cert.Proj.frame_kernel, Cert.Proj.frame_ideal, Cert.Proj.frame_reference,
  Cert.Merge.frame_kernel, Cert.Merge.frame_ideal, Cert.Merge.frame_reference,
  Cert.Swa.frame_kernel, Cert.Swa.frame_ideal, Cert.Swa.frame_ideal_pre, Cert.Swa.frame_reference, Cert.Swa.frame_reference_pre,
  Cert.CtxProj.frame_kernel, Cert.CtxProj.frame_ideal, Cert.CtxProj.frame_reference,
  Cert.CtxLayer.frame_kernel, Cert.CtxLayer.frame_ideal, Cert.CtxLayer.frame_reference,
  Cert.Layer.preserves, Cert.Layer.algebraic, Cert.Proj.preserves, Cert.Proj.algebraic, Cert.Merge.preserves, Cert.Merge.algebraic, Cert.Swa.preserves, Cert.Swa.algebraic,
  Cert.CtxProj.preserves, Cert.CtxProj.algebraic, Cert.CtxLayer.preserves, Cert.CtxLayer.algebraic⟩

end Cert.Proof

end
